-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_items_ok : Cert.Pre_items_ok.Facts] (m : (ℓ : Loc Cert.Kernel5.nD Cert.Kernel5.τ Cert.Kernel5.sig) → Buf (Elt Bits) ℓ) : Prop :=
  ∀ c : Dev Cert.Kernel5.nD,
    (Cert.Pre_items_ok.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6)) (m ((c.tc : Thread Cert.Kernel5.nD Cert.Kernel5.τ).loc Cert.Kernel5.main_arg7)) (m ((c.tc : Thread Cert.Kernel5.nD Cert.Kernel5.τ).loc Cert.Kernel5.main_arg8))) = (fun _ => 1#1)

def Pre_Kernel5Ideal [hPre_items_ok : Cert.Pre_items_ok.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_items_ok.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal [hPre_items_ok : Cert.Pre_items_ok.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_items_ok.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def Pre_Kernel6 [hPre_slots_ok : Cert.Pre_slots_ok.Facts] (m : (ℓ : Loc Cert.Kernel6.nD Cert.Kernel6.τ Cert.Kernel6.sig) → Buf (Elt Bits) ℓ) : Prop :=
  ∀ c : Dev Cert.Kernel6.nD,
    (Cert.Pre_slots_ok.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7)) (m ((c.tc : Thread Cert.Kernel6.nD Cert.Kernel6.τ).loc Cert.Kernel6.main_arg8))) = (fun _ => 1#1)

def Pre_Kernel6Ideal [hPre_slots_ok : Cert.Pre_slots_ok.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_slots_ok.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))) = (fun _ => 1#1)

def Pre_Reference6Ideal [hPre_slots_ok : Cert.Pre_slots_ok.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_slots_ok.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_items_ok : Cert.Pre_items_ok.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] [hPre_items_ok : Cert.Pre_items_ok.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] [hPre_items_ok : Cert.Pre_items_ok.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] [hPre_slots_ok : Cert.Pre_slots_ok.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] [hPre_slots_ok : Cert.Pre_slots_ok.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] [hPre_slots_ok : Cert.Pre_slots_ok.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v26) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_items_ok : Cert.Pre_items_ok.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] [hPre_slots_ok : Cert.Pre_slots_ok.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_items_ok : Cert.Pre_items_ok.Facts) (hPre_slots_ok : Cert.Pre_slots_ok.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_items_ok := hPre_items_ok)
    ∧ quiescent_Kernel5Ideal (hKernel5Ideal := hKernel5Ideal) (hPre_items_ok := hPre_items_ok)
    ∧ quiescent_Reference5Ideal (hReference5Ideal := hReference5Ideal) (hPre_items_ok := hPre_items_ok)
    ∧ quiescent_Kernel6 (hKernel6 := hKernel6) (hPre_slots_ok := hPre_slots_ok)
    ∧ quiescent_Kernel6Ideal (hKernel6Ideal := hKernel6Ideal) (hPre_slots_ok := hPre_slots_ok)
    ∧ quiescent_Reference6Ideal (hReference6Ideal := hReference6Ideal) (hPre_slots_ok := hPre_slots_ok)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_items_ok := hPre_items_ok)
    ∧ preserves_Kernel6_Kernel6Ideal
    ∧ algebraic_Kernel6Ideal_Reference6Ideal (hKernel6Ideal := hKernel6Ideal) (hReference6Ideal := hReference6Ideal) (hPre_slots_ok := hPre_slots_ok)
-- ==== Pre_items_ok.lean ====
abbrev S255 : Shape := ⟨1, ![255]⟩
abbrev S49152 : Shape := ⟨1, ![49152]⟩
abbrev S49152x2048 : Shape := ⟨2, ![49152, 2048]⟩
abbrev S4x64x2048x768 : Shape := ⟨4, ![4, 64, 2048, 768]⟩
abbrev S4x64x384x2048 : Shape := ⟨4, ![4, 64, 384, 2048]⟩
abbrev S1x49152 : Shape := ⟨2, ![1, 49152]⟩
abbrev S_ : Shape := ⟨0, ![]⟩
abbrev S255x1 : Shape := ⟨2, ![255, 1]⟩
abbrev S255x49152 : Shape := ⟨2, ![255, 49152]⟩
abbrev S1 : Shape := ⟨1, ![1]⟩
abbrev S254 : Shape := ⟨1, ![254]⟩

class Facts : Prop where
  bcast_S49152_S1x49152_1 : S49152.BroadcastsInDim S1x49152 (![1] : Fin 1 → Fin S1x49152.rank)
  bcast_S_S255 : S_.BroadcastsInDim S255 (![] : Fin 0 → Fin S255.rank)
  bcast_S255_S255x1_0 : S255.BroadcastsInDim S255x1 (![0] : Fin 1 → Fin S255x1.rank)
  bcast_S1x49152_S255x49152_0_1 : S1x49152.BroadcastsInDim S255x49152 (![0, 1] : Fin 2 → Fin S255x49152.rank)
  bcast_S255x1_S255x49152_0_1 : S255x1.BroadcastsInDim S255x49152 (![0, 1] : Fin 2 → Fin S255x49152.rank)
  bcast_S_S255x1 : S_.BroadcastsInDim S255x1 (![] : Fin 0 → Fin S255x1.rank)
  natLt_1_32 : 1 < 32
  reducesTo_S255x49152_S49152_d0 : S255x49152.ReducesTo [0] S49152
  h_S_ : 0 < S_.numel
  bcast_S_S49152 : S_.BroadcastsInDim S49152 (![] : Fin 0 → Fin S49152.rank)
  bcast_S_S1 : S_.BroadcastsInDim S1 (![] : Fin 0 → Fin S1.rank)
  slices_S255_S254_0 : S255.Slices ![0] S254
  concatenates_S1_S254_S255_d0 : Shape.Concatenates [S1, S254] S255 0

variable [Facts]

def fn_part3 {F : FTy → Type} [FloatOps F] (main_v56 : IVec S255x49152 1) (main_v57 : IVec S255x49152 1) (main_v62 : IVec S255x49152 1) : IVec S255x49152 1 :=
  let main_v63 : IVec S255x49152 1 := ori main_v57 main_v62
  let main_v64 : IVec S255x49152 1 := andi main_v56 main_v63
  main_v64

def fn_part2 {F : FTy → Type} [FloatOps F] (main_arg0 : IVec S255 32) (main_arg1 : IVec S255 32) (main_arg5 : IVec S49152 32) (main_v23 : IVec S255x49152 1) (main_v27 : IVec S49152 1) (main_v30 : IVec S255 32) (main_v37 : IVec S255 1) (main_v39 : IVec S255 1) (main_v40 : IVec S255 32) : IVec S255x49152 1 :=
  let main_v41 : IVec S255 1 := cmpi .slt main_arg0 main_v40
  let main_v42 : IVec S255 1 := andi main_v39 main_v41
  let main_v43 : IVec S255 1 := cmpi .sle main_v30 main_arg0
  let main_v44 : IVec S255 1 := andi main_v42 main_v43
  let main_c_6 : IVec S_ 32 := constantI S_ 32 0#32
  let main_v45 : IVec S255 32 := broadcastInDim S255 ![] bcast_S_S255 main_c_6
  let main_v46 : IVec S255 1 := cmpi .sge main_arg1 main_v45
  let main_v47 : IVec S255 1 := andi main_v44 main_v46
  let main_c_7 : IVec S_ 32 := constantI S_ 32 64#32
  let main_v48 : IVec S255 32 := broadcastInDim S255 ![] bcast_S_S255 main_c_7
  let main_v49 : IVec S255 1 := cmpi .slt main_arg1 main_v48
  let main_v50 : IVec S255 1 := andi main_v47 main_v49
  let main_v51 : IVec S1x49152 1 := broadcastInDim S1x49152 ![1] bcast_S49152_S1x49152_1 main_v27
  let main_v52 : IVec S255 1 := andi main_v37 main_v50
  let main_v53 : IVec S255x1 1 := broadcastInDim S255x1 ![0] bcast_S255_S255x1_0 main_v52
  let main_v54 : IVec S255x49152 1 := broadcastInDim S255x49152 ![0, 1] bcast_S1x49152_S255x49152_0_1 main_v51
  let main_v55 : IVec S255x49152 1 := broadcastInDim S255x49152 ![0, 1] bcast_S255x1_S255x49152_0_1 main_v53
  let main_v56 : IVec S255x49152 1 := andi main_v54 main_v55
  let main_v57 : IVec S255x49152 1 := noti main_v23
  let main_v58 : IVec S255x1 32 := broadcastInDim S255x1 ![0] bcast_S255_S255x1_0 main_arg1
  let main_v59 : IVec S1x49152 32 := broadcastInDim S1x49152 ![1] bcast_S49152_S1x49152_1 main_arg5
  let main_v60 : IVec S255x49152 32 := broadcastInDim S255x49152 ![0, 1] bcast_S255x1_S255x49152_0_1 main_v58
  let main_v61 : IVec S255x49152 32 := broadcastInDim S255x49152 ![0, 1] bcast_S1x49152_S255x49152_0_1 main_v59
  let main_v62 : IVec S255x49152 1 := cmpi .eq main_v60 main_v61
  fn_part3 (F := F) main_v56 main_v57 main_v62

def fn_part1 {F : FTy → Type} [FloatOps F] (main_arg0 : IVec S255 32) (main_arg1 : IVec S255 32) (main_arg2 : IVec S255 32) (main_arg3 : IVec S255 32) (main_arg4 : IVec S255 32) (main_arg5 : IVec S49152 32) (main_v18 : IVec S255x49152 1) (main_v20 : IVec S255x49152 32) (main_v21 : IVec S255x49152 32) : IVec S255x49152 1 :=
  let main_v22 : IVec S255x49152 1 := cmpi .slt main_v20 main_v21
  let main_v23 : IVec S255x49152 1 := andi main_v18 main_v22
  let main_v24 : IVec S255x49152 32 := (extui 32 · natLt_1_32) main_v23
  let main_c_1 : IVec S_ 32 := constantI S_ 32 0#32
  let main_v25 : IVec S49152 32 := (fun x v => Host.reduce IntOp.addi x v reducesTo_S255x49152_S49152_d0 h_S_) main_v24 main_c_1
  let main_c_2 : IVec S_ 32 := constantI S_ 32 1#32
  let main_v26 : IVec S49152 32 := broadcastInDim S49152 ![] bcast_S_S49152 main_c_2
  let main_v27 : IVec S49152 1 := cmpi .eq main_v25 main_v26
  let main_c_3 : IVec S_ 32 := constantI S_ 32 4294967295#32
  let main_v28 : IVec S1 32 := broadcastInDim S1 ![] bcast_S_S1 main_c_3
  let main_v29 : IVec S254 32 := (extractStridedSlice S254 ![0] · slices_S255_S254_0) main_arg0
  let main_v30 : IVec S255 32 := (fun a b => concatenate S255 0 [⟨S1, a⟩, ⟨S254, b⟩] concatenates_S1_S254_S255_d0) main_v28 main_v29
  let main_v31 : IVec S255 1 := cmpi .ne main_arg0 main_v30
  let main_v32 : IVec S255 32 := (extui 32 · natLt_1_32) main_v31
  let main_v33 : IVec S255 1 := cmpi .eq main_arg4 main_v32
  let main_v34 : IVec S255 1 := cmpi .eq main_arg0 main_v30
  let main_v35 : IVec S255 1 := cmpi .slt main_arg2 main_arg3
  let main_v36 : IVec S255 1 := ori main_v34 main_v35
  let main_v37 : IVec S255 1 := andi main_v33 main_v36
  let main_c_4 : IVec S_ 32 := constantI S_ 32 0#32
  let main_v38 : IVec S255 32 := broadcastInDim S255 ![] bcast_S_S255 main_c_4
  let main_v39 : IVec S255 1 := cmpi .sge main_arg0 main_v38
  let main_c_5 : IVec S_ 32 := constantI S_ 32 192#32
  let main_v40 : IVec S255 32 := broadcastInDim S255 ![] bcast_S_S255 main_c_5
  fn_part2 (F := F) main_arg0 main_arg1 main_arg5 main_v23 main_v27 main_v30 main_v37 main_v39 main_v40

def fn {F : FTy → Type} [FloatOps F] (main_arg0 : IVec S255 32) (main_arg1 : IVec S255 32) (main_arg2 : IVec S255 32) (main_arg3 : IVec S255 32) (main_arg4 : IVec S255 32) (main_arg5 : IVec S49152 32) (main_arg6 : FVec F S49152x2048 .f32) (main_arg7 : FVec F S4x64x2048x768 .f32) (main_arg8 : FVec F S4x64x384x2048 .f32) : IVec S255x49152 1 :=
  let main_v0 : IVec S49152 32 := iotaInDim S49152 32 0
  let main_v1 : IVec S1x49152 32 := broadcastInDim S1x49152 ![1] bcast_S49152_S1x49152_1 main_v0
  let main_c : IVec S_ 32 := constantI S_ 32 256#32
  let main_v2 : IVec S255 32 := broadcastInDim S255 ![] bcast_S_S255 main_c
  let main_v3 : IVec S255 32 := muli main_arg0 main_v2
  let main_v4 : IVec S255x1 32 := broadcastInDim S255x1 ![0] bcast_S255_S255x1_0 main_v3
  let main_v5 : IVec S255x49152 32 := broadcastInDim S255x49152 ![0, 1] bcast_S1x49152_S255x49152_0_1 main_v1
  let main_v6 : IVec S255x49152 32 := broadcastInDim S255x49152 ![0, 1] bcast_S255x1_S255x49152_0_1 main_v4
  let main_v7 : IVec S255x49152 1 := cmpi .sge main_v5 main_v6
  let main_c_0 : IVec S_ 32 := constantI S_ 32 256#32
  let main_v8 : IVec S255x1 32 := broadcastInDim S255x1 ![] bcast_S_S255x1 main_c_0
  let main_v9 : IVec S255x1 32 := addi main_v4 main_v8
  let main_v10 : IVec S255x49152 32 := broadcastInDim S255x49152 ![0, 1] bcast_S1x49152_S255x49152_0_1 main_v1
  let main_v11 : IVec S255x49152 32 := broadcastInDim S255x49152 ![0, 1] bcast_S255x1_S255x49152_0_1 main_v9
  let main_v12 : IVec S255x49152 1 := cmpi .slt main_v10 main_v11
  let main_v13 : IVec S255x49152 1 := andi main_v7 main_v12
  let main_v14 : IVec S255x1 32 := broadcastInDim S255x1 ![0] bcast_S255_S255x1_0 main_arg2
  let main_v15 : IVec S255x49152 32 := broadcastInDim S255x49152 ![0, 1] bcast_S1x49152_S255x49152_0_1 main_v1
  let main_v16 : IVec S255x49152 32 := broadcastInDim S255x49152 ![0, 1] bcast_S255x1_S255x49152_0_1 main_v14
  let main_v17 : IVec S255x49152 1 := cmpi .sge main_v15 main_v16
  let main_v18 : IVec S255x49152 1 := andi main_v13 main_v17
  let main_v19 : IVec S255x1 32 := broadcastInDim S255x1 ![0] bcast_S255_S255x1_0 main_arg3
  let main_v20 : IVec S255x49152 32 := broadcastInDim S255x49152 ![0, 1] bcast_S1x49152_S255x49152_0_1 main_v1
  let main_v21 : IVec S255x49152 32 := broadcastInDim S255x49152 ![0, 1] bcast_S255x1_S255x49152_0_1 main_v19
  fn_part1 (F := F) main_arg0 main_arg1 main_arg2 main_arg3 main_arg4 main_arg5 main_v18 main_v20 main_v21
-- ==== Pre_slots_ok.lean ====
abbrev S32x8x256 : Shape := ⟨3, ![32, 8, 256]⟩
abbrev S8x8192 : Shape := ⟨2, ![8, 8192]⟩
abbrev S4x2048x2048 : Shape := ⟨3, ![4, 2048, 2048]⟩
abbrev S49152x2048 : Shape := ⟨2, ![49152, 2048]⟩
abbrev S2048x768 : Shape := ⟨2, ![2048, 768]⟩
abbrev S384x2048 : Shape := ⟨2, ![384, 2048]⟩
abbrev S2048 : Shape := ⟨1, ![2048]⟩
abbrev S4x1x2048 : Shape := ⟨3, ![4, 1, 2048]⟩
abbrev S32x6x256 : Shape := ⟨3, ![32, 6, 256]⟩
abbrev S_ : Shape := ⟨0, ![]⟩

class Facts : Prop where
  slices_S32x8x256_S32x6x256_0_0_0 : S32x8x256.Slices ![0, 0, 0] S32x6x256
  bcast_S_S32x6x256 : S_.BroadcastsInDim S32x6x256 (![] : Fin 0 → Fin S32x6x256.rank)

variable [Facts]

def fn {F : FTy → Type} [FloatOps F] (main_arg0 : IVec S32x8x256 32) (main_arg1 : FVec F S8x8192 .f32) (main_arg2 : FVec F S4x2048x2048 .f32) (main_arg3 : FVec F S4x2048x2048 .f32) (main_arg4 : FVec F S49152x2048 .f32) (main_arg5 : FVec F S2048x768 .f32) (main_arg6 : FVec F S384x2048 .f32) (main_arg7 : FVec F S2048 .f32) (main_arg8 : FVec F S4x1x2048 .f32) : IVec S32x6x256 1 :=
  let main_v0 : IVec S32x6x256 32 := (extractStridedSlice S32x6x256 ![0, 0, 0] · slices_S32x8x256_S32x6x256_0_0_0) main_arg0
  let main_c : IVec S_ 32 := constantI S_ 32 0#32
  let main_v1 : IVec S32x6x256 32 := broadcastInDim S32x6x256 ![] bcast_S_S32x6x256 main_c
  let main_v2 : IVec S32x6x256 1 := cmpi .sge main_v0 main_v1
  let main_c_0 : IVec S_ 32 := constantI S_ 32 49152#32
  let main_v3 : IVec S32x6x256 32 := broadcastInDim S32x6x256 ![] bcast_S_S32x6x256 main_c_0
  let main_v4 : IVec S32x6x256 1 := cmpi .slt main_v0 main_v3
  let main_v5 : IVec S32x6x256 1 := andi main_v2 main_v4
  main_v5
-- ==== Kernel.lean ====
abbrev S4x2048x6144 : Shape := ⟨3, ![4, 2048, 6144]⟩
abbrev S4x2048x128 : Shape := ⟨3, ![4, 2048, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S1 : Shape := ⟨1, ![1]⟩
abbrev S1x1024 : Shape := ⟨2, ![1, 1024]⟩
abbrev S1x512 : Shape := ⟨2, ![1, 512]⟩
abbrev S4x2048x2048 : Shape := ⟨3, ![4, 2048, 2048]⟩
abbrev S1x256x256 : Shape := ⟨3, ![1, 256, 256]⟩
abbrev S1x256x512 : Shape := ⟨3, ![1, 256, 512]⟩
abbrev S1x256x128 : Shape := ⟨3, ![1, 256, 128]⟩
abbrev S128x256 : Shape := ⟨2, ![128, 256]⟩
abbrev S1x256 : Shape := ⟨2, ![1, 256]⟩
abbrev S512x256 : Shape := ⟨2, ![512, 256]⟩
abbrev S256x128 : Shape := ⟨2, ![256, 128]⟩
abbrev S256x256 : Shape := ⟨2, ![256, 256]⟩
abbrev S64x64 : Shape := ⟨2, ![64, 64]⟩
abbrev S256x512 : Shape := ⟨2, ![256, 512]⟩
abbrev S64x256 : Shape := ⟨2, ![64, 256]⟩
abbrev S64x512 : Shape := ⟨2, ![64, 512]⟩
abbrev S512x64 : Shape := ⟨2, ![512, 64]⟩
abbrev S256 : Shape := ⟨1, ![256]⟩
abbrev S256x1 : Shape := ⟨2, ![256, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x2048x6144, .f32⟩
  | .hbm, ⟨1, _⟩ => ⟨S4x2048x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S_, .f32⟩
  | .hbm, ⟨6, _⟩ => ⟨S128x1024, .f32⟩
  | .hbm, ⟨7, _⟩ => ⟨S_, .i32⟩
  | .hbm, ⟨8, _⟩ => ⟨S1, .i32⟩
  | .hbm, ⟨9, _⟩ => ⟨S128x1024, .f32⟩
  | .hbm, ⟨10, _⟩ => ⟨S128x1024, .bf16⟩
  | .hbm, ⟨11, _⟩ => ⟨S1x1024, .f32⟩
  | .hbm, ⟨12, _⟩ => ⟨S1x512, .f32⟩
  | .hbm, ⟨13, _⟩ => ⟨S4x2048x2048, .bf16⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x128, .f32⟩
  | .local _ .vmem, ⟨9, _⟩ => ⟨S1x256x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x256x512, .bf16⟩
  | .local _ .vmem, ⟨16, _⟩ => ⟨S1x256x512, .bf16⟩
  | .local _ .vmem, ⟨17, _⟩ => ⟨S512x256, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S4x2048x6144 : Shape := ⟨3, ![4, 2048, 6144]⟩
abbrev S4x2048x128 : Shape := ⟨3, ![4, 2048, 128]⟩
abbrev S16x1024 : Shape := ⟨2, ![16, 1024]⟩
abbrev S1024 : Shape := ⟨1, ![1024]⟩
abbrev S512 : Shape := ⟨1, ![512]⟩
abbrev S4x2048x1024 : Shape := ⟨3, ![4, 2048, 1024]⟩
abbrev S4x2048x2048 : Shape := ⟨3, ![4, 2048, 2048]⟩
abbrev S4x2048x16 : Shape := ⟨3, ![4, 2048, 16]⟩
abbrev S1x1x1024 : Shape := ⟨3, ![1, 1, 1024]⟩
abbrev S_ : Shape := ⟨0, ![]⟩
abbrev S4x32x64x4x256 : Shape := ⟨5, ![4, 32, 64, 4, 256]⟩
abbrev S4x4x32x64x256 : Shape := ⟨5, ![4, 4, 32, 64, 256]⟩
abbrev S4x32x64x4x512 : Shape := ⟨5, ![4, 32, 64, 4, 512]⟩
abbrev S4x4x32x64x512 : Shape := ⟨5, ![4, 4, 32, 64, 512]⟩
abbrev S4x4x32x1x256 : Shape := ⟨5, ![4, 4, 32, 1, 256]⟩
abbrev S64x64 : Shape := ⟨2, ![64, 64]⟩
abbrev S4x4x32x64x64 : Shape := ⟨5, ![4, 4, 32, 64, 64]⟩
abbrev S32x4x4x64x256 : Shape := ⟨5, ![32, 4, 4, 64, 256]⟩
abbrev S32x4x4x64x512 : Shape := ⟨5, ![32, 4, 4, 64, 512]⟩
abbrev S4x4x32x256 : Shape := ⟨4, ![4, 4, 32, 256]⟩
abbrev S32x4x4x256 : Shape := ⟨4, ![32, 4, 4, 256]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S1x4x4x256 : Shape := ⟨4, ![1, 4, 4, 256]⟩
abbrev S4x4x256 : Shape := ⟨3, ![4, 4, 256]⟩
abbrev S4x4x256x1 : Shape := ⟨4, ![4, 4, 256, 1]⟩
abbrev S4x2048x4x512 : Shape := ⟨4, ![4, 2048, 4, 512]⟩
abbrev S4x2048x4 : Shape := ⟨3, ![4, 2048, 4]⟩
abbrev S4x2048x4x1 : Shape := ⟨4, ![4, 2048, 4, 1]⟩
abbrev S1x1x1x512 : Shape := ⟨4, ![1, 1, 1, 512]⟩

abbrev nBuf : Space → Nat
  | .hbm => 165
  | .vmem => 0
  | .smem => 0
  | _ => 0

abbrev hbmTy0_0 (i : Nat) : BufTy := match i % 128 with
  | 0 => ⟨S4x2048x6144, .f32⟩
  | 1 => ⟨S4x2048x128, .f32⟩
  | 2 => ⟨S16x1024, .f32⟩
  | 3 => ⟨S1024, .f32⟩
  | 4 => ⟨S512, .f32⟩
  | 5 => ⟨S4x2048x1024, .f32⟩
  | 6 => ⟨S4x2048x1024, .f32⟩
  | 7 => ⟨S4x2048x2048, .f32⟩
  | 8 => ⟨S4x2048x2048, .f32⟩
  | 9 => ⟨S4x2048x16, .f32⟩
  | 10 => ⟨S4x2048x1024, .f32⟩
  | 11 => ⟨S1x1x1024, .f32⟩
  | 12 => ⟨S4x2048x1024, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .i1⟩
  | 21 => ⟨S4x2048x1024, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S_, .f32⟩
  | 31 => ⟨S4x2048x1024, .f32⟩
  | 32 => ⟨S4x2048x1024, .f32⟩
  | 33 => ⟨S4x32x64x4x256, .f32⟩
  | 34 => ⟨S4x4x32x64x256, .f32⟩
  | 35 => ⟨S_, .f32⟩
  | 36 => ⟨S4x4x32x64x256, .f32⟩
  | 37 => ⟨S4x4x32x64x256, .f32⟩
  | 38 => ⟨S4x32x64x4x256, .f32⟩
  | 39 => ⟨S4x4x32x64x256, .f32⟩
  | 40 => ⟨S4x32x64x4x512, .f32⟩
  | 41 => ⟨S4x4x32x64x512, .f32⟩
  | 42 => ⟨S4x32x64x4x256, .f32⟩
  | 43 => ⟨S4x4x32x64x256, .f32⟩
  | 44 => ⟨S_, .f32⟩
  | 45 => ⟨S_, .f32⟩
  | 46 => ⟨S4x4x32x64x256, .f32⟩
  | 47 => ⟨S4x4x32x1x256, .f32⟩
  | 48 => ⟨S4x4x32x64x256, .f32⟩
  | 49 => ⟨S4x4x32x64x256, .f32⟩
  | 50 => ⟨S4x4x32x64x256, .f32⟩
  | 51 => ⟨S4x4x32x64x256, .f32⟩
  | 52 => ⟨S4x4x32x64x256, .f32⟩
  | 53 => ⟨S4x4x32x64x256, .f32⟩
  | 54 => ⟨S4x4x32x64x256, .f32⟩
  | 55 => ⟨S4x4x32x64x256, .f32⟩
  | 56 => ⟨S4x4x32x64x256, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S4x4x32x64x64, .f32⟩
  | 69 => ⟨S_, .f32⟩
  | 70 => ⟨S_, .f32⟩
  | 71 => ⟨S4x4x32x64x64, .i1⟩
  | 72 => ⟨S4x4x32x64x64, .f32⟩
  | 73 => ⟨S4x4x32x64x64, .f32⟩
  | 74 => ⟨S4x4x32x64x512, .f32⟩
  | 75 => ⟨S32x4x4x64x256, .f32⟩
  | 76 => ⟨S32x4x4x64x256, .f32⟩
  | 77 => ⟨S32x4x4x64x512, .f32⟩
  | 78 => ⟨S4x4x32x256, .f32⟩
  | 79 => ⟨S4x4x32x256, .f32⟩
  | 80 => ⟨S32x4x4x256, .f32⟩
  | 81 => ⟨S_, .f32⟩
  | 82 => ⟨S4x4x256x512, .f32⟩
  | 83 => ⟨S_, .f32⟩
  | 84 => ⟨S32x4x4x64x512, .f32⟩
  | 85 => ⟨S_, .i32⟩
  | 86 => ⟨S32x4x4x64x256, .f32⟩
  | 87 => ⟨S32x4x4x64x256, .f32⟩
  | 88 => ⟨S32x4x4x64x512, .f32⟩
  | 89 => ⟨S32x4x4x256, .f32⟩
  | 90 => ⟨S_, .i32⟩
  | 91 => ⟨S4x4x256x512, .f32⟩
  | 92 => ⟨S32x4x4x64x512, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x4x4x64x256, .f32⟩
  | 100 => ⟨S4x4x64x256, .f32⟩
  | 101 => ⟨S_, .i32⟩
  | 102 => ⟨S_, .i32⟩
  | 103 => ⟨S_, .i32⟩
  | 104 => ⟨S_, .i32⟩
  | 105 => ⟨S1x4x4x64x256, .f32⟩
  | 106 => ⟨S4x4x64x256, .f32⟩
  | 107 => ⟨S_, .i32⟩
  | 108 => ⟨S_, .i32⟩
  | 109 => ⟨S_, .i32⟩
  | 110 => ⟨S_, .i32⟩
  | 111 => ⟨S1x4x4x64x512, .f32⟩
  | 112 => ⟨S4x4x64x512, .f32⟩
  | 113 => ⟨S_, .i32⟩
  | 114 => ⟨S_, .i32⟩
  | 115 => ⟨S_, .i32⟩
  | 116 => ⟨S1x4x4x256, .f32⟩
  | 117 => ⟨S4x4x256, .f32⟩
  | 118 => ⟨S4x4x64x512, .f32⟩
  | 119 => ⟨S4x4x256x1, .f32⟩
  | 120 => ⟨S4x4x256x512, .f32⟩
  | 121 => ⟨S4x4x256x512, .f32⟩
  | 122 => ⟨S4x4x256x512, .f32⟩
  | 123 => ⟨S4x4x256x512, .f32⟩
  | 124 => ⟨S1x4x4x64x512, .f32⟩
  | 125 => ⟨S_, .i32⟩
  | 126 => ⟨S_, .i32⟩
  | 127 => ⟨S_, .i32⟩
  | _ => ⟨S4x2048x6144, .f32⟩

abbrev hbmTy0_1 (i : Nat) : BufTy := match i % 128 with
  | 0 => ⟨S_, .i32⟩
  | 1 => ⟨S32x4x4x64x512, .f32⟩
  | 2 => ⟨S_, .i32⟩
  | 3 => ⟨S_, .i32⟩
  | 4 => ⟨S4x4x32x64x512, .f32⟩
  | 5 => ⟨S4x4x32x64x512, .f32⟩
  | 6 => ⟨S4x32x64x4x512, .f32⟩
  | 7 => ⟨S4x2048x4x512, .f32⟩
  | 8 => ⟨S4x2048x4x512, .f32⟩
  | 9 => ⟨S_, .f32⟩
  | 10 => ⟨S4x2048x4, .f32⟩
  | 11 => ⟨S4x2048x4x1, .f32⟩
  | 12 => ⟨S_, .f32⟩
  | 13 => ⟨S4x2048x4x1, .f32⟩
  | 14 => ⟨S4x2048x4x1, .f32⟩
  | 15 => ⟨S_, .f32⟩
  | 16 => ⟨S4x2048x4x1, .f32⟩
  | 17 => ⟨S4x2048x4x1, .f32⟩
  | 18 => ⟨S4x2048x4x1, .f32⟩
  | 19 => ⟨S4x2048x4x512, .f32⟩
  | 20 => ⟨S4x2048x4x512, .f32⟩
  | 21 => ⟨S1x1x1x512, .f32⟩
  | 22 => ⟨S4x2048x4x512, .f32⟩
  | 23 => ⟨S4x2048x4x512, .f32⟩
  | 24 => ⟨S4x2048x4x512, .f32⟩
  | 25 => ⟨S4x2048x4x512, .f32⟩
  | 26 => ⟨S4x2048x4x512, .f32⟩
  | 27 => ⟨S_, .f32⟩
  | 28 => ⟨S4x2048x4x512, .f32⟩
  | 29 => ⟨S4x2048x4x512, .f32⟩
  | 30 => ⟨S_, .f32⟩
  | 31 => ⟨S4x2048x4x512, .f32⟩
  | 32 => ⟨S4x2048x4x512, .f32⟩
  | 33 => ⟨S4x2048x4x512, .f32⟩
  | 34 => ⟨S4x2048x4x512, .f32⟩
  | 35 => ⟨S4x2048x2048, .f32⟩
  | 36 => ⟨S4x2048x2048, .bf16⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c : Ref sig .tc := ⟨.hbm, 57, rfl⟩
abbrev main_v33 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v34 : Ref sig .tc := ⟨.hbm, 67, rfl⟩
abbrev main_v35 : Ref sig .tc := ⟨.hbm, 68, rfl⟩
abbrev main_cst_1 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_2 : Ref sig .tc := ⟨.hbm, 81, rfl⟩
abbrev main_v44 : Ref sig .tc := ⟨.hbm, 82, rfl⟩
abbrev main_cst_3 : Ref sig .tc := ⟨.hbm, 83, rfl⟩
abbrev main_v45 : Ref sig .tc := ⟨.hbm, 84, rfl⟩
abbrev main_c_4 : Ref sig .tc := ⟨.hbm, 85, rfl⟩
abbrev main_v46_0 : Ref sig .tc := ⟨.hbm, 86, rfl⟩
abbrev main_v46_1 : Ref sig .tc := ⟨.hbm, 87, rfl⟩
abbrev main_v46_2 : Ref sig .tc := ⟨.hbm, 88, rfl⟩
abbrev main_v46_3 : Ref sig .tc := ⟨.hbm, 89, rfl⟩
abbrev main_v46_4 : Ref sig .tc := ⟨.hbm, 90, rfl⟩
abbrev main_v46_5 : Ref sig .tc := ⟨.hbm, 91, rfl⟩
abbrev main_v46_6 : Ref sig .tc := ⟨.hbm, 92, rfl⟩
abbrev main_while0c_c_14 : Ref sig .tc := ⟨.hbm, 93, rfl⟩
abbrev main_while0c_v69 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v69 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v70 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_c_2 : Ref sig .tc := ⟨.hbm, 110, rfl⟩
abbrev main_while0b_call6_v0 : Ref sig .tc := ⟨.hbm, 111, rfl⟩
abbrev main_while0b_v71 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_v0 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_call8_v0 : Ref sig .tc := ⟨.hbm, 124, rfl⟩
abbrev main_while0b_call8_c : Ref sig .tc := ⟨.hbm, 125, rfl⟩
abbrev main_while0b_call8_c_0 : Ref sig .tc := ⟨.hbm, 126, rfl⟩
abbrev main_while0b_call8_c_1 : Ref sig .tc := ⟨.hbm, 127, rfl⟩
abbrev main_while0b_call8_c_2 : Ref sig .tc := ⟨.hbm, 128, rfl⟩
abbrev main_while0b_v79 : Ref sig .tc := ⟨.hbm, 129, rfl⟩
abbrev main_while0b_c_14 : Ref sig .tc := ⟨.hbm, 130, rfl⟩
abbrev main_while0b_v80 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_cst_5 : Ref sig .tc := ⟨.hbm, 137, rfl⟩
abbrev main_v52 : Ref sig .tc := ⟨.hbm, 138, rfl⟩
abbrev main_v53 : Ref sig .tc := ⟨.hbm, 139, rfl⟩
abbrev main_cst_6 : Ref sig .tc := ⟨.hbm, 140, rfl⟩
abbrev main_v54 : Ref sig .tc := ⟨.hbm, 141, rfl⟩
abbrev main_v55 : Ref sig .tc := ⟨.hbm, 142, rfl⟩
abbrev main_cst_7 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_call9_v0 : Ref sig .tc := ⟨.hbm, 153, rfl⟩
abbrev main_call9_v1 : Ref sig .tc := ⟨.hbm, 154, rfl⟩
abbrev main_call9_cst : Ref sig .tc := ⟨.hbm, 155, rfl⟩
abbrev main_call9_v2 : Ref sig .tc := ⟨.hbm, 156, rfl⟩
abbrev main_call9_v3 : Ref sig .tc := ⟨.hbm, 157, rfl⟩
abbrev main_call9_cst_0 : Ref sig .tc := ⟨.hbm, 158, rfl⟩
abbrev main_call9_v4 : Ref sig .tc := ⟨.hbm, 159, rfl⟩
abbrev main_call9_v5 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x2048x2048 : Shape := ⟨3, ![4, 2048, 2048]⟩
abbrev S2048 : Shape := ⟨1, ![2048]⟩
abbrev S4x1x2048 : Shape := ⟨3, ![4, 1, 2048]⟩
abbrev S2048x6144 : Shape := ⟨2, ![2048, 6144]⟩
abbrev S1x2048 : Shape := ⟨2, ![1, 2048]⟩
abbrev S4x2048x6144 : Shape := ⟨3, ![4, 2048, 6144]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x1024 : Shape := ⟨3, ![1, 512, 1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S1x2048, .f32⟩
  | .hbm, ⟨6, _⟩ => ⟨S2048x6144, .bf16⟩
  | .hbm, ⟨7, _⟩ => ⟨S4x2048x6144, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x512x1024, .f32⟩
  | .local _ .vmem, ⟨10, _⟩ => ⟨S1x512x1024, .f32⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 4, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x2048x2048 : Shape := ⟨3, ![4, 2048, 2048]⟩
abbrev S2048 : Shape := ⟨1, ![2048]⟩
abbrev S4x1x2048 : Shape := ⟨3, ![4, 1, 2048]⟩
abbrev S2048x6144 : Shape := ⟨2, ![2048, 6144]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x6144 : Shape := ⟨3, ![4, 2048, 6144]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6144, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel3.lean ====
abbrev S4x2048x2048 : Shape := ⟨3, ![4, 2048, 2048]⟩
abbrev S2048x2048 : Shape := ⟨2, ![2048, 2048]⟩
abbrev S2048 : Shape := ⟨1, ![2048]⟩
abbrev S4x1x2048 : Shape := ⟨3, ![4, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S4x1x2048, .f32⟩
  | .hbm, ⟨5, _⟩ => ⟨S2048x2048, .bf16⟩
  | .hbm, ⟨6, _⟩ => ⟨S1x2048, .f32⟩
  | .hbm, ⟨7, _⟩ => ⟨S4x2048x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x2048x2048 : Shape := ⟨3, ![4, 2048, 2048]⟩
abbrev S2048x2048 : Shape := ⟨2, ![2048, 2048]⟩
abbrev S2048 : Shape := ⟨1, ![2048]⟩
abbrev S4x1x2048 : Shape := ⟨3, ![4, 1, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S4x1x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048 : Shape := ⟨1, ![2048]⟩
abbrev S4x1x2048 : Shape := ⟨3, ![4, 1, 2048]⟩
abbrev S2048x6160 : Shape := ⟨2, ![2048, 6160]⟩
abbrev S2048x6144 : Shape := ⟨2, ![2048, 6144]⟩
abbrev S_ : Shape := ⟨0, ![]⟩
abbrev S2048x128 : Shape := ⟨2, ![2048, 128]⟩
abbrev S2048x16 : Shape := ⟨2, ![2048, 16]⟩
abbrev S1 : Shape := ⟨1, ![1]⟩
abbrev S1x2048 : Shape := ⟨2, ![1, 2048]⟩
abbrev S4x2048x6144 : Shape := ⟨3, ![4, 2048, 6144]⟩
abbrev S4x2048x128 : Shape := ⟨3, ![4, 2048, 128]⟩
abbrev S1x512x2048 : Shape := ⟨3, ![1, 512, 2048]⟩
abbrev S1x1x2048 : Shape := ⟨3, ![1, 1, 2048]⟩
abbrev S2048x1024 : Shape := ⟨2, ![2048, 1024]⟩
abbrev S1x512x1024 : Shape := ⟨3, ![1, 512, 1024]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S512x1024 : Shape := ⟨2, ![512, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6160, .f32⟩
  | .hbm, ⟨5, _⟩ => ⟨S2048x6144, .f32⟩
  | .hbm, ⟨6, _⟩ => ⟨S2048x6144, .bf16⟩
  | .hbm, ⟨7, _⟩ => ⟨S_, .f32⟩
  | .hbm, ⟨8, _⟩ => ⟨S2048x128, .f32⟩
  | .hbm, ⟨9, _⟩ => ⟨S2048x16, .f32⟩
  | .hbm, ⟨10, _⟩ => ⟨S_, .i32⟩
  | .hbm, ⟨11, _⟩ => ⟨S1, .i32⟩
  | .hbm, ⟨12, _⟩ => ⟨S2048x128, .f32⟩
  | .hbm, ⟨13, _⟩ => ⟨S2048x128, .bf16⟩
  | .hbm, ⟨14, _⟩ => ⟨S1x2048, .f32⟩
  | .hbm, ⟨15, _⟩ => ⟨S4x2048x6144, .f32⟩
  | .hbm, ⟨16, _⟩ => ⟨S4x2048x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x128, .f32⟩
  | .local _ .vmem, ⟨13, _⟩ => ⟨S1x512x128, .f32⟩
  | .local _ .vmem, ⟨14, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 6], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference4Ideal.lean ====
abbrev S4x2048x2048 : Shape := ⟨3, ![4, 2048, 2048]⟩
abbrev S2048 : Shape := ⟨1, ![2048]⟩
abbrev S4x1x2048 : Shape := ⟨3, ![4, 1, 2048]⟩
abbrev S2048x6160 : Shape := ⟨2, ![2048, 6160]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x6160 : Shape := ⟨3, ![4, 2048, 6160]⟩
abbrev S4x2048x1024 : Shape := ⟨3, ![4, 2048, 1024]⟩
abbrev S4x2048x16 : Shape := ⟨3, ![4, 2048, 16]⟩
abbrev S4x2048x6144 : Shape := ⟨3, ![4, 2048, 6144]⟩
abbrev S4x2048x128 : Shape := ⟨3, ![4, 2048, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6160, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x1x2048, .f32⟩
  | .hbm, ⟨23, _⟩ => ⟨S4x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x6160, .f32⟩
  | .hbm, ⟨29, _⟩ => ⟨S4x2048x1024, .f32⟩
  | .hbm, ⟨30, _⟩ => ⟨S4x2048x1024, .f32⟩
  | .hbm, ⟨31, _⟩ => ⟨S4x2048x2048, .f32⟩
  | .hbm, ⟨32, _⟩ => ⟨S4x2048x2048, .f32⟩
  | .hbm, ⟨33, _⟩ => ⟨S4x2048x16, .f32⟩
  | .hbm, ⟨34, _⟩ => ⟨S4x2048x6144, .f32⟩
  | .hbm, ⟨35, _⟩ => ⟨S_, .i32⟩
  | .hbm, ⟨36, _⟩ => ⟨S_, .f32⟩
  | .hbm, ⟨37, _⟩ => ⟨S4x2048x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel5.lean ====
abbrev S255 : Shape := ⟨1, ![255]⟩
abbrev S49152 : Shape := ⟨1, ![49152]⟩
abbrev S49152x2048 : Shape := ⟨2, ![49152, 2048]⟩
abbrev S4x64x2048x768 : Shape := ⟨4, ![4, 64, 2048, 768]⟩
abbrev S4x64x384x2048 : Shape := ⟨4, ![4, 64, 384, 2048]⟩
abbrev S256x2048 : Shape := ⟨2, ![256, 2048]⟩
abbrev S1 : Shape := ⟨1, ![1]⟩
abbrev S1x1x2048x768 : Shape := ⟨4, ![1, 1, 2048, 768]⟩
abbrev S1x1x384x2048 : Shape := ⟨4, ![1, 1, 384, 2048]⟩
abbrev S2048x768 : Shape := ⟨2, ![2048, 768]⟩
abbrev S256x768 : Shape := ⟨2, ![256, 768]⟩
abbrev S256x384 : Shape := ⟨2, ![256, 384]⟩
abbrev S384x2048 : Shape := ⟨2, ![384, 2048]⟩
abbrev S256x1 : Shape := ⟨2, ![256, 1]⟩

abbrev nBuf : Space → Nat
  | .hbm => 5
  | .vmem => 8
  | .smem => 5
  | _ => 0

abbrev bufTy : (tb : Table) → Fin (tcTables nBuf tb) → BufTy
  | .hbm, ⟨0, _⟩ => ⟨S49152, .i32⟩
  | .hbm, ⟨1, _⟩ => ⟨S49152x2048, .f32⟩
  | .hbm, ⟨2, _⟩ => ⟨S4x64x2048x768, .f32⟩
  | .hbm, ⟨3, _⟩ => ⟨S4x64x384x2048, .f32⟩
  | .hbm, ⟨4, _⟩ => ⟨S49152x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x768, .f32⟩
  | .local _ .vmem, ⟨3, _⟩ => ⟨S1x1x2048x768, .f32⟩
  | .local _ .vmem, ⟨4, _⟩ => ⟨S1x1x384x2048, .f32⟩
  | .local _ .vmem, ⟨5, _⟩ => ⟨S1x1x384x2048, .f32⟩
  | .local _ .vmem, ⟨6, _⟩ => ⟨S256x2048, .f32⟩
  | .local _ .vmem, ⟨7, _⟩ => ⟨S256x2048, .f32⟩
  | .local _ .smem, ⟨0, _⟩ => ⟨S255, .i32⟩
  | .local _ .smem, ⟨1, _⟩ => ⟨S255, .i32⟩
  | .local _ .smem, ⟨2, _⟩ => ⟨S255, .i32⟩
  | .local _ .smem, ⟨3, _⟩ => ⟨S255, .i32⟩
  | .local _ .smem, ⟨4, _⟩ => ⟨S255, .i32⟩
  | _, _ => ⟨S49152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![255], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v23 : Index := Scalar.indexCast arg0
  ![v23.toNat]
def k0_off3 (i : grid0.Coords) : Fin 1 → Nat :=
  let arg0 : BitVec 32 := BitVec.ofNat 32 (i 0).val
  let v43 : Index := Scalar.indexCast arg0
  ![v43.toNat]
def k0_cond1 (v1 : BitVec 32) (v3 : BitVec 32) : BitVec 1 :=
  let v4 : BitVec 1 := Scalar.cmpi .sgt v3 v1
  let v5 : BitVec 32 := Scalar.extui v4
  let c0_i32 : BitVec 32 := 0#32
  let v6 : BitVec 1 := Scalar.cmpi .ne v5 c0_i32
  v6

def k0_cond2 (v39 : BitVec 32) : BitVec 1 :=
  let c1_i32 : BitVec 32 := 1#32
  let v40 : BitVec 1 := Scalar.cmpi .eq v39 c1_i32
  let v41 : BitVec 32 := Scalar.extui v40
  let c0_i32_11 : BitVec 32 := 0#32
  let v42 : BitVec 1 := Scalar.cmpi .ne v41 c0_i32_11
  v42

def k0_cond3 (v44 : BitVec 32) : BitVec 1 :=
  let c0_i32_12 : BitVec 32 := 0#32
  let v45 : BitVec 1 := Scalar.cmpi .eq v44 c0_i32_12
  let v46 : BitVec 32 := Scalar.extui v45
  let c0_i32_13 : BitVec 32 := 0#32
  let v47 : BitVec 1 := Scalar.cmpi .ne v46 c0_i32_13
  v47

def cc0_transform_0 (k0_off1_inb : ∀ i : grid0.Coords, ∀ a, (k0_off1 i) a + S1.size a ≤ S255.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S255) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S255.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S255) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S255.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S255) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S255.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S255) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S255 : Shape := ⟨1, ![255]⟩
abbrev S49152 : Shape := ⟨1, ![49152]⟩
abbrev S49152x2048 : Shape := ⟨2, ![49152, 2048]⟩
abbrev S4x64x2048x768 : Shape := ⟨4, ![4, 64, 2048, 768]⟩
abbrev S4x64x384x2048 : Shape := ⟨4, ![4, 64, 384, 2048]⟩
abbrev S1x64x2048x768 : Shape := ⟨4, ![1, 64, 2048, 768]⟩
abbrev S64x2048x768 : Shape := ⟨3, ![64, 2048, 768]⟩
abbrev S64x768x49152 : Shape := ⟨3, ![64, 768, 49152]⟩
abbrev S64x49152x768 : Shape := ⟨3, ![64, 49152, 768]⟩
abbrev S64x49152x384 : Shape := ⟨3, ![64, 49152, 384]⟩
abbrev S_ : Shape := ⟨0, ![]⟩
abbrev S1x64x384x2048 : Shape := ⟨4, ![1, 64, 384, 2048]⟩
abbrev S64x384x2048 : Shape := ⟨3, ![64, 384, 2048]⟩
abbrev S64x49152x2048 : Shape := ⟨3, ![64, 49152, 2048]⟩
abbrev S1x49152 : Shape := ⟨2, ![1, 49152]⟩
abbrev S64 : Shape := ⟨1, ![64]⟩
abbrev S64x1 : Shape := ⟨2, ![64, 1]⟩
abbrev S64x49152 : Shape := ⟨2, ![64, 49152]⟩
abbrev S64x49152x1 : Shape := ⟨3, ![64, 49152, 1]⟩

abbrev nBuf : Space → Nat
  | .hbm => 42
  | .vmem => 0
  | .smem => 0
  | _ => 0

abbrev bufTy : (tb : Table) → Fin (tcTables nBuf tb) → BufTy
  | .hbm, ⟨0, _⟩ => ⟨S255, .i32⟩
  | .hbm, ⟨1, _⟩ => ⟨S255, .i32⟩
  | .hbm, ⟨2, _⟩ => ⟨S255, .i32⟩
  | .hbm, ⟨3, _⟩ => ⟨S255, .i32⟩
  | .hbm, ⟨4, _⟩ => ⟨S255, .i32⟩
  | .hbm, ⟨5, _⟩ => ⟨S49152, .i32⟩
  | .hbm, ⟨6, _⟩ => ⟨S49152x2048, .f32⟩
  | .hbm, ⟨7, _⟩ => ⟨S4x64x2048x768, .f32⟩
  | .hbm, ⟨8, _⟩ => ⟨S4x64x384x2048, .f32⟩
  | .hbm, ⟨9, _⟩ => ⟨S1x64x2048x768, .f32⟩
  | .hbm, ⟨10, _⟩ => ⟨S64x2048x768, .f32⟩
  | .hbm, ⟨11, _⟩ => ⟨S64x768x49152, .f32⟩
  | .hbm, ⟨12, _⟩ => ⟨S64x49152x768, .f32⟩
  | .hbm, ⟨13, _⟩ => ⟨S64x49152x384, .f32⟩
  | .hbm, ⟨14, _⟩ => ⟨S64x49152x384, .f32⟩
  | .hbm, ⟨15, _⟩ => ⟨S64x49152x384, .f32⟩
  | .hbm, ⟨16, _⟩ => ⟨S64x49152x384, .f32⟩
  | .hbm, ⟨17, _⟩ => ⟨S_, .f32⟩
  | .hbm, ⟨18, _⟩ => ⟨S64x49152x384, .f32⟩
  | .hbm, ⟨19, _⟩ => ⟨S64x49152x384, .f32⟩
  | .hbm, ⟨20, _⟩ => ⟨S_, .f32⟩
  | .hbm, ⟨21, _⟩ => ⟨S64x49152x384, .f32⟩
  | .hbm, ⟨22, _⟩ => ⟨S64x49152x384, .f32⟩
  | .hbm, ⟨23, _⟩ => ⟨S64x49152x384, .f32⟩
  | .hbm, ⟨24, _⟩ => ⟨S64x49152x384, .f32⟩
  | .hbm, ⟨25, _⟩ => ⟨S1x64x384x2048, .f32⟩
  | .hbm, ⟨26, _⟩ => ⟨S64x384x2048, .f32⟩
  | .hbm, ⟨27, _⟩ => ⟨S64x49152x2048, .f32⟩
  | .hbm, ⟨28, _⟩ => ⟨S1x49152, .i32⟩
  | .hbm, ⟨29, _⟩ => ⟨S64, .i32⟩
  | .hbm, ⟨30, _⟩ => ⟨S64x1, .i32⟩
  | .hbm, ⟨31, _⟩ => ⟨S64x49152, .i32⟩
  | .hbm, ⟨32, _⟩ => ⟨S64x49152, .i32⟩
  | .hbm, ⟨33, _⟩ => ⟨S64x49152, .i1⟩
  | .hbm, ⟨34, _⟩ => ⟨S64x49152x1, .i1⟩
  | .hbm, ⟨35, _⟩ => ⟨S_, .f32⟩
  | .hbm, ⟨36, _⟩ => ⟨S_, .f32⟩
  | .hbm, ⟨37, _⟩ => ⟨S64x49152x2048, .i1⟩
  | .hbm, ⟨38, _⟩ => ⟨S64x49152x2048, .f32⟩
  | .hbm, ⟨39, _⟩ => ⟨S64x49152x2048, .f32⟩
  | .hbm, ⟨40, _⟩ => ⟨S_, .f32⟩
  | .hbm, ⟨41, _⟩ => ⟨S49152x2048, .f32⟩
  | _, _ => ⟨S255, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩

abbrev nD : Nat := 1
abbrev τ : Topo := Topo.v7x

variable {F : FTy → Type} [FloatOps F]
-- ==== Kernel6.lean ====
abbrev S32x8x256 : Shape := ⟨3, ![32, 8, 256]⟩
abbrev S8x8192 : Shape := ⟨2, ![8, 8192]⟩
abbrev S4x2048x2048 : Shape := ⟨3, ![4, 2048, 2048]⟩
abbrev S49152x2048 : Shape := ⟨2, ![49152, 2048]⟩
abbrev S2048x768 : Shape := ⟨2, ![2048, 768]⟩
abbrev S384x2048 : Shape := ⟨2, ![384, 2048]⟩
abbrev S2048 : Shape := ⟨1, ![2048]⟩
abbrev S4x1x2048 : Shape := ⟨3, ![4, 1, 2048]⟩
abbrev S1x2048 : Shape := ⟨2, ![1, 2048]⟩
abbrev S1x8x256 : Shape := ⟨3, ![1, 8, 256]⟩
abbrev S8x256 : Shape := ⟨2, ![8, 256]⟩
abbrev S1x256x2048 : Shape := ⟨3, ![1, 256, 2048]⟩
abbrev S1x1x2048 : Shape := ⟨3, ![1, 1, 2048]⟩
abbrev S6x256x2048 : Shape := ⟨3, ![6, 256, 2048]⟩
abbrev S_ : Shape := ⟨0, ![]⟩
abbrev S1x1x1 : Shape := ⟨3, ![1, 1, 1]⟩
abbrev S256x2048 : Shape := ⟨2, ![256, 2048]⟩
abbrev S256x768 : Shape := ⟨2, ![256, 768]⟩
abbrev S256x384 : Shape := ⟨2, ![256, 384]⟩
abbrev S120x256 : Shape := ⟨2, ![120, 256]⟩
abbrev S128x256 : Shape := ⟨2, ![128, 256]⟩
abbrev S256x128 : Shape := ⟨2, ![256, 128]⟩
abbrev S256x1 : Shape := ⟨2, ![256, 1]⟩
abbrev S256 : Shape := ⟨1, ![256]⟩

abbrev nBuf : Space → Nat
  | .hbm => 11
  | .vmem => 14
  | .smem => 2
  | _ => 0

abbrev bufTy : (tb : Table) → Fin (tcTables nBuf tb) → BufTy
  | .hbm, ⟨0, _⟩ => ⟨S32x8x256, .i32⟩
  | .hbm, ⟨1, _⟩ => ⟨S8x8192, .f32⟩
  | .hbm, ⟨2, _⟩ => ⟨S4x2048x2048, .f32⟩
  | .hbm, ⟨3, _⟩ => ⟨S4x2048x2048, .f32⟩
  | .hbm, ⟨4, _⟩ => ⟨S49152x2048, .f32⟩
  | .hbm, ⟨5, _⟩ => ⟨S2048x768, .f32⟩
  | .hbm, ⟨6, _⟩ => ⟨S384x2048, .f32⟩
  | .hbm, ⟨7, _⟩ => ⟨S2048, .f32⟩
  | .hbm, ⟨8, _⟩ => ⟨S4x1x2048, .f32⟩
  | .hbm, ⟨9, _⟩ => ⟨S1x2048, .f32⟩
  | .hbm, ⟨10, _⟩ => ⟨S4x2048x2048, .f32⟩
  | .local _ .vmem, ⟨0, _⟩ => ⟨S8x256, .f32⟩
  | .local _ .vmem, ⟨1, _⟩ => ⟨S8x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S2048x768, .f32⟩
  | .local _ .vmem, ⟨7, _⟩ => ⟨S384x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x256x2048, .f32⟩
  | .local _ .vmem, ⟨12, _⟩ => ⟨S1x256x2048, .f32⟩
  | .local _ .vmem, ⟨13, _⟩ => ⟨S6x256x2048, .f32⟩
  | .local _ .smem, ⟨0, _⟩ => ⟨S1x8x256, .i32⟩
  | .local _ .smem, ⟨1, _⟩ => ⟨S1x8x256, .i32⟩
  | _, _ => ⟨S32x8x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_41 : Index := 0#32
  let c0_42 : Index := 0#32
  let c0_i32 : BitVec 32 := 0#32
  let c1_i32 : BitVec 32 := 1#32
  let arg14 : BitVec 32 := Scf.iv c0_i32 c1_i32 k0_t1
  let v81 : Index := Scalar.indexCast arg14
  ![0, 0, v81.toNat]
def k0_off2 (k0_t1 : Fin k0_t1_loop.trips) : Fin 3 → Nat :=
  let c0_i32_43 : BitVec 32 := 0#32
  let c0_i32 : BitVec 32 := 0#32
  let c1_i32 : BitVec 32 := 1#32
  let arg14 : BitVec 32 := Scf.iv c0_i32 c1_i32 k0_t1
  let c0_i32_44 : BitVec 32 := 0#32
  ![0, arg14.toNat, 0]
def k0_off3 (v82 : BitVec 32) : Fin 2 → Nat :=
  let c0_i32_45 : BitVec 32 := 0#32
  ![v82.toNat, 0]

def k0_chk1 (v82 : BitVec 32) : Prop :=
  (∀ a, (k0_off3 v82) a + S1x2048.size a ≤ S49152x2048.size a)
theorem k0_off3_inb : ∀ (v82 : BitVec 32) (k0_hw1 : k0_chk1 v82), ∀ a, (k0_off3 v82) a + S1x2048.size a ≤ S49152x2048.size a := fun v82 k0_hw1 => k0_hw1

def k0_off4 (k0_t1 : Fin k0_t1_loop.trips) : Fin 3 → Nat :=
  let c0_46 : Index := 0#32
  let c1_47 : Index := 1#32
  let c0_i32 : BitVec 32 := 0#32
  let c1_i32 : BitVec 32 := 1#32
  let arg14 : BitVec 32 := Scf.iv c0_i32 c1_i32 k0_t1
  let v86 : Index := Scalar.indexCast arg14
  ![0, 1, v86.toNat]
def k0_off5 (k0_t1 : Fin k0_t1_loop.trips) : Fin 3 → Nat :=
  let c1_i32_48 : BitVec 32 := 1#32
  let c0_i32 : BitVec 32 := 0#32
  let c1_i32 : BitVec 32 := 1#32
  let arg14 : BitVec 32 := Scf.iv c0_i32 c1_i32 k0_t1
  let c0_i32_49 : BitVec 32 := 0#32
  ![1, arg14.toNat, 0]
def k0_off6 (v87 : BitVec 32) : Fin 2 → Nat :=
  let c0_i32_50 : BitVec 32 := 0#32
  ![v87.toNat, 0]

def k0_chk2 (v87 : BitVec 32) : Prop :=
  (∀ a, (k0_off6 v87) a + S1x2048.size a ≤ S49152x2048.size a)
theorem k0_off6_inb : ∀ (v87 : BitVec 32) (k0_hw2 : k0_chk2 v87), ∀ a, (k0_off6 v87) a + S1x2048.size a ≤ S49152x2048.size a := fun v87 k0_hw2 => k0_hw2

def k0_off7 (k0_t1 : Fin k0_t1_loop.trips) : Fin 3 → Nat :=
  let c0_51 : Index := 0#32
  let c2_52 : Index := 2#32
  let c0_i32 : BitVec 32 := 0#32
  let c1_i32 : BitVec 32 := 1#32
  let arg14 : BitVec 32 := Scf.iv c0_i32 c1_i32 k0_t1
  let v91 : Index := Scalar.indexCast arg14
  ![0, 2, v91.toNat]
def k0_off8 (k0_t1 : Fin k0_t1_loop.trips) : Fin 3 → Nat :=
  let c2_i32 : BitVec 32 := 2#32
  let c0_i32 : BitVec 32 := 0#32
  let c1_i32 : BitVec 32 := 1#32
  let arg14 : BitVec 32 := Scf.iv c0_i32 c1_i32 k0_t1
  let c0_i32_53 : BitVec 32 := 0#32
  ![2, arg14.toNat, 0]
def k0_off9 (v92 : BitVec 32) : Fin 2 → Nat :=
  let c0_i32_54 : BitVec 32 := 0#32
  ![v92.toNat, 0]

def k0_chk3 (v92 : BitVec 32) : Prop :=
  (∀ a, (k0_off9 v92) a + S1x2048.size a ≤ S49152x2048.size a)
theorem k0_off9_inb : ∀ (v92 : BitVec 32) (k0_hw3 : k0_chk3 v92), ∀ a, (k0_off9 v92) a + S1x2048.size a ≤ S49152x2048.size a := fun v92 k0_hw3 => k0_hw3

def k0_off10 (k0_t1 : Fin k0_t1_loop.trips) : Fin 3 → Nat :=
  let c0_55 : Index := 0#32
  let c3_56 : Index := 3#32
  let c0_i32 : BitVec 32 := 0#32
  let c1_i32 : BitVec 32 := 1#32
  let arg14 : BitVec 32 := Scf.iv c0_i32 c1_i32 k0_t1
  let v96 : Index := Scalar.indexCast arg14
  ![0, 3, v96.toNat]
def k0_off11 (k0_t1 : Fin k0_t1_loop.trips) : Fin 3 → Nat :=
  let c3_i32 : BitVec 32 := 3#32
  let c0_i32 : BitVec 32 := 0#32
  let c1_i32 : BitVec 32 := 1#32
  let arg14 : BitVec 32 := Scf.iv c0_i32 c1_i32 k0_t1
  let c0_i32_57 : BitVec 32 := 0#32
  ![3, arg14.toNat, 0]
def k0_off12 (v97 : BitVec 32) : Fin 2 → Nat :=
  let c0_i32_58 : BitVec 32 := 0#32
  ![v97.toNat, 0]

def k0_chk4 (v97 : BitVec 32) : Prop :=
  (∀ a, (k0_off12 v97) a + S1x2048.size a ≤ S49152x2048.size a)
theorem k0_off12_inb : ∀ (v97 : BitVec 32) (k0_hw4 : k0_chk4 v97), ∀ a, (k0_off12 v97) a + S1x2048.size a ≤ S49152x2048.size a := fun v97 k0_hw4 => k0_hw4

def k0_off13 (k0_t1 : Fin k0_t1_loop.trips) : Fin 3 → Nat :=
  let c0_59 : Index := 0#32
  let c4_60 : Index := 4#32
  let c0_i32 : BitVec 32 := 0#32
  let c1_i32 : BitVec 32 := 1#32
  let arg14 : BitVec 32 := Scf.iv c0_i32 c1_i32 k0_t1
  let v101 : Index := Scalar.indexCast arg14
  ![0, 4, v101.toNat]
def k0_off14 (k0_t1 : Fin k0_t1_loop.trips) : Fin 3 → Nat :=
  let c4_i32 : BitVec 32 := 4#32
  let c0_i32 : BitVec 32 := 0#32
  let c1_i32 : BitVec 32 := 1#32
  let arg14 : BitVec 32 := Scf.iv c0_i32 c1_i32 k0_t1
  let c0_i32_61 : BitVec 32 := 0#32
  ![4, arg14.toNat, 0]
def k0_off15 (v102 : BitVec 32) : Fin 2 → Nat :=
  let c0_i32_62 : BitVec 32 := 0#32
  ![v102.toNat, 0]

def k0_chk5 (v102 : BitVec 32) : Prop :=
  (∀ a, (k0_off15 v102) a + S1x2048.size a ≤ S49152x2048.size a)
theorem k0_off15_inb : ∀ (v102 : BitVec 32) (k0_hw5 : k0_chk5 v102), ∀ a, (k0_off15 v102) a + S1x2048.size a ≤ S49152x2048.size a := fun v102 k0_hw5 => k0_hw5

def k0_off16 (k0_t1 : Fin k0_t1_loop.trips) : Fin 3 → Nat :=
  let c0_63 : Index := 0#32
  let c5_64 : Index := 5#32
  let c0_i32 : BitVec 32 := 0#32
  let c1_i32 : BitVec 32 := 1#32
  let arg14 : BitVec 32 := Scf.iv c0_i32 c1_i32 k0_t1
  let v106 : Index := Scalar.indexCast arg14
  ![0, 5, v106.toNat]
def k0_off17 (k0_t1 : Fin k0_t1_loop.trips) : Fin 3 → Nat :=
  let c5_i32 : BitVec 32 := 5#32
  let c0_i32 : BitVec 32 := 0#32
  let c1_i32 : BitVec 32 := 1#32
  let arg14 : BitVec 32 := Scf.iv c0_i32 c1_i32 k0_t1
  let c0_i32_65 : BitVec 32 := 0#32
  ![5, arg14.toNat, 0]
def k0_off18 (v107 : BitVec 32) : Fin 2 → Nat :=
  let c0_i32_66 : BitVec 32 := 0#32
  ![v107.toNat, 0]

def k0_chk6 (v107 : BitVec 32) : Prop :=
  (∀ a, (k0_off18 v107) a + S1x2048.size a ≤ S49152x2048.size a)
theorem k0_off18_inb : ∀ (v107 : BitVec 32) (k0_hw6 : k0_chk6 v107), ∀ a, (k0_off18 v107) a + S1x2048.size a ≤ S49152x2048.size a := fun v107 k0_hw6 => k0_hw6

@[reducible] def k0_t2_loop : Scf.Loop 32 :=
  let c0_i32_11 : BitVec 32 := 0#32
  let c256_i32_12 : BitVec 32 := 256#32
  let v20 : BitVec 32 := Scalar.addi c0_i32_11 c256_i32_12
  let c1_i32_13 : BitVec 32 := 1#32
  ⟨c0_i32_11, v20, c1_i32_13⟩
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S32x8x256 : Shape := ⟨3, ![32, 8, 256]⟩
abbrev S8x8192 : Shape := ⟨2, ![8, 8192]⟩
abbrev S4x2048x2048 : Shape := ⟨3, ![4, 2048, 2048]⟩
abbrev S49152x2048 : Shape := ⟨2, ![49152, 2048]⟩
abbrev S2048x768 : Shape := ⟨2, ![2048, 768]⟩
abbrev S384x2048 : Shape := ⟨2, ![384, 2048]⟩
abbrev S2048 : Shape := ⟨1, ![2048]⟩
abbrev S4x1x2048 : Shape := ⟨3, ![4, 1, 2048]⟩
abbrev S8192x2048 : Shape := ⟨2, ![8192, 2048]⟩
abbrev S8192x768 : Shape := ⟨2, ![8192, 768]⟩
abbrev S8192x384 : Shape := ⟨2, ![8192, 384]⟩
abbrev S_ : Shape := ⟨0, ![]⟩
abbrev S1x8192 : Shape := ⟨2, ![1, 8192]⟩
abbrev S8192 : Shape := ⟨1, ![8192]⟩
abbrev S8192x1 : Shape := ⟨2, ![8192, 1]⟩
abbrev S32x1x256 : Shape := ⟨3, ![32, 1, 256]⟩
abbrev S32x256 : Shape := ⟨2, ![32, 256]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 110
  | .vmem => 0
  | .smem => 0
  | _ => 0

abbrev bufTy : (tb : Table) → Fin (tcTables nBuf tb) → BufTy
  | .hbm, ⟨0, _⟩ => ⟨S32x8x256, .i32⟩
  | .hbm, ⟨1, _⟩ => ⟨S8x8192, .f32⟩
  | .hbm, ⟨2, _⟩ => ⟨S4x2048x2048, .f32⟩
  | .hbm, ⟨3, _⟩ => ⟨S4x2048x2048, .f32⟩
  | .hbm, ⟨4, _⟩ => ⟨S49152x2048, .f32⟩
  | .hbm, ⟨5, _⟩ => ⟨S2048x768, .f32⟩
  | .hbm, ⟨6, _⟩ => ⟨S384x2048, .f32⟩
  | .hbm, ⟨7, _⟩ => ⟨S2048, .f32⟩
  | .hbm, ⟨8, _⟩ => ⟨S4x1x2048, .f32⟩
  | .hbm, ⟨9, _⟩ => ⟨S8192x2048, .f32⟩
  | .hbm, ⟨10, _⟩ => ⟨S8192x768, .f32⟩
  | .hbm, ⟨11, _⟩ => ⟨S8192x384, .f32⟩
  | .hbm, ⟨12, _⟩ => ⟨S8192x384, .f32⟩
  | .hbm, ⟨13, _⟩ => ⟨S8192x384, .f32⟩
  | .hbm, ⟨14, _⟩ => ⟨S8192x384, .f32⟩
  | .hbm, ⟨15, _⟩ => ⟨S_, .f32⟩
  | .hbm, ⟨16, _⟩ => ⟨S8192x384, .f32⟩
  | .hbm, ⟨17, _⟩ => ⟨S8192x384, .f32⟩
  | .hbm, ⟨18, _⟩ => ⟨S_, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S8192x384, .f32⟩
  | .hbm, ⟨23, _⟩ => ⟨S8192x2048, .f32⟩
  | .hbm, ⟨24, _⟩ => ⟨S1x8192, .f32⟩
  | .hbm, ⟨25, _⟩ => ⟨S8192, .f32⟩
  | .hbm, ⟨26, _⟩ => ⟨S8192x1, .f32⟩
  | .hbm, ⟨27, _⟩ => ⟨S32x1x256, .i32⟩
  | .hbm, ⟨28, _⟩ => ⟨S32x256, .i32⟩
  | .hbm, ⟨29, _⟩ => ⟨S8192, .i32⟩
  | .hbm, ⟨30, _⟩ => ⟨S8192x1, .i32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S1x8192, .f32⟩
  | .hbm, ⟨36, _⟩ => ⟨S8192, .f32⟩
  | .hbm, ⟨37, _⟩ => ⟨S8192x1, .f32⟩
  | .hbm, ⟨38, _⟩ => ⟨S32x1x256, .i32⟩
  | .hbm, ⟨39, _⟩ => ⟨S32x256, .i32⟩
  | .hbm, ⟨40, _⟩ => ⟨S8192, .i32⟩
  | .hbm, ⟨41, _⟩ => ⟨S8192x1, .i32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x8192, .f32⟩
  | .hbm, ⟨47, _⟩ => ⟨S8192, .f32⟩
  | .hbm, ⟨48, _⟩ => ⟨S8192x1, .f32⟩
  | .hbm, ⟨49, _⟩ => ⟨S32x1x256, .i32⟩
  | .hbm, ⟨50, _⟩ => ⟨S32x256, .i32⟩
  | .hbm, ⟨51, _⟩ => ⟨S8192, .i32⟩
  | .hbm, ⟨52, _⟩ => ⟨S8192x1, .i32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S1x8192, .f32⟩
  | .hbm, ⟨58, _⟩ => ⟨S8192, .f32⟩
  | .hbm, ⟨59, _⟩ => ⟨S8192x1, .f32⟩
  | .hbm, ⟨60, _⟩ => ⟨S32x1x256, .i32⟩
  | .hbm, ⟨61, _⟩ => ⟨S32x256, .i32⟩
  | .hbm, ⟨62, _⟩ => ⟨S8192, .i32⟩
  | .hbm, ⟨63, _⟩ => ⟨S8192x1, .i32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S1x8192, .f32⟩
  | .hbm, ⟨69, _⟩ => ⟨S8192, .f32⟩
  | .hbm, ⟨70, _⟩ => ⟨S8192x1, .f32⟩
  | .hbm, ⟨71, _⟩ => ⟨S32x1x256, .i32⟩
  | .hbm, ⟨72, _⟩ => ⟨S32x256, .i32⟩
  | .hbm, ⟨73, _⟩ => ⟨S8192, .i32⟩
  | .hbm, ⟨74, _⟩ => ⟨S8192x1, .i32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S1x8192, .f32⟩
  | .hbm, ⟨80, _⟩ => ⟨S8192, .f32⟩
  | .hbm, ⟨81, _⟩ => ⟨S8192x1, .f32⟩
  | .hbm, ⟨82, _⟩ => ⟨S32x1x256, .i32⟩
  | .hbm, ⟨83, _⟩ => ⟨S32x256, .i32⟩
  | .hbm, ⟨84, _⟩ => ⟨S8192, .i32⟩
  | .hbm, ⟨85, _⟩ => ⟨S8192x1, .i32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S4x2048x2048, .f32⟩
  | .hbm, ⟨91, _⟩ => ⟨S4x2048x2048, .f32⟩
  | .hbm, ⟨92, _⟩ => ⟨S_, .f32⟩
  | .hbm, ⟨93, _⟩ => ⟨S4x2048, .f32⟩
  | .hbm, ⟨94, _⟩ => ⟨S4x2048x1, .f32⟩
  | .hbm, ⟨95, _⟩ => ⟨S_, .f32⟩
  | .hbm, ⟨96, _⟩ => ⟨S4x2048x1, .f32⟩
  | .hbm, ⟨97, _⟩ => ⟨S4x2048x1, .f32⟩
  | .hbm, ⟨98, _⟩ => ⟨S_, .f32⟩
  | .hbm, ⟨99, _⟩ => ⟨S4x2048x1, .f32⟩
  | .hbm, ⟨100, _⟩ => ⟨S4x2048x1, .f32⟩
  | .hbm, ⟨101, _⟩ => ⟨S4x2048x1, .f32⟩
  | .hbm, ⟨102, _⟩ => ⟨S4x2048x2048, .f32⟩
  | .hbm, ⟨103, _⟩ => ⟨S4x2048x2048, .f32⟩
  | .hbm, ⟨104, _⟩ => ⟨S1x1x2048, .f32⟩
  | .hbm, ⟨105, _⟩ => ⟨S4x2048x2048, .f32⟩
  | .hbm, ⟨106, _⟩ => ⟨S4x2048x2048, .f32⟩
  | .hbm, ⟨107, _⟩ => ⟨S4x2048x2048, .f32⟩
  | .hbm, ⟨108, _⟩ => ⟨S4x2048x2048, .f32⟩
  | .hbm, ⟨109, _⟩ => ⟨S4x2048x2048, .f32⟩
  | _, _ => ⟨S32x8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call3_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call4_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call5_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call6_v0 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst : Ref sig .tc := ⟨.hbm, 92, rfl⟩
abbrev main_v69 : Ref sig .tc := ⟨.hbm, 93, rfl⟩
abbrev main_v70 : Ref sig .tc := ⟨.hbm, 94, rfl⟩
abbrev main_cst_0 : Ref sig .tc := ⟨.hbm, 95, rfl⟩
abbrev main_v71 : Ref sig .tc := ⟨.hbm, 96, rfl⟩
abbrev main_v72 : Ref sig .tc := ⟨.hbm, 97, rfl⟩
abbrev main_cst_1 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Proof.Gla.RefTerms.lean ====
/-
  What the reference computes before its loop, as terms of its arguments: the log decays, their running sums over each
  chunk, the decayed queries and keys, and the attention inside each chunk.
-/
module

public import proofs.«01_k».proof.Proof.Gen.ReferenceIdeal.Run
public import Idealize.ShloMosaic.PureOps.Ideal

@[expose] public section

noncomputable section

open Idealize.ShloMosaic Idealize.ShloMosaic.TcCoe Idealize.SL.Sem
open Idealize.ShloMosaic.StableHlo
open Cert.ReferenceIdeal Cert.ReferenceIdeal.Gen Cert.ReferenceIdeal.Value

namespace Cert.Gla.Ref

/-- The tensor of shape `s`, of extended reals. -/
abbrev T (s : Shape) : Type := FVec Ideal s .f32

/-- The gate's pre-activation: the low-rank rows times the up-projection, plus the bias. -/
def ga (gl : T S4x2048x128) (w : T S16x1024) (b : T S1024) : T S4x2048x1024 :=
  addf (Host.dotGeneral dot_S4x2048x16_S16x1024_S4x2048x1024_2_0_01_1_n_n none
      (extractStridedSlice S4x2048x16 ![0, 0, 0] gl slices_S4x2048x128_S4x2048x16_0_0_0) w)
    (broadcastInDim S4x2048x1024 ![0, 1, 2] bcast_S1x1x1024_S4x2048x1024_0_1_2 (broadcastInDim S1x1x1024 ![2] bcast_S1024_S1x1x1024_2 b))

/-- The zero array the logistic compares with. -/
def z : T S4x2048x1024 := broadcastInDim S4x2048x1024 ![] bcast_S_S4x2048x1024 (constant S_ .f32 0x00000000#32)

/-- The logarithm of the logistic function, as jax computes it: minus the softplus of the negation. -/
def ls (x : T S4x2048x1024) : T S4x2048x1024 :=
  Host.negf (select (cmpf .une (subf (Host.negf x) z) (subf (Host.negf x) z)) (addf (Host.negf x) z)
    (addf (maximumf (Host.negf x) z) (Host.log1p (Host.exp (Host.negf (Host.absf (subf (Host.negf x) z)))))))

/-- The log decays: the logarithms of the logistic, over 16. -/
def la (x : T S4x2048x1024) : T S4x2048x1024 :=
  Host.divf x (broadcastInDim S4x2048x1024 ![] bcast_S_S4x2048x1024 (constant S_ .f32 0x41800000#32))

/-- Rows of 4 heads of 256 lanes, by head and chunk. -/
def ch (x : T S4x2048x1024) : T S4x4x32x64x256 :=
  transpose S4x4x32x64x256 [0, 3, 1, 2, 4] (shapeCast S4x32x64x4x256 x shapeCasts_S4x2048x1024_S4x32x64x4x256)
    transposes_S4x32x64x4x256_S4x4x32x64x256_0_3_1_2_4

/-- Rows of 4 heads of 512 lanes, by head and chunk. -/
def chv (x : T S4x2048x2048) : T S4x4x32x64x512 :=
  transpose S4x4x32x64x512 [0, 3, 1, 2, 4] (shapeCast S4x32x64x4x512 x shapeCasts_S4x2048x2048_S4x32x64x4x512)
    transposes_S4x32x64x4x512_S4x4x32x64x512_0_3_1_2_4

/-- The scaled queries. -/
def q (x : T S4x2048x6144) : T S4x4x32x64x256 :=
  mulf (ch (extractStridedSlice S4x2048x1024 ![0, 0, 0] x slices_S4x2048x6144_S4x2048x1024_0_0_0))
    (broadcastInDim S4x4x32x64x256 ![] bcast_S_S4x4x32x64x256 (constant S_ .f32 0x3D800000#32))

/-- The keys. -/
def k (x : T S4x2048x6144) : T S4x4x32x64x256 :=
  ch (extractStridedSlice S4x2048x1024 ![0, 0, 1024] x slices_S4x2048x6144_S4x2048x1024_0_0_1024)

/-- The values. -/
def v (x : T S4x2048x6144) : T S4x4x32x64x512 :=
  chv (extractStridedSlice S4x2048x2048 ![0, 0, 2048] x slices_S4x2048x6144_S4x2048x2048_0_0_2048)

/-- The running sum over a chunk. -/
def cs (a : T S4x4x32x64x256) : T S4x4x32x64x256 :=
  Host.reduceWindowAdd ![1, 1, 1, 64, 1] ![1, 1, 1, 1, 1] ![0, 0, 0, 63, 0] ![0, 0, 0, 0, 0] a
    (broadcastInDim S_ ![] bcast_S_S_ (constant S_ .f32 0x00000000#32)) reduceWindows_S4x4x32x64x256_S4x4x32x64x256_w1s1p0_0_w1s1p0_0_w1s1p0_0_w64s1p63_0_w1s1p0_0 h_S_

/-- The running decays of the launched arrays. -/
def b (gl : T S4x2048x128) (w : T S16x1024) (bg : T S1024) : T S4x4x32x64x256 := cs (ch (la (ls (ga gl w bg))))

/-- A chunk's whole decay. -/
def last (a : T S4x4x32x64x256) : T S4x4x32x1x256 :=
  extractStridedSlice S4x4x32x1x256 ![0, 0, 0, 63, 0] a slices_S4x4x32x64x256_S4x4x32x1x256_0_0_0_63_0

/-- The queries times the exponential of the running decay. -/
def qe (x a : T S4x4x32x64x256) : T S4x4x32x64x256 := mulf x (Host.exp a)

/-- The keys times the exponential of minus the running decay. -/
def ke (x a : T S4x4x32x64x256) : T S4x4x32x64x256 := mulf x (Host.exp (Host.negf a))

/-- The keys decayed to the end of their chunk. -/
def kt (x a : T S4x4x32x64x256) : T S4x4x32x64x256 :=
  mulf x (Host.exp (subf (broadcastInDim S4x4x32x64x256 ![0, 1, 2, 3, 4] bcast_S4x4x32x1x256_S4x4x32x64x256_0_1_2_3_4 (last a)) a))

/-- The causal mask of a chunk. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The masked products of queries and keys inside each chunk. -/
def att (x y : T S4x4x32x64x256) : T S4x4x32x64x64 :=
  select (broadcastInDim S4x4x32x64x64 ![3, 4] bcast_S64x64_S4x4x32x64x64_3_4 tri)
    (Host.dotGeneral (F := Ideal) (φ₁ := .f32) (φ₂ := .f32) dot_S4x4x32x64x256_S4x4x32x64x256_S4x4x32x64x64_4_4_3_3_012_012 none x y)
    (broadcastInDim S4x4x32x64x64 ![] bcast_S_S4x4x32x64x64 (constant S_ .f32 0x00000000#32))

/-- What each position reads inside its own chunk. -/
def intra (x : T S4x4x32x64x64) (y : T S4x4x32x64x512) : T S4x4x32x64x512 :=
  Host.dotGeneral (F := Ideal) (φ₁ := .f32) (φ₂ := .f32) dot_S4x4x32x64x64_S4x4x32x64x512_S4x4x32x64x512_4_3_3_4_012_012 none x y

/-- Rows of 256, chunks first. -/
def cf (x : T S4x4x32x64x256) : T S32x4x4x64x256 := transpose S32x4x4x64x256 [2, 0, 1, 3, 4] x transposes_S4x4x32x64x256_S32x4x4x64x256_2_0_1_3_4
/-- Rows of 512, chunks first. -/
def cfv (x : T S4x4x32x64x512) : T S32x4x4x64x512 := transpose S32x4x4x64x512 [2, 0, 1, 3, 4] x transposes_S4x4x32x64x512_S32x4x4x64x512_2_0_1_3_4
/-- The exponentials of the chunks' whole decays, chunks first. -/
def ea (x : T S4x4x32x1x256) : T S32x4x4x256 :=
  transpose S32x4x4x256 [2, 0, 1, 3] (Host.exp (shapeCast S4x4x32x256 x shapeCasts_S4x4x32x1x256_S4x4x32x256)) transposes_S4x4x32x256_S32x4x4x256_2_0_1_3

/-! A called function's arguments and results are the buffers themselves. -/

theorem of_v8 (x) : (TRef.of main_v8 : TRef sig ⟨S4x2048x1024, .f32⟩).ofBuf (Val := Elt Ideal) x = x := rfl
theorem of_v9 (x) : (TRef.of main_v9 : TRef sig ⟨S4x2048x1024, .f32⟩).toBuf (Val := Elt Ideal) x = x := rfl
theorem of_v21 (x) : (TRef.of main_v21 : TRef sig ⟨S4x4x32x64x256, .f32⟩).ofBuf (Val := Elt Ideal) x = x := rfl
theorem of_v22 (x) : (TRef.of main_v22 : TRef sig ⟨S4x4x32x64x256, .f32⟩).toBuf (Val := Elt Ideal) x = x := rfl
theorem of_v33 (x) : (TRef.of main_v33 : TRef sig ⟨S64x64, .i1⟩).ofBuf (Val := Elt Ideal) x = x := rfl
theorem of_c1 (x) : (TRef.of main_cst_1 : TRef sig ⟨S_, .f32⟩).ofBuf (Val := Elt Ideal) x = x := rfl
theorem of_v35 (x) : (TRef.of main_v35 : TRef sig ⟨S4x4x32x64x64, .f32⟩).ofBuf (Val := Elt Ideal) x = x := rfl
theorem of_v36 (x) : (TRef.of main_v36 : TRef sig ⟨S4x4x32x64x64, .f32⟩).toBuf (Val := Elt Ideal) x = x := rfl

section
variable (m : (ℓ : Loc nD τ sig) → Buf (Elt Ideal) ℓ) (c : Dev nD)

/-- The launched arrays of the reference. -/
abbrev rX : T S4x2048x6144 := m ((c : Thread nD τ).loc main_arg0)
abbrev rL : T S4x2048x128 := m ((c : Thread nD τ).loc main_arg1)
abbrev rW : T S16x1024 := m ((c : Thread nD τ).loc main_arg2)
abbrev rB : T S1024 := m ((c : Thread nD τ).loc main_arg3)
abbrev rN : T S512 := m ((c : Thread nD τ).loc main_arg4)

/-- The running decays. -/
abbrev B : T S4x4x32x64x256 := b (rL m c) (rW m c) (rB m c)

set_option maxRecDepth 100000

theorem e_qe : entryContents preI m c (Proc.devRef .tc main_v46_0) = cf (qe (q (rX m c)) (B m c)) := by
  simp only [entryContents, afterL_cons, afterL_nil]
  after_reads_simp
  simp only [TRef.ofBuf_toBuf, of_v8, of_v9, of_v21, of_v22, of_v33, of_c1, of_v35, of_v36]
  rfl

theorem e_kt : entryContents preI m c (Proc.devRef .tc main_v46_1) = cf (kt (k (rX m c)) (B m c)) := by
  simp only [entryContents, afterL_cons, afterL_nil]
  after_reads_simp
  simp only [TRef.ofBuf_toBuf, of_v8, of_v9, of_v21, of_v22, of_v33, of_c1, of_v35, of_v36]
  rfl

theorem e_v : entryContents preI m c (Proc.devRef .tc main_v46_2) = cfv (v (rX m c)) := by
  simp only [entryContents, afterL_cons, afterL_nil]
  after_reads_simp
  rfl

theorem e_a : entryContents preI m c (Proc.devRef .tc main_v46_3) = ea (last (B m c)) := by
  simp only [entryContents, afterL_cons, afterL_nil]
  after_reads_simp
  simp only [TRef.ofBuf_toBuf, of_v8, of_v9, of_v21, of_v22, of_v33, of_c1, of_v35, of_v36]
  rfl

theorem e_s : entryContents preI m c (Proc.devRef .tc main_v46_5)
    = (broadcastInDim S4x4x256x512 ![] bcast_S_S4x4x256x512 (constant S_ .f32 0x00000000#32) : T S4x4x256x512) := by
  simp only [entryContents, afterL_cons, afterL_nil]
  after_reads_simp
  rfl

theorem e_intra : entryContents preI m c (Proc.devRef .tc main_v37)
    = intra (att (qe (q (rX m c)) (B m c)) (ke (k (rX m c)) (B m c))) (v (rX m c)) := by
  simp only [entryContents, afterL_cons, afterL_nil]
  after_reads_simp
  simp only [TRef.ofBuf_toBuf, of_v8, of_v9, of_v21, of_v22, of_v33, of_c1, of_v35, of_v36]
  rfl

theorem e_g : entryContents preI m c (Proc.devRef .tc main_v3)
    = extractStridedSlice S4x2048x2048 ![0, 0, 4096] (rX m c) slices_S4x2048x6144_S4x2048x2048_0_0_4096 := by
  simp only [entryContents, afterL_cons, afterL_nil]
  after_reads_simp

theorem e_n : entryContents preI m c (Proc.devRef .tc main_arg4) = rN m c := by
  simp only [entryContents, afterL_cons, afterL_nil]
  after_reads_simp

end

end Cert.Gla.Ref

end
-- ==== Proof.Gla.Chunk.lean ====
/-
  Gated linear attention, one chunk of 64 positions of one head, over the extended reals: what the chunk adds to the
  outputs and to the running state. Nothing here is about a program; the kernel and the reference are both read as these
  functions.
-/
module

public import Idealize.ShloMosaic.Lib.Pointwise

@[expose] public section

noncomputable section

open Idealize.ShloMosaic

namespace Cert.Gla

/-- A chunk's running decay: the sum of the log decays of the positions up to and including `i`. -/
def cum (la : Fin 64 → Fin 256 → EReal) (i : Fin 64) (d : Fin 256) : EReal :=
  ∑ j : Fin 64, if j ≤ i then la j d else 0

/-- The state after a chunk (value lane `e`, key lane `d`): the state before it, decayed by the chunk's whole decay, plus
    the keys and values of the chunk, each decayed from its position to the chunk's end. -/
def stepS (b k : Fin 64 → Fin 256 → EReal) (v : Fin 64 → Fin 512 → EReal) (s : Fin 512 → Fin 256 → EReal)
    (e : Fin 512) (d : Fin 256) : EReal :=
  Ideal.exp (b 63 d) * s e d + ∑ i : Fin 64, v i e * (k i d * Ideal.exp (b 63 d - b i d))

/-- What position `i` of a chunk reads: the values of the chunk's positions up to `i`, weighted by the decayed products of
    query and key, plus the state before the chunk read by the decayed query. -/
def outC (q b k : Fin 64 → Fin 256 → EReal) (v : Fin 64 → Fin 512 → EReal) (s : Fin 512 → Fin 256 → EReal)
    (i : Fin 64) (e : Fin 512) : EReal :=
  (∑ j : Fin 64, if j ≤ i then (∑ d : Fin 256, (q i d * Ideal.exp (b i d)) * (k j d * Ideal.exp (-(b j d)))) * v j e else 0)
    + ∑ d : Fin 256, (q i d * Ideal.exp (b i d)) * s e d

/-- Rows `o … o + 63` of a block of 256 rows. -/
abbrev rowAt (o : ℕ) (ho : o + 64 ≤ 256) (i : Fin 64) : Fin 256 := ⟨o + i.val, by omega⟩

/-- The root-mean-square normalization of a row of 512, weighted by `w`. -/
def rms (o : Fin 512 → EReal) (w : EReal) (e : Fin 512) : EReal :=
  o e * Ideal.rsqrt (Ideal.div (∑ e' : Fin 512, o e' * o e') (Ideal.ofBits .f32 0x44000000#32) + Ideal.ofBits .f32 0x358637BD#32) * w

/-- The logarithm of the logistic function, as the negative of a softplus. -/
def logSig (x : EReal) : EReal := min x 0 - Ideal.log1p (Ideal.exp (0 - max x (-x)))

end Cert.Gla

end
-- ==== Proof.Gla.Seq.lean ====
/-
  Gated linear attention of one head over the whole sequence, chunk after chunk: the state before each chunk, what each
  chunk puts out, and the normalized and gated output. The rows are given as functions of the position.
-/
module

public import proofs.«01_k».proof.Proof.Gla.Chunk

@[expose] public section

noncomputable section

open Idealize.ShloMosaic

namespace Cert.Gla

/-- Chunk `n`'s 64 rows of a sequence of rows. -/
def rowsC {m : ℕ} (f : ℕ → Fin m → EReal) (n : ℕ) (i : Fin 64) : Fin m → EReal := f (64 * n + i.val)

/-- Chunk `n`'s running decay, from the log decays of the sequence. -/
def bC (L : ℕ → Fin 256 → EReal) (n : ℕ) : Fin 64 → Fin 256 → EReal := cum (rowsC L n)

/-- The state before chunk `n`: zero at the start of the sequence. -/
def stateAt (K L : ℕ → Fin 256 → EReal) (V : ℕ → Fin 512 → EReal) : ℕ → Fin 512 → Fin 256 → EReal
  | 0 => fun _ _ => 0
  | n + 1 => stepS (bC L n) (rowsC K n) (rowsC V n) (stateAt K L V n)

/-- What position `i` of chunk `n` reads. -/
def outAt (Q K L : ℕ → Fin 256 → EReal) (V : ℕ → Fin 512 → EReal) (n : ℕ) (i : Fin 64) (e : Fin 512) : EReal :=
  outC (rowsC Q n) (bC L n) (rowsC K n) (rowsC V n) (stateAt K L V n) i e

/-- What position `l` of the sequence reads. -/
def outRow (Q K L : ℕ → Fin 256 → EReal) (V : ℕ → Fin 512 → EReal) (l : ℕ) (e : Fin 512) : EReal :=
  outAt Q K L V (l / 64) ⟨l % 64, Nat.mod_lt _ (by decide)⟩ e

/-- The swish of the gate. -/
def silu (g : EReal) : EReal := g * Ideal.logistic g

/-- The sum of the three parts the kernel splits a log decay into is the log decay, unless that is `+∞`. -/
theorem split_sum {x : EReal} (hx : x ≠ ⊤) : x + (x - x) + (x - x - (x - x)) = x := by
  induction x using EReal.rec with
  | bot => simp
  | top => exact absurd rfl hx
  | coe r => simp [← EReal.coe_sub]

/-- The logarithm of one plus something nonnegative is nonnegative. -/
theorem log1p_nonneg {x : EReal} (hx : 0 ≤ x) : 0 ≤ Ideal.log1p x := by
  induction x using EReal.rec with
  | bot => simp at hx
  | top => rw [Ideal.log1p, show (1 : EReal) + ⊤ = ⊤ from rfl]; exact le_top
  | coe r =>
    have hr : 0 ≤ r := by exact_mod_cast hx
    have h1 : (1 : EReal) + (r : EReal) = ((1 + r : ℝ) : EReal) := by push_cast; rfl
    rw [Ideal.log1p, h1, Ideal.log_coe, if_neg (by linarith)]
    exact_mod_cast Real.log_nonneg (by linarith)

theorem exp_nonneg (x : EReal) : 0 ≤ Ideal.exp x := by
  induction x using EReal.rec with
  | bot => simp
  | top => simp
  | coe r => simp only [Ideal.exp_coe]; exact_mod_cast (Real.exp_pos r).le

/-- A log decay is never positive, so never `+∞`. -/
theorem logSig_le (x : EReal) : logSig x ≤ 0 := by
  have h := log1p_nonneg (exp_nonneg (0 - max x (-x)))
  unfold logSig
  rw [sub_eq_add_neg]
  exact add_nonpos (min_le_right _ _) (EReal.neg_le_zero.mpr h)

end Cert.Gla

end
-- ==== Proof.Gla.Model.lean ====
/-
  Gated linear attention as a function of the launched arrays: the queries, keys, values and output gates are lanes of one
  projected array, the log decays come from the low-rank gate.
-/
module

public import proofs.«01_k».proof.Proof.Gla.Seq

@[expose] public section

noncomputable section

open Idealize.ShloMosaic

namespace Cert.Gla

section
variable (x : (⟨3, ![4, 2048, 6144]⟩ : Shape).Idx → EReal) (gl : (⟨3, ![4, 2048, 128]⟩ : Shape).Idx → EReal)
  (w : (⟨2, ![16, 1024]⟩ : Shape).Idx → EReal) (bg : (⟨1, ![1024]⟩ : Shape).Idx → EReal) (nw : (⟨1, ![512]⟩ : Shape).Idx → EReal)

/-- Lane `k` of position `l` of batch entry `b` of the projection. -/
def xAt (b l k : ℕ) : EReal := x (ix3 (Fin.ofNat 4 b) (Fin.ofNat 2048 l) (Fin.ofNat 6144 k))

/-- Batch entry `b`, head `h`: the scaled queries, the keys, the values and the gates, row by row. -/
def qRow (b h l : ℕ) (d : Fin 256) : EReal := xAt x b l (256 * h + d.val) * Ideal.ofBits .f32 0x3D800000#32
def kRow (b h l : ℕ) (d : Fin 256) : EReal := xAt x b l (1024 + 256 * h + d.val)
def vRow (b h l : ℕ) (e : Fin 512) : EReal := xAt x b l (2048 + 512 * h + e.val)
def gRow (b h l : ℕ) (e : Fin 512) : EReal := xAt x b l (4096 + 512 * h + e.val)

/-- The log decay: the logarithm of the logistic function of the gate's projection, over 16. -/
def lRow (b h l : ℕ) (d : Fin 256) : EReal :=
  Ideal.div (logSig ((∑ j : Fin 16, gl (ix3 (Fin.ofNat 4 b) (Fin.ofNat 2048 l) ⟨j.val, by omega⟩) * w (ix2 j (Fin.ofNat 1024 (256 * h + d.val))))
    + bg (ix1 (Fin.ofNat 1024 (256 * h + d.val))))) (Ideal.ofBits .f32 0x41800000#32)

/-- Something not positive over 16 is not `+∞`. -/
theorem div16_ne_top {x : EReal} (hx : x ≤ 0) : Ideal.div x (Ideal.ofBits .f32 0x41800000#32) ≠ ⊤ := by
  have h16 : Ideal.ofBits .f32 0x41800000#32 = ((16 : ℝ) : EReal) := by
    simp [Ideal.ofBits, Ideal.ieee, -EReal.coe_mul]; norm_num
  have h0 : ((16 : ℝ) : EReal) ≠ 0 := by exact_mod_cast (by norm_num : (16 : ℝ) ≠ 0)
  rw [h16, Ideal.div, if_neg h0, ← EReal.coe_inv]
  induction x using EReal.rec with
  | bot => rw [EReal.bot_mul_coe_of_pos (by norm_num)]; exact bot_ne_top
  | top => exact absurd hx (by simp)
  | coe r => rw [← EReal.coe_mul]; exact EReal.coe_ne_top _

theorem lRow_ne_top (b h l : ℕ) (d : Fin 256) : lRow gl w bg b h l d ≠ ⊤ := div16_ne_top (logSig_le _)

/-- Head `h`'s outputs: what position `l` reads, normalized and gated. -/
def gla (b h l : ℕ) (e : Fin 512) : EReal :=
  rms (outRow (qRow x b h) (kRow x b h) (lRow gl w bg b h) (vRow x b h) l) (nw (ix1 e)) e * silu (gRow x b h l e)

end

end Cert.Gla

end
-- ==== Proof.Gla.RefCum.lean ====
/-
  The reference's cumulative sum over the 64 positions of a chunk, a window of 64 padded by 63 in front, is the sum of the
  positions up to and including its own.
-/
module

public import proofs.«01_k».proof.Proof.Gla.RefTerms
public import proofs.«01_k».proof.Proof.Gla.Model
public import Idealize.ShloMosaic.Lib.Pointwise

@[expose] public section

noncomputable section

open Idealize.ShloMosaic
open Cert.ReferenceIdeal Cert.ReferenceIdeal.Gen

namespace Cert.Gla.Ref

/-- Adding up a list from an initial value. -/
theorem foldl_add {α : Type} (f : α → EReal) : ∀ (l : List α) (z : EReal), l.foldl (fun r n => r + f n) z = z + (l.map f).sum
  | [], z => by simp
  | x :: l, z => by rw [List.foldl_cons, foldl_add f l, List.map_cons, List.sum_cons, add_assoc]

/-- The window's `n`-th place is `n` along the axis of the positions. -/
theorem window_at : ∀ n : Fin (⟨5, ![1, 1, 1, 64, 1]⟩ : Shape).numel, ∀ a : Fin 5,
    ((⟨5, ![1, 1, 1, 64, 1]⟩ : Shape).rowMajor.symm n a).val = if a = 3 then n.val else 0 := by
  decide +kernel

/-- The `n`-th place of the window along axis `a`. -/
def wv (n : Fin 64) (a : Fin 5) : ℕ := ((⟨5, ![1, 1, 1, 64, 1]⟩ : Shape).rowMajor.symm n a).val

/-- A sum over a window that ends at `i` is the sum of the places up to `i`. -/
theorem window_sum (i : Fin 64) (f : Fin 64 → EReal) (g : Fin 64 → EReal)
    (hg : ∀ n : Fin 64, g n = if h : 63 ≤ i.val + n.val then f ⟨i.val + n.val - 63, by omega⟩ else 0) :
    ∑ n, g n = ∑ j : Fin 64, if j ≤ i then f j else 0 := by
  refine Fintype.sum_equiv (Equiv.addRight (i + 1)) _ _ fun n => ?_
  rw [hg, Equiv.coe_addRight]
  have hv : (n + (i + 1)).val = (n.val + (i.val + 1)) % 64 := by
    simp [Fin.val_add, Nat.add_mod]
  by_cases h : 63 ≤ i.val + n.val
  · rw [dif_pos h, if_pos (by rw [Fin.le_def, hv]; omega)]
    exact congrArg f (Fin.ext (by rw [hv]; show i.val + n.val - 63 = _; omega))
  · rw [dif_neg h, if_neg (by rw [Fin.le_def, hv]; omega)]

/-- The running sum at a position. -/
theorem cs_at (a : T S4x4x32x64x256) (b h : Fin 4) (n : Fin 32) (i : Fin 64) (d : Fin 256) :
    cs a (ix5 b h n i d) = cum (fun j d => a (ix5 b h n j d)) i d := by
  have hz : (broadcastInDim S_ ![] bcast_S_S_ (constant (F := Ideal) S_ .f32 0x00000000#32) : T S_) (Shape.Idx.first h_S_) = (0 : EReal) := by
    show Ideal.ofBits .f32 0x00000000#32 = 0
    simp [Ideal.ofBits, Ideal.ieee]
  unfold cs Host.reduceWindowAdd cum
  rw [hz]
  show List.foldl _ _ _ = _
  refine (foldl_add _ _ _).trans ?_
  rw [zero_add, ← List.ofFn_eq_map, List.sum_ofFn]
  refine window_sum i (fun j => a (ix5 b h n j d)) _ fun p => ?_
  have h0 : wv p 0 = 0 := window_at p 0
  have h1 : wv p 1 = 0 := window_at p 1
  have h2 : wv p 2 = 0 := window_at p 2
  have h3 : wv p 3 = p.val := window_at p 3
  have h4 : wv p 4 = 0 := window_at p 4
  by_cases hh : 63 ≤ i.val + p.val
  · rw [dif_pos hh]
    refine (dif_pos fun q => ?_).trans (congrArg a (funext fun q => Fin.ext ?_))
    · fin_cases q
      · exact ⟨Nat.zero_le _, by have := b.isLt; show b.val * 1 + wv p 0 - 0 < 4; omega⟩
      · exact ⟨Nat.zero_le _, by have := h.isLt; show h.val * 1 + wv p 1 - 0 < 4; omega⟩
      · exact ⟨Nat.zero_le _, by have := n.isLt; show n.val * 1 + wv p 2 - 0 < 32; omega⟩
      · exact ⟨by show 63 ≤ i.val * 1 + wv p 3; omega, by have := p.isLt; show i.val * 1 + wv p 3 - 63 < 64; omega⟩
      · exact ⟨Nat.zero_le _, by have := d.isLt; show d.val * 1 + wv p 4 - 0 < 256; omega⟩
    · fin_cases q
      · show b.val * 1 + wv p 0 - 0 = b.val; omega
      · show h.val * 1 + wv p 1 - 0 = h.val; omega
      · show n.val * 1 + wv p 2 - 0 = n.val; omega
      · show i.val * 1 + wv p 3 - 63 = i.val + p.val - 63; omega
      · show d.val * 1 + wv p 4 - 0 = d.val; omega
  · rw [dif_neg hh]
    refine dif_neg fun hin => hh ?_
    have hl : 63 ≤ i.val * 1 + wv p 3 := (hin 3).1
    omega

end Cert.Gla.Ref

end
-- ==== Proof.Gla.RefRead.lean ====
/-
  The reference's arrays before its loop, position by position.
-/
module

public import proofs.«01_k».proof.Proof.Gla.RefCum

@[expose] public section

set_option maxHeartbeats 1000000

noncomputable section

open Idealize.ShloMosaic
open Cert.ReferenceIdeal Cert.ReferenceIdeal.Gen

namespace Cert.Gla.Ref

/-- Position `i` of chunk `n` in the sequence. -/
abbrev pos (n : Fin 32) (i : Fin 64) : Fin 2048 := ⟨n.val * 64 + i.val, by omega⟩
/-- Lane `d` of head `h` among 1024 lanes. -/
abbrev lane (h : Fin 4) (d : Fin 256) : Fin 1024 := ⟨h.val * 256 + d.val, by omega⟩
/-- Lane `e` of head `h` among 2048 lanes. -/
abbrev lanev (h : Fin 4) (e : Fin 512) : Fin 2048 := ⟨h.val * 512 + e.val, by omega⟩

theorem ch_at (x : T S4x2048x1024) (b h : Fin 4) (n : Fin 32) (i : Fin 64) (d : Fin 256) :
    ch x (ix5 b h n i d) = x (ix3 b (pos n i) (lane h d)) := by
  unfold ch
  pointwise

theorem chv_at (x : T S4x2048x2048) (b h : Fin 4) (n : Fin 32) (i : Fin 64) (e : Fin 512) :
    chv x (ix5 b h n i e) = x (ix3 b (pos n i) (lanev h e)) := by
  unfold chv
  pointwise

theorem ga_at (gl : T S4x2048x128) (w : T S16x1024) (bg : T S1024) (b : Fin 4) (l : Fin 2048) (d : Fin 1024) :
    ga gl w bg (ix3 b l d) = (∑ j : Fin 16, gl (ix3 b l ⟨j.val, by omega⟩) * w (ix2 j d)) + bg (ix1 d) := by
  unfold ga
  pointwise

/-- The comparison of two positions' words. -/
theorem tri_word : ∀ i j : Fin 64, Scalar.select (IntOp.cmpi CmpIPredicate.sge (IntOp.addi (BitVec.ofNat 32 i.val) 0#32)
    (BitVec.ofNat 32 j.val)) 1#1 0#1 = if j ≤ i then 1#1 else 0#1 := by
  decide +kernel

theorem tri_at (i j : Fin 64) : tri (ix2 i j) = if j ≤ i then 1#1 else 0#1 := by
  unfold tri
  pointwise
  exact tri_word i j

/-- Minus the softplus of the negation is the logarithm of the logistic function. -/
theorem neg_softplus (x : EReal) : -(max (-x) 0 + Ideal.log1p (Ideal.exp (-(max (-x) (-(-x)))))) = logSig x := by
  have h0 : (0 : EReal) ≤ max (-x) 0 := le_max_right _ _
  have h1 := log1p_nonneg (exp_nonneg (-(max (-x) (-(-x)))))
  rw [EReal.neg_add (Or.inl (ne_of_gt (lt_of_lt_of_le EReal.bot_lt_zero h0))) (Or.inr (ne_of_gt (lt_of_lt_of_le EReal.bot_lt_zero h1)))]
  unfold logSig
  rw [neg_neg, zero_sub, max_comm x (-x)]
  congr 1
  rcases le_total x 0 with h | h
  · rw [min_eq_left h, max_eq_left (by rw [EReal.neg_nonneg]; exact h), neg_neg]
  · rw [min_eq_right h, max_eq_right (by rw [EReal.neg_le_zero]; exact h), neg_zero]

theorem ls_at (x : T S4x2048x1024) (i : S4x2048x1024.Idx) : ls x i = logSig (x i) := by
  unfold ls z
  pointwise
  rw [if_neg (fun h => h rfl)]
  exact neg_softplus (x i)

theorem la_at (x : T S4x2048x1024) (i : S4x2048x1024.Idx) : la x i = Ideal.div (x i) (Ideal.ofBits .f32 0x41800000#32) := by
  unfold la
  pointwise

theorem q_at (x : T S4x2048x6144) (b h : Fin 4) (n : Fin 32) (i : Fin 64) (d : Fin 256) :
    q x (ix5 b h n i d) = x (ix3 b (pos n i) ⟨h.val * 256 + d.val, by omega⟩) * Ideal.ofBits .f32 0x3D800000#32 := by
  unfold q
  pointwise [ch_at]

theorem k_at (x : T S4x2048x6144) (b h : Fin 4) (n : Fin 32) (i : Fin 64) (d : Fin 256) :
    k x (ix5 b h n i d) = x (ix3 b (pos n i) ⟨1024 + (h.val * 256 + d.val), by omega⟩) := by
  unfold k
  pointwise [ch_at]

theorem v_at (x : T S4x2048x6144) (b h : Fin 4) (n : Fin 32) (i : Fin 64) (e : Fin 512) :
    v x (ix5 b h n i e) = x (ix3 b (pos n i) ⟨2048 + (h.val * 512 + e.val), by omega⟩) := by
  unfold v
  pointwise [chv_at]

theorem qe_at (x a : T S4x4x32x64x256) (b h : Fin 4) (n : Fin 32) (i : Fin 64) (d : Fin 256) :
    qe x a (ix5 b h n i d) = x (ix5 b h n i d) * Ideal.exp (a (ix5 b h n i d)) := by
  unfold qe
  pointwise

theorem ke_at (x a : T S4x4x32x64x256) (b h : Fin 4) (n : Fin 32) (i : Fin 64) (d : Fin 256) :
    ke x a (ix5 b h n i d) = x (ix5 b h n i d) * Ideal.exp (-(a (ix5 b h n i d))) := by
  unfold ke
  pointwise

theorem kt_at (x a : T S4x4x32x64x256) (b h : Fin 4) (n : Fin 32) (i : Fin 64) (d : Fin 256) :
    kt x a (ix5 b h n i d) = x (ix5 b h n i d) * Ideal.exp (a (ix5 b h n 63 d) - a (ix5 b h n i d)) := by
  unfold kt last
  pointwise

theorem att_at (x y : T S4x4x32x64x256) (b h : Fin 4) (n : Fin 32) (i j : Fin 64) :
    att x y (ix5 b h n i j) = if j ≤ i then ∑ d : Fin 256, x (ix5 b h n i d) * y (ix5 b h n j d) else 0 := by
  unfold att
  pointwise [tri_at]
  by_cases hji : j ≤ i
  · simp only [if_pos hji]; rfl
  · simp only [if_neg hji]; rfl

theorem intra_at (x : T S4x4x32x64x64) (y : T S4x4x32x64x512) (b h : Fin 4) (n : Fin 32) (i : Fin 64) (e : Fin 512) :
    intra x y (ix5 b h n i e) = ∑ j : Fin 64, x (ix5 b h n i j) * y (ix5 b h n j e) := by
  unfold intra
  pointwise

theorem cf_at (x : T S4x4x32x64x256) (b h : Fin 4) (n : Fin 32) (i : Fin 64) (d : Fin 256) :
    cf x (ix5 n b h i d) = x (ix5 b h n i d) := by
  unfold cf
  pointwise

theorem cfv_at (x : T S4x4x32x64x512) (b h : Fin 4) (n : Fin 32) (i : Fin 64) (e : Fin 512) :
    cfv x (ix5 n b h i e) = x (ix5 b h n i e) := by
  unfold cfv
  pointwise

theorem ea_at (a : T S4x4x32x64x256) (b h : Fin 4) (n : Fin 32) (d : Fin 256) :
    ea (last a) (ix4 n b h d) = Ideal.exp (a (ix5 b h n 63 d)) := by
  unfold ea last
  pointwise

end Cert.Gla.Ref

end
-- ==== Proof.Gla.RefStep.lean ====
/-
  One trip of the reference's loop: the chunk's rows read at the trip's number, the state stepped, the chunk's output
  row block written.
-/
module

public import proofs.«01_k».proof.Proof.Gla.RefRead
public import Idealize.ShloMosaic.Lib.DynamicIndex
public import Idealize.ShloMosaic.Lib.Pipeline.Value

@[expose] public section

set_option maxHeartbeats 1000000

noncomputable section

open Idealize.ShloMosaic Idealize.ShloMosaic.StableHlo
open Cert.ReferenceIdeal Cert.ReferenceIdeal.Gen Cert.ReferenceIdeal.Value

namespace Cert.Gla.Ref

/-- The starts of a slice of five axes at trip `n`. -/
def st5 (n : ℕ) : Fin 5 → Int := fun k => ((![(fun _ => BitVec.ofNat 32 n), constantI S_ 32 0#32, constantI S_ 32 0#32,
  constantI S_ 32 0#32, constantI S_ 32 0#32] : Fin 5 → IVec S_ 32) k (Shape.Idx.first h_S_)).toInt
/-- The starts of a slice of four axes at trip `n`. -/
def st4 (n : ℕ) : Fin 4 → Int := fun k => ((![(fun _ => BitVec.ofNat 32 n), constantI S_ 32 0#32, constantI S_ 32 0#32,
  constantI S_ 32 0#32] : Fin 4 → IVec S_ 32) k (Shape.Idx.first h_S_)).toInt

theorem st5_eq : ∀ n : Fin 32, ∀ a, st5 n.val a = (![n.val, 0, 0, 0, 0] a : ℕ) := by decide +kernel
theorem st4_eq : ∀ n : Fin 32, ∀ a, st4 n.val a = (![n.val, 0, 0, 0] a : ℕ) := by decide +kernel

/-- Chunk `n`'s rows of 256. -/
theorem rows_at (A : T S32x4x4x64x256) (n : Fin 32) (b h : Fin 4) (i : Fin 64) (d : Fin 256) :
    shapeCast S4x4x64x256 (Host.dynamicSlice S1x4x4x64x256 A (st5 n.val) sliceFits_S32x4x4x64x256_S1x4x4x64x256)
      shapeCasts_S1x4x4x64x256_S4x4x64x256 (ix4 b h i d) = A (ix5 n b h i d) := by
  have hs : S32x4x4x64x256.Slices ![n.val, 0, 0, 0, 0] S1x4x4x64x256 := by revert n; decide +kernel
  rw [Host.dynamicSlice_eq_extractStridedSlice S1x4x4x64x256 A (st5 n.val) ![n.val, 0, 0, 0, 0] _ hs (st5_eq n)]
  pointwise

/-- Chunk `n`'s rows of 512. -/
theorem rowsv_at (A : T S32x4x4x64x512) (n : Fin 32) (b h : Fin 4) (i : Fin 64) (e : Fin 512) :
    shapeCast S4x4x64x512 (Host.dynamicSlice S1x4x4x64x512 A (st5 n.val) sliceFits_S32x4x4x64x512_S1x4x4x64x512)
      shapeCasts_S1x4x4x64x512_S4x4x64x512 (ix4 b h i e) = A (ix5 n b h i e) := by
  have hs : S32x4x4x64x512.Slices ![n.val, 0, 0, 0, 0] S1x4x4x64x512 := by revert n; decide +kernel
  rw [Host.dynamicSlice_eq_extractStridedSlice S1x4x4x64x512 A (st5 n.val) ![n.val, 0, 0, 0, 0] _ hs (st5_eq n)]
  pointwise

/-- Chunk `n`'s whole decays. -/
theorem dec_at (A : T S32x4x4x256) (n : Fin 32) (b h : Fin 4) (d : Fin 256) :
    shapeCast S4x4x256 (Host.dynamicSlice S1x4x4x256 A (st4 n.val) sliceFits_S32x4x4x256_S1x4x4x256)
      shapeCasts_S1x4x4x256_S4x4x256 (ix3 b h d) = A (ix4 n b h d) := by
  have hs : S32x4x4x256.Slices ![n.val, 0, 0, 0] S1x4x4x256 := by revert n; decide +kernel
  rw [Host.dynamicSlice_eq_extractStridedSlice S1x4x4x256 A (st4 n.val) ![n.val, 0, 0, 0] _ hs (st4_eq n)]
  pointwise

/-- The state after a trip. -/
def stepState (A : T S4x4x256) (s : T S4x4x256x512) (x : T S4x4x64x256) (y : T S4x4x64x512) : T S4x4x256x512 :=
  addf (mulf (broadcastInDim S4x4x256x512 ![0, 1, 2, 3] bcast_S4x4x256x1_S4x4x256x512_0_1_2_3
      (broadcastInDim S4x4x256x1 ![0, 1, 2] bcast_S4x4x256_S4x4x256x1_0_1_2 A)) s)
    (Host.dotGeneral (F := Ideal) (φ₁ := .f32) (φ₂ := .f32) dot_S4x4x64x256_S4x4x64x512_S4x4x256x512_2_2_3_3_01_01 none x y)

theorem stepState_at (A : T S4x4x256) (s : T S4x4x256x512) (x : T S4x4x64x256) (y : T S4x4x64x512) (b h : Fin 4) (d : Fin 256)
    (e : Fin 512) : stepState A s x y (ix4 b h d e)
      = A (ix3 b h d) * s (ix4 b h d e) + ∑ i : Fin 64, x (ix4 b h i d) * y (ix4 b h i e) := by
  unfold stepState
  pointwise

/-- What a trip's positions read of the state. -/
def stepOut (x : T S4x4x64x256) (s : T S4x4x256x512) : T S1x4x4x64x512 :=
  broadcastInDim S1x4x4x64x512 ![1, 2, 3, 4] bcast_S4x4x64x512_S1x4x4x64x512_1_2_3_4
    (Host.dotGeneral (F := Ideal) (φ₁ := .f32) (φ₂ := .f32) dot_S4x4x64x256_S4x4x256x512_S4x4x64x512_3_2_2_3_01_01 none x s)

theorem stepOut_at (x : T S4x4x64x256) (s : T S4x4x256x512) (b h : Fin 4) (i : Fin 64) (e : Fin 512) :
    stepOut x s (ix5 0 b h i e) = ∑ d : Fin 256, x (ix4 b h i d) * s (ix4 b h d e) := by
  unfold stepOut
  pointwise

theorem put_start : ∀ n : Fin 32, ∀ a : Fin 5, (min (max (st5 n.val a) 0)
    ((S32x4x4x64x512.size a - S1x4x4x64x512.size (a.cast (updateFits_S32x4x4x64x512_S1x4x4x64x512).1.symm) : Nat) : Int)).toNat
      = (![n.val, 0, 0, 0, 0] a : ℕ) := by decide +kernel

/-- Writing a chunk's rows: row block `n` is the update, the others stay. -/
theorem put_at (O : T S32x4x4x64x512) (u : T S1x4x4x64x512) (n j : Fin 32) (b h : Fin 4) (i : Fin 64) (e : Fin 512) :
    Host.dynamicUpdateSlice O u (st5 n.val) updateFits_S32x4x4x64x512_S1x4x4x64x512 (ix5 j b h i e)
      = if j = n then u (ix5 0 b h i e) else O (ix5 j b h i e) := by
  have hs : S32x4x4x64x512.Slices ![n.val, 0, 0, 0, 0] S1x4x4x64x512 := by revert n; decide +kernel
  rw [Host.dynamicUpdateSlice_eq_updateSlice O u (st5 n.val) _ ![n.val, 0, 0, 0, 0] (put_start n) hs]
  pointwise
  by_cases hjn : j = n
  · subst hjn
    rw [dif_pos (by omega), if_pos rfl]
    congr 1
    simp
  · rw [dif_neg (by rw [Fin.ext_iff] at hjn; omega), if_neg hjn]

section
variable (V : Valuation τ sig (Elt Ideal)) (n : Fin 32)
variable (hn : V (Proc.devRef .tc main_v46_4) = fun _ => BitVec.ofNat 32 n.val)
include hn

set_option maxRecDepth 8192 in
theorem step5_eq : step_main_v46_5 V = stepState (shapeCast S4x4x256 (Host.dynamicSlice S1x4x4x256 (V (Proc.devRef .tc main_v46_3) : T S32x4x4x256) (st4 n.val) sliceFits_S32x4x4x256_S1x4x4x256)
      shapeCasts_S1x4x4x256_S4x4x256) (V (Proc.devRef .tc main_v46_5))
    (shapeCast S4x4x64x256 (Host.dynamicSlice S1x4x4x64x256 (V (Proc.devRef .tc main_v46_1) : T S32x4x4x64x256) (st5 n.val) sliceFits_S32x4x4x64x256_S1x4x4x64x256)
      shapeCasts_S1x4x4x64x256_S4x4x64x256)
    (shapeCast S4x4x64x512 (Host.dynamicSlice S1x4x4x64x512 (V (Proc.devRef .tc main_v46_2) : T S32x4x4x64x512) (st5 n.val) sliceFits_S32x4x4x64x512_S1x4x4x64x512)
      shapeCasts_S1x4x4x64x512_S4x4x64x512) := by
  unfold step_main_v46_5
  rw [hn]
  rfl

set_option maxRecDepth 8192 in
theorem step6_eq : step_main_v46_6 V = Host.dynamicUpdateSlice (V (Proc.devRef .tc main_v46_6) : T S32x4x4x64x512) (stepOut
    (shapeCast S4x4x64x256 (Host.dynamicSlice S1x4x4x64x256 (V (Proc.devRef .tc main_v46_0) : T S32x4x4x64x256) (st5 n.val) sliceFits_S32x4x4x64x256_S1x4x4x64x256)
      shapeCasts_S1x4x4x64x256_S4x4x64x256) (V (Proc.devRef .tc main_v46_5))) (st5 n.val) updateFits_S32x4x4x64x512_S1x4x4x64x512 := by
  unfold step_main_v46_6
  rw [hn]
  rfl

end

end Cert.Gla.Ref

end
-- ==== Proof.Gla.RefLoop.lean ====
/-
  The reference's loop: before trip `n` the carried state is the state of the sequence before chunk `n`, and the row blocks
  of the chunks before `n` hold what their positions read of it.
-/
module

public import proofs.«01_k».proof.Proof.Gla.RefStep

@[expose] public section

set_option maxHeartbeats 1000000
set_option maxRecDepth 8192

noncomputable section

open Idealize.ShloMosaic Idealize.ShloMosaic.TcCoe Idealize.SL.Sem Idealize.ShloMosaic.StableHlo
open Cert.ReferenceIdeal Cert.ReferenceIdeal.Gen Cert.ReferenceIdeal.Value

namespace Cert.Gla.Ref

variable (m : (ℓ : Loc nD τ sig) → Buf (Elt Ideal) ℓ) (c : Dev nD)

theorem pos_eq (n : Fin 32) (i : Fin 64) : pos n i = Fin.ofNat 2048 (64 * n.val + i.val) :=
  Fin.ext (by simp only [Fin.val_ofNat]; omega)
theorem lane_eq (h : Fin 4) (d : Fin 256) : lane h d = Fin.ofNat 1024 (256 * h.val + d.val) :=
  Fin.ext (by simp only [Fin.val_ofNat]; omega)
theorem four_eq (b : Fin 4) : Fin.ofNat 4 b.val = b := Fin.ext (by simp only [Fin.val_ofNat]; omega)

/-- The running decay of a position, from the launched arrays. -/
theorem B_at (b h : Fin 4) (n : Fin 32) (i : Fin 64) (d : Fin 256) :
    B m c (ix5 b h n i d) = bC (lRow (rL m c) (rW m c) (rB m c) b.val h.val) n.val i d := by
  unfold B Ref.b
  rw [cs_at]
  unfold bC
  congr 1
  funext j d
  rw [ch_at, la_at, ls_at, ga_at, pos_eq, lane_eq]
  unfold rowsC lRow
  rw [four_eq]

/-- The scaled query of a position. -/
theorem q_row (b h : Fin 4) (n : Fin 32) (i : Fin 64) (d : Fin 256) :
    q (rX m c) (ix5 b h n i d) = rowsC (qRow (rX m c) b.val h.val) n.val i d := by
  rw [q_at, pos_eq]
  unfold rowsC qRow xAt
  rw [four_eq]
  congr 3
  exact Fin.ext (by simp only [Fin.val_ofNat]; omega)

/-- The key of a position. -/
theorem k_row (b h : Fin 4) (n : Fin 32) (i : Fin 64) (d : Fin 256) :
    k (rX m c) (ix5 b h n i d) = rowsC (kRow (rX m c) b.val h.val) n.val i d := by
  rw [k_at, pos_eq]
  unfold rowsC kRow xAt
  rw [four_eq]
  congr 2
  exact Fin.ext (by simp only [Fin.val_ofNat]; omega)

/-- The value of a position. -/
theorem v_row (b h : Fin 4) (n : Fin 32) (i : Fin 64) (e : Fin 512) :
    v (rX m c) (ix5 b h n i e) = rowsC (vRow (rX m c) b.val h.val) n.val i e := by
  rw [v_at, pos_eq]
  unfold rowsC vRow xAt
  rw [four_eq]
  congr 2
  exact Fin.ext (by simp only [Fin.val_ofNat]; omega)

/-- The buffers before trip `n`, as far as the loop reads them. -/
abbrev It (n : ℕ) : Valuation τ sig (Elt Ideal) := STEP^[n] (entryContents preI m c)

theorem It_succ (n : ℕ) : It m c (n + 1) = STEP (It m c n) := Function.iterate_succ_apply' _ _ _

theorem It_qe : ∀ n, It m c n (Proc.devRef .tc main_v46_0) = cf (qe (q (rX m c)) (B m c))
  | 0 => e_qe m c
  | n + 1 => by rw [It_succ, STEP_main_v46_0, It_qe n]
theorem It_kt : ∀ n, It m c n (Proc.devRef .tc main_v46_1) = cf (kt (k (rX m c)) (B m c))
  | 0 => e_kt m c
  | n + 1 => by rw [It_succ, STEP_main_v46_1, It_kt n]
theorem It_v : ∀ n, It m c n (Proc.devRef .tc main_v46_2) = cfv (v (rX m c))
  | 0 => e_v m c
  | n + 1 => by rw [It_succ, STEP_main_v46_2, It_v n]
theorem It_a : ∀ n, It m c n (Proc.devRef .tc main_v46_3) = ea (last (B m c))
  | 0 => e_a m c
  | n + 1 => by rw [It_succ, STEP_main_v46_3, It_a n]
theorem It_ctr (n : ℕ) : It m c n (Proc.devRef .tc main_v46_4) = fun _ => BitVec.ofNat 32 n := by
  refine (atK_agree m c n main_v46_4 (by decide)).symm.trans ?_
  rw [atK_ctr]
  funext _
  simp [Scf.iv]

/-- The carried state before trip `n`. -/
abbrev stI (n : ℕ) : T S4x4x256x512 := It m c n (Proc.devRef .tc main_v46_5)
/-- The output rows before trip `n`. -/
abbrev outI (n : ℕ) : T S32x4x4x64x512 := It m c n (Proc.devRef .tc main_v46_6)

/-- The states of head `h` of batch `b`. -/
abbrev stM (b h : Fin 4) : ℕ → Fin 512 → Fin 256 → EReal :=
  stateAt (kRow (rX m c) b.val h.val) (lRow (rL m c) (rW m c) (rB m c) b.val h.val) (vRow (rX m c) b.val h.val)

/-- One trip's state, entry by entry. -/
theorem stI_succ (n : ℕ) (hn : n < 32) (b h : Fin 4) (d : Fin 256) (e : Fin 512) :
    stI m c (n + 1) (ix4 b h d e) = Ideal.exp (B m c (ix5 b h ⟨n, hn⟩ 63 d)) * stI m c n (ix4 b h d e)
      + ∑ i : Fin 64, kt (k (rX m c)) (B m c) (ix5 b h ⟨n, hn⟩ i d) * v (rX m c) (ix5 b h ⟨n, hn⟩ i e) := by
  have h5 : stI m c (n + 1) = step_main_v46_5 (It m c n) := by
    unfold stI
    rw [It_succ, STEP_main_v46_5]
  rw [h5, step5_eq _ ⟨n, hn⟩ (It_ctr m c n), stepState_at, dec_at, It_a, ea_at]
  refine congrArg (fun z : EReal => _ + z) (Finset.sum_congr rfl fun i _ => ?_)
  rw [rows_at, rowsv_at, It_kt, It_v, cf_at, cfv_at]

/-- One trip's output rows, entry by entry. -/
theorem outI_succ (n : ℕ) (hn : n < 32) (j : Fin 32) (b h : Fin 4) (i : Fin 64) (e : Fin 512) :
    outI m c (n + 1) (ix5 j b h i e) = if j = ⟨n, hn⟩ then ∑ d : Fin 256, qe (q (rX m c)) (B m c) (ix5 b h ⟨n, hn⟩ i d) * stI m c n (ix4 b h d e)
      else outI m c n (ix5 j b h i e) := by
  have h6 : outI m c (n + 1) = step_main_v46_6 (It m c n) := by
    unfold outI
    rw [It_succ, STEP_main_v46_6]
  rw [h6, step6_eq _ ⟨n, hn⟩ (It_ctr m c n), put_at, stepOut_at]
  refine congrArg (fun z : EReal => if j = ⟨n, hn⟩ then z else _) (Finset.sum_congr rfl fun d _ => ?_)
  rw [rows_at, It_qe, cf_at]

/-- The carried state is the state of the sequence before the chunk. -/
theorem stI_eq (b h : Fin 4) (d : Fin 256) (e : Fin 512) : ∀ n, n ≤ 32 → stI m c n (ix4 b h d e) = stM m c b h n e d
  | 0, _ => by
    rw [show stI m c 0 = _ from e_s m c]
    show Ideal.ofBits .f32 0x00000000#32 = 0
    simp [Ideal.ofBits, Ideal.ieee]
  | n + 1, hn => by
    rw [stI_succ m c n (by omega), stI_eq b h d e n (by omega)]
    simp only [kt_at, B_at, k_row, v_row]
    show _ = stepS _ _ _ _ e d
    unfold stepS
    congr 1
    exact Finset.sum_congr rfl fun i _ => mul_comm _ _

/-- The output rows after the loop. -/
theorem outI_eq (j : Fin 32) (b h : Fin 4) (i : Fin 64) (e : Fin 512) : ∀ n, j.val < n → n ≤ 32 →
    outI m c n (ix5 j b h i e) = ∑ d : Fin 256, qe (q (rX m c)) (B m c) (ix5 b h j i d) * stM m c b h j.val e d
  | 0, hj, _ => absurd hj (by omega)
  | n + 1, hj, hn => by
    rw [outI_succ m c n (by omega)]
    by_cases h' : j = ⟨n, by omega⟩
    · rw [if_pos h']
      rw [h']
      exact Finset.sum_congr rfl fun d _ => by rw [stI_eq m c b h d e n (by omega)]
    · rw [if_neg h', outI_eq j b h i e n (by rw [Fin.ext_iff] at h'; simp only at h'; omega) (by omega)]

/-- What position `i` of chunk `n` reads in all: inside its chunk and of the state before it. -/
theorem read_eq (b h : Fin 4) (n : Fin 32) (i : Fin 64) (e : Fin 512) :
    intra (att (qe (q (rX m c)) (B m c)) (ke (k (rX m c)) (B m c))) (v (rX m c)) (ix5 b h n i e) + outI m c 32 (ix5 n b h i e)
      = outAt (qRow (rX m c) b.val h.val) (kRow (rX m c) b.val h.val) (lRow (rL m c) (rW m c) (rB m c) b.val h.val)
          (vRow (rX m c) b.val h.val) n.val i e := by
  rw [intra_at, outI_eq m c n b h i e 32 n.isLt le_rfl]
  unfold outAt outC
  simp only [att_at, qe_at, ke_at, B_at, q_row, k_row, v_row, ite_mul, zero_mul]

end Cert.Gla.Ref

end
-- ==== Proof.Gla.Decay.lean ====
module

public import proofs.«01_k».proof.Proof.Gen.KernelIdeal.Value
public import proofs.«01_k».proof.Proof.Gla.Chunk
public import Idealize.ShloMosaic.Lib.WordCmp
public import Idealize.ShloMosaic.Lib.WordArith

@[expose] public section

noncomputable section

open Idealize.ShloMosaic Idealize.ShloMosaic.TcCoe Idealize.SL.Sem Idealize.ShloMosaic.WordCmp Idealize.ShloMosaic.WordArith
open Cert.KernelIdeal Cert.KernelIdeal.Gen

namespace Cert.Gla

/-- The log decay of row `r` and key lane `d` of a block. -/
theorem pay3_at (gl : FVec Ideal S1x256x128 .f32) (w : FVec Ideal S128x256 .bf16) (bg : FVec Ideal S1x256 .f32) (r d : Fin 256) :
    k0_pay3 (F := Ideal) gl w bg (ix2 r d)
      = Ideal.div (logSig ((∑ j : Fin 128, gl (ix3 0 r j) * w (ix2 j d)) + bg (ix2 0 d))) (Ideal.ofBits .f32 0x41800000#32) := by
  pointwise [k0_pay3, logSig]
  rfl

/-- The three products that make the running decay. -/
theorem pay12_at (T : FVec Ideal S256x256 .bf16) (a b c : FVec Ideal S256x256 .bf16) (r d : Fin 256) :
    k0_pay12 (F := Ideal) T a b c (ix2 r d)
      = (∑ j : Fin 256, T (ix2 r j) * a (ix2 j d)) + (∑ j : Fin 256, T (ix2 r j) * b (ix2 j d)) + (∑ j : Fin 256, T (ix2 r j) * c (ix2 j d)) := by
  pointwise [k0_pay12]

/-- The causal mask within a chunk selects the positions up to the row. -/
theorem causal_at {α : Type} (i j : Fin 64) (x y : α) : Scalar.select (k0_pay13 (ix2 i j)) x y = if j ≤ i then x else y := by
  pointwise [k0_pay13]
  rw [cmpi_sle_ofNat (by have := j.isLt; omega) (by have := i.isLt; omega), select_ofBool]
  simp only [decide_eq_true_eq, Fin.le_def]

/-- The quotient of a row number by 64, as the kernel rounds it down. -/
theorem floor_row : ∀ r : Fin 256, Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (1#32) (Scalar.extui 0#1)))
              (IntOp.cmpi CmpIPredicate.ne (IntOp.remsi ArithUnit.vector (BitVec.ofNat 32 r.val) 64#32) 0#32))
            (IntOp.subi (IntOp.divsi ArithUnit.vector (BitVec.ofNat 32 r.val) 64#32) 1#32)
            (IntOp.divsi ArithUnit.vector (BitVec.ofNat 32 r.val) 64#32) = BitVec.ofNat 32 (r.val / 64) := by decide +kernel

/-- The block's 0/1 weights: 1 at the positions of the row's own chunk up to the row. -/
theorem tri_at (r j : Fin 256) :
    k0_pay7 (F := Ideal) (iota Kind.tc S256x256 32 [0] iota_S256x256_d0_w32) (iota Kind.tc S256x256 32 [1] iota_S256x256_d1_w32)
        k0_pay4 (64#32) k0_pay5 k0_pay6 1#32 0#1 (ix2 r j)
      = if j.val ≤ r.val ∧ r.val / 64 = j.val / 64 then 1 else 0 := by
  have h1 : (Scalar.subi (Scalar.extui (Scalar.cmpi CmpIPredicate.sgt 64#32 0#32)) (Scalar.extui (Scalar.cmpi CmpIPredicate.slt 64#32 0#32)) : BitVec 32)
      = Scalar.subi (1#32) (Scalar.extui 0#1) := by decide
  have hr := r.isLt
  have hj := j.isLt
  pointwise [k0_pay7, k0_pay4, k0_pay5, k0_pay6]
  rw [h1, floor_row r, floor_row j, cmpi_sle_ofNat (by omega) (by omega), cmpi_eq_ofNat (by omega) (by omega)]
  rw [WordCmp.andi_ofBool, select_ofBool]
  simp only [Bool.and_eq_true, decide_eq_true_eq]

end Cert.Gla
end
-- ==== Proof.Gla.Pay.lean ====
module

public import proofs.«01_k».proof.Proof.Gen.KernelIdeal.Value
public import proofs.«01_k».proof.Proof.Gla.Chunk
public import proofs.«01_k».proof.Proof.Gla.Decay

@[expose] public section

noncomputable section

open Idealize.ShloMosaic Idealize.ShloMosaic.TcCoe Idealize.SL.Sem
open Cert.KernelIdeal Cert.KernelIdeal.Gen

namespace Cert.Gla

abbrev bF (B : FVec Ideal S256x256 .f32) (o : ℕ) (ho : o + 64 ≤ 256) (i : Fin 64) (d : Fin 256) : EReal := B (ix2 (rowAt o ho i) d)
abbrev vF (V : FVec Ideal S256x512 .f32) (o : ℕ) (ho : o + 64 ≤ 256) (i : Fin 64) (e : Fin 512) : EReal := V (ix2 (rowAt o ho i) e)
abbrev sF (S : FVec Ideal S512x256 .f32) (e : Fin 512) (d : Fin 256) : EReal := S (ix2 e d)

theorem st1_at (T a b c : FVec Ideal S256x256 .bf16) (K : Vec Ideal S1x256x256 .f32) (V : Vec Ideal S1x256x512 .f32) (S : FVec Ideal S512x256 .f32) (e : Fin 512) (d : Fin 256) :
    k0_pay25 (F := Ideal) S (k0_pay18 T a b c) (k0_pay20 T a b c K) (k0_pay21 V) (ix2 e d)
      = stepS (bF (k0_pay12 T a b c) 0 (by decide)) (bF (k0_pay15 K) 0 (by decide)) (vF (k0_pay16 V) 0 (by decide)) (sF S) e d := by
  simp only [stepS, bF, vF, sF, rowAt, Nat.zero_add]
  pointwise [k0_pay25, k0_pay18, k0_pay20, k0_pay21, k0_pay17]
  try rfl

theorem o1_at (T a b c : FVec Ideal S256x256 .bf16) (Q K : Vec Ideal S1x256x256 .f32) (V : Vec Ideal S1x256x512 .f32) (S : FVec Ideal S512x256 .f32) (i : Fin 64) (e : Fin 512) :
    k0_pay24 (F := Ideal) S (k0_pay19 T a b c Q) (k0_pay22 T a b c Q K) (k0_pay23 V) (constant S64x512 .f32 0#32) (ix2 i e)
      = outC (bF (k0_pay14 Q) 0 (by decide)) (bF (k0_pay12 T a b c) 0 (by decide)) (bF (k0_pay15 K) 0 (by decide)) (vF (k0_pay16 V) 0 (by decide)) (sF S) i e := by
  simp only [outC, bF, vF, sF, rowAt, Nat.zero_add]
  pointwise [k0_pay24, k0_pay19, k0_pay22, k0_pay23, k0_pay17, k0_pay21, causal_at, zero_sub, ite_mul, zero_mul]

theorem st2_at (B K : FVec Ideal S256x256 .f32) (V : FVec Ideal S256x512 .f32) (S bl kt v) (e : Fin 512) (d : Fin 256) :
    k0_pay29 (F := Ideal) B K V S bl kt v (ix2 e d)
      = stepS (bF B 64 (by decide)) (bF K 64 (by decide)) (vF V 64 (by decide)) (sF (k0_pay25 S bl kt v)) e d := by
  pointwise [k0_pay29, k0_pay26, k0_pay27, stepS]
  rfl
theorem o2_at (B Q K : FVec Ideal S256x256 .f32) (V : FVec Ideal S256x512 .f32) (S bl kt v) (i : Fin 64) (e : Fin 512) :
    k0_pay28 (F := Ideal) B k0_pay13 Q K V S bl kt v (ix2 i e)
      = outC (bF Q 64 (by decide)) (bF B 64 (by decide)) (bF K 64 (by decide)) (vF V 64 (by decide)) (sF (k0_pay25 S bl kt v)) i e := by
  pointwise [k0_pay28, k0_pay26, k0_pay27, outC, causal_at, zero_sub, ite_mul, zero_mul]

theorem st3_at (B K : FVec Ideal S256x256 .f32) (V : FVec Ideal S256x512 .f32) (S) (e : Fin 512) (d : Fin 256) :
    k0_pay35 (F := Ideal) K V S (k0_pay30 B) (k0_pay31 B) (ix2 e d)
      = stepS (bF B 128 (by decide)) (bF K 128 (by decide)) (vF V 128 (by decide)) (sF S) e d := by
  pointwise [k0_pay35, k0_pay30, k0_pay31, k0_pay33, stepS]
  rfl
theorem o3_at (B Q K : FVec Ideal S256x256 .f32) (V : FVec Ideal S256x512 .f32) (S) (i : Fin 64) (e : Fin 512) :
    k0_pay34 (F := Ideal) k0_pay13 K V S (k0_pay30 B) (k0_pay32 B Q) (ix2 i e)
      = outC (bF Q 128 (by decide)) (bF B 128 (by decide)) (bF K 128 (by decide)) (vF V 128 (by decide)) (sF S) i e := by
  pointwise [k0_pay34, k0_pay30, k0_pay32, k0_pay33, outC, causal_at, zero_sub, ite_mul, zero_mul]

theorem st4_at (B K : FVec Ideal S256x256 .f32) (V : FVec Ideal S256x512 .f32) (S) (e : Fin 512) (d : Fin 256) :
    k0_pay42 (F := Ideal) S (k0_pay37 B) (k0_pay39 B K) (k0_pay40 V) (ix2 e d)
      = stepS (bF B 192 (by decide)) (bF K 192 (by decide)) (vF V 192 (by decide)) (sF S) e d := by
  pointwise [k0_pay42, k0_pay36, k0_pay37, k0_pay39, k0_pay40, stepS]
  rfl

end Cert.Gla
end
-- ==== Proof.Gla.Out.lean ====
module

public import proofs.«01_k».proof.Proof.Gen.KernelIdeal.Value
public import proofs.«01_k».proof.Proof.Gla.Chunk
public import proofs.«01_k».proof.Proof.Gla.Pay

@[expose] public section

noncomputable section

open Idealize.ShloMosaic Idealize.ShloMosaic.TcCoe Idealize.SL.Sem
open Cert.KernelIdeal Cert.KernelIdeal.Gen

namespace Cert.Gla

/-- The four chunks' outputs one under the other. -/
def stack (o0 o1 o2 o3 : Fin 64 → Fin 512 → EReal) (r : Fin 256) (e : Fin 512) : EReal :=
  if h : r.val < 64 then o0 ⟨r.val, h⟩ e else if h : r.val - 64 < 64 then o1 ⟨r.val - 64, h⟩ e
  else if h : r.val - 64 - 64 < 64 then o2 ⟨r.val - 64 - 64, h⟩ e else o3 ⟨r.val - 64 - 64 - 64, by omega⟩ e

theorem out4_at (a b c : FVec Ideal S64x512 .f32) (S : FVec Ideal S512x256 .f32) (q : FVec Ideal S64x256 .bf16) (v : FVec Ideal S64x512 .f32) (p : FVec Ideal S64x64 .f32) (nw g) (r : Fin 256) (e : Fin 512) :
    k0_pay43 (F := Ideal) a b c S q v p nw g (ix2 r e)
      = rms (stack (fun i e => a (ix2 i e)) (fun i e => b (ix2 i e)) (fun i e => c (ix2 i e))
          (fun i e => (∑ j : Fin 64, p (ix2 i j) * v (ix2 j e)) + ∑ d : Fin 256, q (ix2 i d) * S (ix2 e d)) r) (nw (ix2 0 e)) e
        * (g (ix3 0 r e) * Ideal.logistic (g (ix3 0 r e))) := by
  pointwise [k0_pay43, rms, stack]

theorem o4_at (B Q K : FVec Ideal S256x256 .f32) (V : FVec Ideal S256x512 .f32) (S : FVec Ideal S512x256 .f32) (i : Fin 64) (e : Fin 512) :
    (∑ j : Fin 64, k0_pay41 (F := Ideal) B k0_pay13 Q K (ix2 i j) * k0_pay40 V (ix2 j e)) + ∑ d : Fin 256, k0_pay38 B Q (ix2 i d) * S (ix2 e d)
      = outC (bF Q 192 (by decide)) (bF B 192 (by decide)) (bF K 192 (by decide)) (vF V 192 (by decide)) (sF S) i e := by
  pointwise [k0_pay36, k0_pay38, k0_pay40, k0_pay41, outC, causal_at, zero_sub, ite_mul, zero_mul]

end Cert.Gla
end
-- ==== Proof.Gla.Point.lean ====
module

public import proofs.«01_k».proof.Defs
public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem
open Cert.KernelIdeal Cert.KernelIdeal.Gen

namespace Cert.Gla

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The block's 0/1 weights of the running sums. -/
abbrev tri : FVec F S256x256 .bf16 :=
  k0_pay7 (iota Kind.tc S256x256 32 [0] iota_S256x256_d0_w32) (iota Kind.tc S256x256 32 [1] iota_S256x256_d1_w32)
    k0_pay4 (64#32) k0_pay5 k0_pay6 1#32 0#1

/-- The running decay of a block with log decays `la`. -/
abbrev cumB (la : FVec F S256x256 .f32) : FVec F S256x256 .f32 := k0_pay12 tri (k0_pay8 la) (k0_pay10 la) (k0_pay11 la)

/-- The states after the first, second, third and fourth chunk of a block, as the body computes them. -/
def S1 (la : FVec F S256x256 .f32) (x1 : Vec F S1x256x256 .f32) (x2 : Vec F S1x256x512 .f32) (s : FVec F S512x256 .f32) : FVec F S512x256 .f32 :=
  k0_pay25 s (k0_pay18 tri (k0_pay8 la) (k0_pay10 la) (k0_pay11 la)) (k0_pay20 tri (k0_pay8 la) (k0_pay10 la) (k0_pay11 la) x1) (k0_pay21 x2)
def S2 (la : FVec F S256x256 .f32) (x1 : Vec F S1x256x256 .f32) (x2 : Vec F S1x256x512 .f32) (s : FVec F S512x256 .f32) : FVec F S512x256 .f32 :=
  k0_pay29 (cumB la) (k0_pay15 x1) (k0_pay16 x2) s (k0_pay18 tri (k0_pay8 la) (k0_pay10 la) (k0_pay11 la)) (k0_pay20 tri (k0_pay8 la) (k0_pay10 la) (k0_pay11 la) x1) (k0_pay21 x2)
def S3 (la : FVec F S256x256 .f32) (x1 : Vec F S1x256x256 .f32) (x2 : Vec F S1x256x512 .f32) (s : FVec F S512x256 .f32) : FVec F S512x256 .f32 :=
  k0_pay35 (k0_pay15 x1) (k0_pay16 x2) (S2 la x1 x2 s) (k0_pay30 (cumB la)) (k0_pay31 (cumB la))
def S4 (la : FVec F S256x256 .f32) (x1 : Vec F S1x256x256 .f32) (x2 : Vec F S1x256x512 .f32) (s : FVec F S512x256 .f32) : FVec F S512x256 .f32 :=
  k0_pay42 (S3 la x1 x2 s) (k0_pay37 (cumB la)) (k0_pay39 (cumB la) (k0_pay15 x1)) (k0_pay40 (k0_pay16 x2))

/-- The block of outputs the body stores. -/
def O4 (la : FVec F S256x256 .f32) (x0 x1 : Vec F S1x256x256 .f32) (x2 x3 : Vec F S1x256x512 .f32) (x7 : Vec F S1x512 .f32) (s : FVec F S512x256 .f32) : Vec F S1x256x512 .bf16 :=
  k0_pay1 (k0_pay43
    (k0_pay24 s (k0_pay19 tri (k0_pay8 la) (k0_pay10 la) (k0_pay11 la) x0) (k0_pay22 tri (k0_pay8 la) (k0_pay10 la) (k0_pay11 la) x0 x1) (k0_pay23 x2) (constant S64x512 .f32 0#32))
    (k0_pay28 (cumB la) k0_pay13 (k0_pay14 x0) (k0_pay15 x1) (k0_pay16 x2) s (k0_pay18 tri (k0_pay8 la) (k0_pay10 la) (k0_pay11 la)) (k0_pay20 tri (k0_pay8 la) (k0_pay10 la) (k0_pay11 la) x1) (k0_pay21 x2))
    (k0_pay34 k0_pay13 (k0_pay15 x1) (k0_pay16 x2) (S2 la x1 x2 s) (k0_pay30 (cumB la)) (k0_pay32 (cumB la) (k0_pay14 x0)))
    (S3 la x1 x2 s) (k0_pay38 (cumB la) (k0_pay14 x0)) (k0_pay40 (k0_pay16 x2)) (k0_pay41 (cumB la) k0_pay13 (k0_pay14 x0) (k0_pay15 x1)) x7 x3)

/-- What the body leaves in the state scratch at the first point of a head: it starts from the zero state. -/
theorem sout_A (c : Dev nD) (i : grid0.Coords) (a3 h3 a4 h4 a5 h5 a6 h6 a7 h7 a8 h8 a9 h9 a10 h10 a11 h11 a12 h12) (hc : cond0_0 i)
    (x0 x1 x2 x3 x4 x5 x6 x7) :
    sout0_A_0 (F := F) c i a3 h3 a4 h4 a5 h5 a6 h6 a7 h7 a8 h8 a9 h9 a10 h10 a11 h11 a12 h12 hc x0 x1 x2 x3 x4 x5 x6 x7 = S4 (k0_pay3 x4 x5 x6) x1 x2 k0_pay2 := by
  unfold sout0_A_0
  rw [View.read_writes_eq_canon _ _ _ (scover0_A_0 c i a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S512x256) hz2]
  simp only [View.readCov_unit_zero (S := S512x256) _ hz2]
  simp only [View.readAt_eq_ld, h3.read_unread, h4.read_unread, h5.read_unread, h6.read_unread, h7.read_unread, h8.read_unread, h9.read_unread, h10.read_unread, h12.read_unread, View.ld_unit_zero (S := S1x256x256) hz3, View.ld_unit_zero (S := S1x256x512) hz3, View.ld_unit_zero (S := S1x256x128) hz3, View.ld_unit_zero (S := S128x256) hz2, View.ld_unit_zero (S := S1x256) hz2, View.ld_unit_zero (S := S1x512) hz2, View.ld_unit_zero (S := S512x256) hz2]
  rfl

/-- What the body leaves in the state scratch at any later point of a head: it goes on from the state left before. -/
theorem sout_B (c : Dev nD) (i : grid0.Coords) (a3 h3 a4 h4 a5 h5 a6 h6 a7 h7 a8 h8 a9 h9 a10 h10 a11 h11 a12 h12) (hc : ¬cond0_0 i)
    (x0 x1 x2 x3 x4 x5 x6 x7 xs0) :
    sout0_B_0 (F := F) c i a3 h3 a4 h4 a5 h5 a6 h6 a7 h7 a8 h8 a9 h9 a10 h10 a11 h11 a12 h12 hc x0 x1 x2 x3 x4 x5 x6 x7 xs0 = S4 (k0_pay3 x4 x5 x6) x1 x2 xs0 := by
  unfold sout0_B_0
  rw [View.read_writes_eq_canon _ _ _ (scover0_B_0 c i a3 h3 a4 h4 a5 h5 a6 h6 a7 h7 a8 h8 a9 h9 a10 h10 a11 h11 a12 h12 hc x0 x1 x2 x3 x4 x5 x6 x7 xs0)]
  unfold kernelRun0_B
  dsimp only
  rw [View.canon_unit_zero hz2]
  sl_unfold_words
  simp only [View.readAt_eq_ld, h3.read_unread, h4.read_unread, h5.read_unread, h6.read_unread, h7.read_unread, h8.read_unread, h9.read_unread, h10.read_unread, h12.read_unread, View.ld_unit_zero (S := S1x256x256) hz3, View.ld_unit_zero (S := S1x256x512) hz3, View.ld_unit_zero (S := S1x256x128) hz3, View.ld_unit_zero (S := S128x256) hz2, View.ld_unit_zero (S := S1x256) hz2, View.ld_unit_zero (S := S1x512) hz2, View.ld_unit_zero (S := S512x256) hz2]
  rfl

/-- What the body stores in the output block at the first point of a head: it starts from the zero state. -/
theorem out_A (c : Dev nD) (i : grid0.Coords) (a3 h3 a4 h4 a5 h5 a6 h6 a7 h7 a8 h8 a9 h9 a10 h10 a11 h11 a12 h12) (hc : cond0_0 i)
    (x0 x1 x2 x3 x4 x5 x6 x7) :
    out0_A_8 (F := F) c i a3 h3 a4 h4 a5 h5 a6 h6 a7 h7 a8 h8 a9 h9 a10 h10 a11 h11 a12 h12 hc x0 x1 x2 x3 x4 x5 x6 x7 = O4 (k0_pay3 x4 x5 x6) x0 x1 x2 x3 x7 k0_pay2 := by
  unfold out0_A_8
  rw [View.read_writes_eq_canon _ _ _ (cover0_A_8 c i a3 h3 a4 h4 a5 h5 a6 h6 a7 h7 a8 h8 a9 h9 a10 h10 a11 h11 a12 h12 hc x0 x1 x2 x3 x4 x5 x6 x7)]
  unfold kernelRun0_A
  dsimp only
  rw [View.canon_unit_zero hz3]
  sl_unfold_words
  simp only [View.readCov_unit_zero (S := S512x256) _ hz2]
  simp only [View.readAt_eq_ld, h3.read_unread, h4.read_unread, h5.read_unread, h6.read_unread, h7.read_unread, h8.read_unread, h9.read_unread, h10.read_unread, h12.read_unread, View.ld_unit_zero (S := S1x256x256) hz3, View.ld_unit_zero (S := S1x256x512) hz3, View.ld_unit_zero (S := S1x256x128) hz3, View.ld_unit_zero (S := S128x256) hz2, View.ld_unit_zero (S := S1x256) hz2, View.ld_unit_zero (S := S1x512) hz2, View.ld_unit_zero (S := S512x256) hz2]
  rfl

/-- What the body stores in the output block at any later point of a head: it goes on from the state left before. -/
theorem out_B (c : Dev nD) (i : grid0.Coords) (a3 h3 a4 h4 a5 h5 a6 h6 a7 h7 a8 h8 a9 h9 a10 h10 a11 h11 a12 h12) (hc : ¬cond0_0 i)
    (x0 x1 x2 x3 x4 x5 x6 x7 xs0) :
    out0_B_8 (F := F) c i a3 h3 a4 h4 a5 h5 a6 h6 a7 h7 a8 h8 a9 h9 a10 h10 a11 h11 a12 h12 hc x0 x1 x2 x3 x4 x5 x6 x7 xs0 = O4 (k0_pay3 x4 x5 x6) x0 x1 x2 x3 x7 xs0 := by
  unfold out0_B_8
  rw [View.read_writes_eq_canon _ _ _ (cover0_B_8 c i a3 h3 a4 h4 a5 h5 a6 h6 a7 h7 a8 h8 a9 h9 a10 h10 a11 h11 a12 h12 hc x0 x1 x2 x3 x4 x5 x6 x7 xs0)]
  unfold kernelRun0_B
  dsimp only
  rw [View.canon_unit_zero hz3]
  sl_unfold_words
  simp only [View.readAt_eq_ld, h3.read_unread, h4.read_unread, h5.read_unread, h6.read_unread, h7.read_unread, h8.read_unread, h9.read_unread, h10.read_unread, h12.read_unread, View.ld_unit_zero (S := S1x256x256) hz3, View.ld_unit_zero (S := S1x256x512) hz3, View.ld_unit_zero (S := S1x256x128) hz3, View.ld_unit_zero (S := S128x256) hz2, View.ld_unit_zero (S := S1x256) hz2, View.ld_unit_zero (S := S1x512) hz2, View.ld_unit_zero (S := S512x256) hz2]
  rfl

end Cert.Gla
end
-- ==== Proof.Gla.Block.lean ====
/-
  One grid point of the kernel against the sequence: from the state before its four chunks, the point leaves the state
  after them and stores the four chunks' outputs, normalized and gated.
-/
module

public import proofs.«01_k».proof.Proof.Gla.Out
public import proofs.«01_k».proof.Proof.Gla.Point
public import proofs.«01_k».proof.Proof.Gla.Seq

@[expose] public section

noncomputable section

open Idealize.ShloMosaic Idealize.ShloMosaic.TcCoe Idealize.SL.Sem
open Cert.KernelIdeal Cert.KernelIdeal.Gen

namespace Cert.Gla

/-- A block's running decay is, chunk by chunk, the sum of the log decays up to the position. -/
theorem cumB_at (la : FVec Ideal S256x256 .f32) (hla : ∀ r d, la (ix2 r d) ≠ ⊤) (c : ℕ) (hc : 64 * c + 64 ≤ 256)
    (i : Fin 64) (d : Fin 256) :
    cumB (F := Ideal) la (ix2 (rowAt (64 * c) hc i) d) = cum (fun j d => la (ix2 (rowAt (64 * c) hc j) d)) i d := by
  have h8 : ∀ j, k0_pay8 (F := Ideal) la (ix2 j d) = la (ix2 j d) := fun j => by pointwise [k0_pay8]
  have h10 : ∀ j, k0_pay10 (F := Ideal) la (ix2 j d) = la (ix2 j d) - la (ix2 j d) := fun j => by pointwise [k0_pay10, k0_pay9, k0_pay8]
  have h11 : ∀ j, k0_pay11 (F := Ideal) la (ix2 j d) = la (ix2 j d) - la (ix2 j d) - (la (ix2 j d) - la (ix2 j d)) :=
    fun j => by pointwise [k0_pay11, k0_pay10, k0_pay9, k0_pay8]
  rw [cumB, pay12_at]
  simp only [h8, h10, h11]
  rw [← Finset.sum_add_distrib, ← Finset.sum_add_distrib]
  unfold cum
  symm
  refine Fintype.sum_of_injective (rowAt (64 * c) hc) (fun a b h => Fin.ext (by have := congrArg Fin.val h; dsimp only at this; omega)) _ _ ?_ ?_
  · intro j hj
    have hn : ¬ (j.val ≤ (rowAt (64 * c) hc i).val ∧ (rowAt (64 * c) hc i).val / 64 = j.val / 64) := by
      rintro ⟨h1, h2⟩
      have hi := i.isLt
      dsimp only at h1 h2
      exact hj ⟨⟨j.val - 64 * c, by omega⟩, Fin.ext (by dsimp only; omega)⟩
    have ht : tri (F := Ideal) (ix2 (rowAt (64 * c) hc i) j) = 0 := (tri_at _ _).trans (if_neg hn)
    rw [ht]
    simp only [zero_mul, add_zero]
  · intro j
    have hj := j.isLt
    have hi := i.isLt
    by_cases h : j ≤ i
    · have hv : j.val ≤ i.val := h
      have hp : (rowAt (64 * c) hc j).val ≤ (rowAt (64 * c) hc i).val ∧ (rowAt (64 * c) hc i).val / 64 = (rowAt (64 * c) hc j).val / 64 := by
        dsimp only; omega
      have ht : tri (F := Ideal) (ix2 (rowAt (64 * c) hc i) (rowAt (64 * c) hc j)) = 1 := (tri_at _ _).trans (if_pos hp)
      dsimp only
      rw [ht, if_pos h]
      simp only [one_mul]
      exact (split_sum (hla _ _)).symm
    · have hv : ¬ j.val ≤ i.val := h
      have hp : ¬ ((rowAt (64 * c) hc j).val ≤ (rowAt (64 * c) hc i).val ∧ (rowAt (64 * c) hc i).val / 64 = (rowAt (64 * c) hc j).val / 64) := by
        dsimp only; omega
      have ht : tri (F := Ideal) (ix2 (rowAt (64 * c) hc i) (rowAt (64 * c) hc j)) = 0 := (tri_at _ _).trans (if_neg hp)
      dsimp only
      rw [ht, if_neg h]
      simp only [zero_mul, add_zero]

section
variable (Q K L : ℕ → Fin 256 → EReal) (V : ℕ → Fin 512 → EReal) (s : ℕ)
variable (la : FVec Ideal S256x256 .f32) (x0 x1 : Vec Ideal S1x256x256 .f32) (x2 x3 : Vec Ideal S1x256x512 .f32)
  (x7 : Vec Ideal S1x512 .f32) (s0 : FVec Ideal S512x256 .f32)

theorem rows_cum (hL : ∀ l d, L l d ≠ ⊤) (hla : ∀ r d, la (ix2 r d) = L (256 * s + r.val) d) (c : ℕ) (hc : 64 * c + 64 ≤ 256) :
    bF (cumB la) (64 * c) hc = bC L (4 * s + c) := by
  funext i d
  refine (cumB_at la (fun r d => hla r d ▸ hL _ _) c hc i d).trans ?_
  unfold bC
  congr 1
  funext j d
  show la _ = L (64 * (4 * s + c) + j.val) d
  rw [hla]
  congr 1
  dsimp only
  omega

theorem rows_q (hQ : ∀ r d, x0 (ix3 0 r d) * Ideal.ofBits .f32 0x3D800000#32 = Q (256 * s + r.val) d) (c : ℕ) (hc : 64 * c + 64 ≤ 256) :
    bF (k0_pay14 x0) (64 * c) hc = rowsC Q (4 * s + c) := by
  funext i d
  have h : k0_pay14 (F := Ideal) x0 (ix2 (rowAt (64 * c) hc i) d) = x0 (ix3 0 (rowAt (64 * c) hc i) d) * Ideal.ofBits .f32 0x3D800000#32 := by
    pointwise [k0_pay14]
  refine h.trans ?_
  show _ = Q (64 * (4 * s + c) + i.val) d
  rw [hQ]
  congr 1
  dsimp only
  omega

theorem rows_k (hK : ∀ r d, x1 (ix3 0 r d) = K (256 * s + r.val) d) (c : ℕ) (hc : 64 * c + 64 ≤ 256) :
    bF (k0_pay15 x1) (64 * c) hc = rowsC K (4 * s + c) := by
  funext i d
  have h : k0_pay15 (F := Ideal) x1 (ix2 (rowAt (64 * c) hc i) d) = x1 (ix3 0 (rowAt (64 * c) hc i) d) := by
    pointwise [k0_pay15]
  refine h.trans ?_
  show _ = K (64 * (4 * s + c) + i.val) d
  rw [hK]
  congr 1
  dsimp only
  omega

theorem rows_v (hV : ∀ r e, x2 (ix3 0 r e) = V (256 * s + r.val) e) (c : ℕ) (hc : 64 * c + 64 ≤ 256) :
    vF (k0_pay16 x2) (64 * c) hc = rowsC V (4 * s + c) := by
  funext i e
  have h : k0_pay16 (F := Ideal) x2 (ix2 (rowAt (64 * c) hc i) e) = x2 (ix3 0 (rowAt (64 * c) hc i) e) := by
    pointwise [k0_pay16]
  refine h.trans ?_
  show _ = V (64 * (4 * s + c) + i.val) e
  rw [hV]
  congr 1
  dsimp only
  omega

variable (hL : ∀ l d, L l d ≠ ⊤) (hla : ∀ r d, la (ix2 r d) = L (256 * s + r.val) d)
  (hQ : ∀ r d, x0 (ix3 0 r d) * Ideal.ofBits .f32 0x3D800000#32 = Q (256 * s + r.val) d)
  (hK : ∀ r d, x1 (ix3 0 r d) = K (256 * s + r.val) d) (hV : ∀ r e, x2 (ix3 0 r e) = V (256 * s + r.val) e)
  (hs : ∀ e d, s0 (ix2 e d) = stateAt K L V (4 * s) e d)

include hL hla hK hV hs

theorem S1_at : sF (S1 la x1 x2 s0) = stateAt K L V (4 * s + 1) := by
  funext e d
  refine (st1_at _ _ _ _ x1 x2 s0 e d).trans ?_
  rw [show bF (k0_pay12 _ _ _ _) 0 _ = bC L (4 * s) from rows_cum L s la hL hla 0 (by decide),
    show bF (k0_pay15 x1) 0 _ = rowsC K (4 * s) from rows_k K s x1 hK 0 (by decide),
    show vF (k0_pay16 x2) 0 _ = rowsC V (4 * s) from rows_v V s x2 hV 0 (by decide),
    show sF s0 = stateAt K L V (4 * s) from funext fun e => funext fun d => hs e d]
  rfl

theorem S2_at : sF (S2 la x1 x2 s0) = stateAt K L V (4 * s + 2) := by
  funext e d
  refine (st2_at _ _ _ s0 _ _ _ e d).trans ?_
  rw [show bF (cumB la) 64 _ = bC L (4 * s + 1) from rows_cum L s la hL hla 1 (by decide),
    show bF (k0_pay15 x1) 64 _ = rowsC K (4 * s + 1) from rows_k K s x1 hK 1 (by decide),
    show vF (k0_pay16 x2) 64 _ = rowsC V (4 * s + 1) from rows_v V s x2 hV 1 (by decide),
    show sF (k0_pay25 s0 (k0_pay18 _ _ _ _) (k0_pay20 _ _ _ _ x1) (k0_pay21 x2)) = stateAt K L V (4 * s + 1) from S1_at K L V s la x1 x2 s0 hL hla hK hV hs]
  rfl

theorem S3_at : sF (S3 la x1 x2 s0) = stateAt K L V (4 * s + 3) := by
  funext e d
  refine (st3_at _ _ _ (S2 la x1 x2 s0) e d).trans ?_
  rw [show bF (cumB la) 128 _ = bC L (4 * s + 2) from rows_cum L s la hL hla 2 (by decide),
    show bF (k0_pay15 x1) 128 _ = rowsC K (4 * s + 2) from rows_k K s x1 hK 2 (by decide),
    show vF (k0_pay16 x2) 128 _ = rowsC V (4 * s + 2) from rows_v V s x2 hV 2 (by decide),
    show sF _ = stateAt K L V (4 * s + 2) from S2_at K L V s la x1 x2 s0 hL hla hK hV hs]
  rfl

theorem S4_at : sF (S4 la x1 x2 s0) = stateAt K L V (4 * s + 4) := by
  funext e d
  refine (st4_at _ _ _ (S3 la x1 x2 s0) e d).trans ?_
  rw [show bF (cumB la) 192 _ = bC L (4 * s + 3) from rows_cum L s la hL hla 3 (by decide),
    show bF (k0_pay15 x1) 192 _ = rowsC K (4 * s + 3) from rows_k K s x1 hK 3 (by decide),
    show vF (k0_pay16 x2) 192 _ = rowsC V (4 * s + 3) from rows_v V s x2 hV 3 (by decide),
    show sF _ = stateAt K L V (4 * s + 3) from S3_at K L V s la x1 x2 s0 hL hla hK hV hs]
  rfl

/-- What the point leaves in the scratch is the state after its four chunks. -/
theorem state_block (e : Fin 512) (d : Fin 256) : S4 la x1 x2 s0 (ix2 e d) = stateAt K L V (4 * (s + 1)) e d :=
  congrFun (congrFun (S4_at K L V s la x1 x2 s0 hL hla hK hV hs) e) d

include hQ

/-- What the point stores. -/
theorem out_block (r : Fin 256) (e : Fin 512) :
    O4 la x0 x1 x2 x3 x7 s0 (ix3 0 r e)
      = rms (outRow Q K L V (256 * s + r.val)) (x7 (ix2 0 e)) e * silu (x3 (ix3 0 r e)) := by
  have hs0 : sF s0 = stateAt K L V (4 * s) := funext fun e => funext fun d => hs e d
  have hb := rows_cum L s la hL hla
  have hq := rows_q Q s x0 hQ
  have hk := rows_k K s x1 hK
  have hv := rows_v V s x2 hV
  have g0 : ∀ i e, k0_pay24 (F := Ideal) s0 (k0_pay19 tri (k0_pay8 la) (k0_pay10 la) (k0_pay11 la) x0) (k0_pay22 tri (k0_pay8 la) (k0_pay10 la) (k0_pay11 la) x0 x1) (k0_pay23 x2) (constant S64x512 .f32 0#32) (ix2 i e)
      = outAt Q K L V (4 * s) i e := fun i e => by
    refine (o1_at _ _ _ _ x0 x1 x2 s0 i e).trans ?_
    rw [show bF (k0_pay12 _ _ _ _) 0 _ = bC L (4 * s) from hb 0 (by decide), show bF (k0_pay14 x0) 0 _ = rowsC Q (4 * s) from hq 0 (by decide),
      show bF (k0_pay15 x1) 0 _ = rowsC K (4 * s) from hk 0 (by decide), show vF (k0_pay16 x2) 0 _ = rowsC V (4 * s) from hv 0 (by decide), hs0]
    rfl
  have g1 : ∀ i e, k0_pay28 (F := Ideal) (cumB la) k0_pay13 (k0_pay14 x0) (k0_pay15 x1) (k0_pay16 x2) s0 (k0_pay18 tri (k0_pay8 la) (k0_pay10 la) (k0_pay11 la)) (k0_pay20 tri (k0_pay8 la) (k0_pay10 la) (k0_pay11 la) x1) (k0_pay21 x2) (ix2 i e)
      = outAt Q K L V (4 * s + 1) i e := fun i e => by
    refine (o2_at _ _ _ _ s0 _ _ _ i e).trans ?_
    rw [show bF (cumB la) 64 _ = bC L (4 * s + 1) from hb 1 (by decide), show bF (k0_pay14 x0) 64 _ = rowsC Q (4 * s + 1) from hq 1 (by decide),
      show bF (k0_pay15 x1) 64 _ = rowsC K (4 * s + 1) from hk 1 (by decide), show vF (k0_pay16 x2) 64 _ = rowsC V (4 * s + 1) from hv 1 (by decide),
      show sF (k0_pay25 s0 (k0_pay18 _ _ _ _) (k0_pay20 _ _ _ _ x1) (k0_pay21 x2)) = stateAt K L V (4 * s + 1) from S1_at K L V s la x1 x2 s0 hL hla hK hV hs]
    rfl
  have g2 : ∀ i e, k0_pay34 (F := Ideal) k0_pay13 (k0_pay15 x1) (k0_pay16 x2) (S2 la x1 x2 s0) (k0_pay30 (cumB la)) (k0_pay32 (cumB la) (k0_pay14 x0)) (ix2 i e)
      = outAt Q K L V (4 * s + 2) i e := fun i e => by
    refine (o3_at _ _ _ _ (S2 la x1 x2 s0) i e).trans ?_
    rw [show bF (cumB la) 128 _ = bC L (4 * s + 2) from hb 2 (by decide), show bF (k0_pay14 x0) 128 _ = rowsC Q (4 * s + 2) from hq 2 (by decide),
      show bF (k0_pay15 x1) 128 _ = rowsC K (4 * s + 2) from hk 2 (by decide), show vF (k0_pay16 x2) 128 _ = rowsC V (4 * s + 2) from hv 2 (by decide),
      show sF _ = stateAt K L V (4 * s + 2) from S2_at K L V s la x1 x2 s0 hL hla hK hV hs]
    rfl
  have g3 : ∀ i e, (∑ j : Fin 64, k0_pay41 (F := Ideal) (cumB la) k0_pay13 (k0_pay14 x0) (k0_pay15 x1) (ix2 i j) * k0_pay40 (k0_pay16 x2) (ix2 j e))
        + ∑ d : Fin 256, k0_pay38 (cumB la) (k0_pay14 x0) (ix2 i d) * S3 la x1 x2 s0 (ix2 e d)
      = outAt Q K L V (4 * s + 3) i e := fun i e => by
    refine (o4_at _ _ _ _ (S3 la x1 x2 s0) i e).trans ?_
    rw [show bF (cumB la) 192 _ = bC L (4 * s + 3) from hb 3 (by decide), show bF (k0_pay14 x0) 192 _ = rowsC Q (4 * s + 3) from hq 3 (by decide),
      show bF (k0_pay15 x1) 192 _ = rowsC K (4 * s + 3) from hk 3 (by decide), show vF (k0_pay16 x2) 192 _ = rowsC V (4 * s + 3) from hv 3 (by decide),
      show sF _ = stateAt K L V (4 * s + 3) from S3_at K L V s la x1 x2 s0 hL hla hK hV hs]
    rfl
  have h1 : ∀ y : FVec Ideal S256x512 .f32, k0_pay1 (F := Ideal) y (ix3 0 r e) = y (ix2 r e) := fun y => by pointwise [k0_pay1]
  unfold O4
  rw [h1, out4_at]
  simp only [g0, g1, g2, g3]
  have hst : stack (outAt Q K L V (4 * s)) (outAt Q K L V (4 * s + 1)) (outAt Q K L V (4 * s + 2)) (outAt Q K L V (4 * s + 3)) r
      = outRow Q K L V (256 * s + r.val) := by
    have hr := r.isLt
    funext e
    unfold stack outRow
    have key : ∀ (n : ℕ) (i : Fin 64), 256 * s + r.val = 64 * n + i.val → outAt Q K L V n i e
        = outAt Q K L V ((256 * s + r.val) / 64) ⟨(256 * s + r.val) % 64, Nat.mod_lt _ (by decide)⟩ e := fun n i h => by
      have hi := i.isLt
      have h1 : (256 * s + r.val) / 64 = n := by omega
      have h2 : (⟨(256 * s + r.val) % 64, Nat.mod_lt _ (by decide)⟩ : Fin 64) = i := Fin.ext (by dsimp only; omega)
      rw [h1, h2]
    split_ifs
    · exact key _ _ (by dsimp only; omega)
    · exact key _ _ (by dsimp only; omega)
    · exact key _ _ (by dsimp only; omega)
    · exact key _ _ (by dsimp only; omega)
  rw [hst]
  rfl

end

end Cert.Gla
end
-- ==== Proof.Gla.Inputs.lean ====
/-
  What the kernel's windows hold at a grid point: entries of the launched arrays. Point `t` of the 128 is batch `t / 32`,
  head `t / 8 % 4`, rows `256 * (t % 8) …` of the sequence.
-/
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Routing.OpsPair
public import Idealize.ShloMosaic.Lib.Routing.OpsSet

@[expose] public section

noncomputable section

open Idealize.ShloMosaic Idealize.ShloMosaic.TcCoe Idealize.SL.Sem
open Cert.KernelIdeal Cert.KernelIdeal.Gen

namespace Cert.Gla

variable (m : (ℓ : Loc nD τ sig) → Buf (Elt Ideal) ℓ) (c : Dev nD)

theorem idx0 : ∀ t : Fin cfg0.N, win0_0.index t = ![t.val / 32, t.val % 8, t.val / 8 % 4] := by decide +kernel
theorem idx1 : ∀ t : Fin cfg0.N, win0_1.index t = ![t.val / 32, t.val % 8, 4 + t.val / 8 % 4] := by decide +kernel
theorem idx2 : ∀ t : Fin cfg0.N, win0_2.index t = ![t.val / 32, t.val % 8, 4 + t.val / 8 % 4] := by decide +kernel
theorem idx3 : ∀ t : Fin cfg0.N, win0_3.index t = ![t.val / 32, t.val % 8, 8 + t.val / 8 % 4] := by decide +kernel
theorem idx4 : ∀ t : Fin cfg0.N, win0_4.index t = ![t.val / 32, t.val % 8, 0] := by decide +kernel
theorem idx5 : ∀ t : Fin cfg0.N, win0_5.index t = ![0, t.val / 8 % 4] := by decide +kernel
theorem idx6 : ∀ t : Fin cfg0.N, win0_6.index t = ![0, t.val / 8 % 4] := by decide +kernel
theorem idx7 : ∀ t : Fin cfg0.N, win0_7.index t = ![0, 0] := by decide +kernel
theorem idx8 : ∀ t : Fin cfg0.N, win0_8.index t = ![t.val / 32, t.val % 8, t.val / 8 % 4] := by decide +kernel

theorem t_lt (t : Fin cfg0.N) : t.val < 128 := lt_of_lt_of_eq t.isLt N_0

/-- The query block. -/
theorem blk_q (t : Fin cfg0.N) (r d : Fin 256) (b : Fin 4) (l : Fin 2048) (k : Fin 6144) (hb : b.val = t.val / 32)
    (hl : l.val = 256 * (t.val % 8) + r.val) (hk : k.val = 256 * (t.val / 8 % 4) + d.val) :
    iblk m c 0 t (ix3 0 r d) = m ((c : Thread nD τ).loc main_arg0) (ix3 b l k) := by
  blk_ext [iblk, V, idx0 t]

/-- The key block. -/
theorem blk_k (t : Fin cfg0.N) (r d : Fin 256) (b : Fin 4) (l : Fin 2048) (k : Fin 6144) (hb : b.val = t.val / 32)
    (hl : l.val = 256 * (t.val % 8) + r.val) (hk : k.val = 1024 + 256 * (t.val / 8 % 4) + d.val) :
    iblk m c 1 t (ix3 0 r d) = m ((c : Thread nD τ).loc main_arg0) (ix3 b l k) := by
  blk_ext [iblk, V, idx1 t]

/-- The value block. -/
theorem blk_v (t : Fin cfg0.N) (r : Fin 256) (e : Fin 512) (b : Fin 4) (l : Fin 2048) (k : Fin 6144) (hb : b.val = t.val / 32)
    (hl : l.val = 256 * (t.val % 8) + r.val) (hk : k.val = 2048 + 512 * (t.val / 8 % 4) + e.val) :
    iblk m c 2 t (ix3 0 r e) = m ((c : Thread nD τ).loc main_arg0) (ix3 b l k) := by
  blk_ext [iblk, V, idx2 t]

/-- The output gate's block. -/
theorem blk_g (t : Fin cfg0.N) (r : Fin 256) (e : Fin 512) (b : Fin 4) (l : Fin 2048) (k : Fin 6144) (hb : b.val = t.val / 32)
    (hl : l.val = 256 * (t.val % 8) + r.val) (hk : k.val = 4096 + 512 * (t.val / 8 % 4) + e.val) :
    iblk m c 3 t (ix3 0 r e) = m ((c : Thread nD τ).loc main_arg0) (ix3 b l k) := by
  blk_ext [iblk, V, idx3 t]

/-- The low-rank gate's block. -/
theorem blk_l (t : Fin cfg0.N) (r : Fin 256) (j : Fin 128) (b : Fin 4) (l : Fin 2048) (hb : b.val = t.val / 32)
    (hl : l.val = 256 * (t.val % 8) + r.val) :
    iblk m c 4 t (ix3 0 r j) = m ((c : Thread nD τ).loc main_arg1) (ix3 b l j) := by
  blk_ext [iblk, V, idx4 t]

/-- Where an update of the padding lands: at its own row and lane. -/
theorem pad_lands (k : S16x1024.Idx) (r : Fin 128) (l : Fin 1024) :
    scatter_S128x1024_S1_S16x1024_01_n_0_0.resultIdx? k (broadcastInDim S1 ![] bcast_S_S1 (constantI S_ 32 0#32)) = some (ix2 r l)
      ↔ (k 0).val = r.val ∧ (k 1).val = l.val := by
  refine (Routing.resultIdx?_ix2 _ _ _ _ _).trans ?_
  have h0 : scatter_S128x1024_S1_S16x1024_01_n_0_0.start k (broadcastInDim S1 ![] bcast_S_S1 (constantI S_ 32 0#32)) 0 = 0 := rfl
  have h1 : scatter_S128x1024_S1_S16x1024_01_n_0_0.start k (broadcastInDim S1 ![] bcast_S_S1 (constantI S_ 32 0#32)) 1 = 0 := rfl
  have w0 : scatter_S128x1024_S1_S16x1024_01_n_0_0.window k 0 = (k 0).val := rfl
  have w1 : scatter_S128x1024_S1_S16x1024_01_n_0_0.window k 1 = (k 1).val := rfl
  rw [h0, h1, w0, w1]
  omega

/-- The gate weights, padded with zero rows. -/
theorem blk_w (t : Fin cfg0.N) (j : Fin 128) (d : Fin 256) (k : Fin 1024) (hk : k.val = 256 * (t.val / 8 % 4) + d.val) :
    (iblk m c 5 t (ix2 j d) : EReal) = if h : j.val < 16 then (m ((c : Thread nD τ).loc main_arg2) (ix2 ⟨j.val, h⟩ k) : EReal) else (0 : EReal) := by
  have h1 : ∀ W : (b : Ref sig .tc) → Buf (Elt Ideal) ((c : Thread nD τ).loc b),
      ((cfg0.win 5).blk t).view.read (Elt Ideal) (W (Pipeline.arrRef spec0 5)) (ix2 j d) = W main_v3 (ix2 j k) := fun W => by
    blk_ext [idx5 t]
  refine (h1 (V m c)).trans ?_
  entry_read
  pointwise
  split_ifs with h
  · refine Routing.scatter_set_hit _ _ _ _ _ _ (fun u hu => ?_) (ix2 ⟨j.val, h⟩ k) ((pad_lands _ _ _).mpr ⟨rfl, rfl⟩)
    obtain ⟨h0, h1⟩ := (pad_lands _ _ _).mp hu
    exact congrArg (m ((c : Thread nD τ).loc main_arg2)) (funext fun a => by
      match a with
      | ⟨0, _⟩ => exact Fin.ext h0
      | ⟨1, _⟩ => exact Fin.ext h1)
  · rw [Routing.scatter_set_miss]
    · pointwise
    · intro u hu
      have h0 := ((pad_lands _ _ _).mp hu).1
      have := (u 0).isLt
      exact h (h0 ▸ this)

/-- The gate bias. -/
theorem blk_b (t : Fin cfg0.N) (d : Fin 256) (k : Fin 1024) (hk : k.val = 256 * (t.val / 8 % 4) + d.val) :
    iblk m c 6 t (ix2 0 d) = m ((c : Thread nD τ).loc main_arg3) (ix1 k) := by
  have h1 : iblk m c 6 t (ix2 0 d) = V m c main_v4 (ix2 0 k) := by blk_ext [iblk, idx6 t]
  rw [h1]
  entry_read
  pointwise

/-- The norm's weights. -/
theorem blk_n (t : Fin cfg0.N) (e : Fin 512) :
    iblk m c 7 t (ix2 0 e) = m ((c : Thread nD τ).loc main_arg4) (ix1 e) := by
  have h1 : iblk m c 7 t (ix2 0 e) = V m c main_v5 (ix2 0 e) := by blk_ext [iblk, idx7 t]
  rw [h1]
  entry_read
  pointwise

end Cert.Gla
end
-- ==== Proof.Gla.Kernel.lean ====
/-
  The kernel's result array: gated linear attention of the launched arrays. By induction over the grid points the scratch
  holds the state after the point's four chunks, so each point stores its rows of the attention.
-/
module

public import proofs.«01_k».proof.Proof.Gla.Block
public import proofs.«01_k».proof.Proof.Gla.Inputs
public import proofs.«01_k».proof.Proof.Gla.Model

@[expose] public section

noncomputable section

open Idealize.ShloMosaic Idealize.ShloMosaic.TcCoe Idealize.SL.Sem
open Cert.KernelIdeal Cert.KernelIdeal.Gen

namespace Cert.Gla

variable (m : (ℓ : Loc nD τ sig) → Buf (Elt Ideal) ℓ) (c : Dev nD)

/-- The launched arrays. -/
abbrev aX : (⟨3, ![4, 2048, 6144]⟩ : Shape).Idx → EReal := m ((c : Thread nD τ).loc main_arg0)
abbrev aL : (⟨3, ![4, 2048, 128]⟩ : Shape).Idx → EReal := m ((c : Thread nD τ).loc main_arg1)
abbrev aW : (⟨2, ![16, 1024]⟩ : Shape).Idx → EReal := m ((c : Thread nD τ).loc main_arg2)
abbrev aB : (⟨1, ![1024]⟩ : Shape).Idx → EReal := m ((c : Thread nD τ).loc main_arg3)
abbrev aN : (⟨1, ![512]⟩ : Shape).Idx → EReal := m ((c : Thread nD τ).loc main_arg4)

section
variable (t : Fin cfg0.N) (r d : Fin 256) (e : Fin 512)

theorem in_q : (show EReal from iblk m c 0 t (ix3 0 r d)) * Ideal.ofBits .f32 0x3D800000#32
    = qRow (aX m c) (t.val / 32) (t.val / 8 % 4) (256 * (t.val % 8) + r.val) d := by
  have ht := t_lt t
  have h := blk_q m c t r d (Fin.ofNat 4 (t.val / 32)) (Fin.ofNat 2048 (256 * (t.val % 8) + r.val)) (Fin.ofNat 6144 (256 * (t.val / 8 % 4) + d.val))
    (by simp only [Fin.val_ofNat]; omega) (by simp only [Fin.val_ofNat]; omega) (by simp only [Fin.val_ofNat]; omega)
  exact congrArg (fun z : EReal => z * Ideal.ofBits .f32 0x3D800000#32) h

theorem in_k : iblk m c 1 t (ix3 0 r d) = kRow (aX m c) (t.val / 32) (t.val / 8 % 4) (256 * (t.val % 8) + r.val) d := by
  have ht := t_lt t
  exact blk_k m c t r d (Fin.ofNat 4 _) (Fin.ofNat 2048 _) (Fin.ofNat 6144 _)
    (by simp only [Fin.val_ofNat]; omega) (by simp only [Fin.val_ofNat]; omega) (by simp only [Fin.val_ofNat]; omega)

theorem in_v : iblk m c 2 t (ix3 0 r e) = vRow (aX m c) (t.val / 32) (t.val / 8 % 4) (256 * (t.val % 8) + r.val) e := by
  have ht := t_lt t
  exact blk_v m c t r e (Fin.ofNat 4 _) (Fin.ofNat 2048 _) (Fin.ofNat 6144 _)
    (by simp only [Fin.val_ofNat]; omega) (by simp only [Fin.val_ofNat]; omega) (by simp only [Fin.val_ofNat]; omega)

theorem in_g : iblk m c 3 t (ix3 0 r e) = gRow (aX m c) (t.val / 32) (t.val / 8 % 4) (256 * (t.val % 8) + r.val) e := by
  have ht := t_lt t
  exact blk_g m c t r e (Fin.ofNat 4 _) (Fin.ofNat 2048 _) (Fin.ofNat 6144 _)
    (by simp only [Fin.val_ofNat]; omega) (by simp only [Fin.val_ofNat]; omega) (by simp only [Fin.val_ofNat]; omega)

/-- The log decays of a point's rows: the padding rows of the gate's weights add nothing. -/
theorem in_l : k0_pay3 (F := Ideal) (iblk m c 4 t) (iblk m c 5 t) (iblk m c 6 t) (ix2 r d)
    = lRow (aL m c) (aW m c) (aB m c) (t.val / 32) (t.val / 8 % 4) (256 * (t.val % 8) + r.val) d := by
  have ht := t_lt t
  have hk : (Fin.ofNat 1024 (256 * (t.val / 8 % 4) + d.val)).val = 256 * (t.val / 8 % 4) + d.val := by
    simp only [Fin.val_ofNat]; omega
  refine (pay3_at (iblk m c 4 t) (iblk m c 5 t) (iblk m c 6 t) r d).trans ?_
  unfold lRow
  congr 2
  refine congr (congrArg HAdd.hAdd ?_) (blk_b m c t d _ hk)
  symm
  refine Fintype.sum_of_injective (fun j : Fin 16 => (⟨j.val, by omega⟩ : Fin 128)) (fun a b h => Fin.ext (Fin.mk.inj h)) _ _ ?_ ?_
  · intro j hj
    have hj' : ¬ j.val < 16 := fun h => hj ⟨⟨j.val, h⟩, rfl⟩
    rw [show iblk m c 5 t (ix2 j d) = (0 : EReal) from (blk_w m c t j d _ hk).trans (dif_neg hj')]
    exact mul_zero _
  · intro j
    have h1 := blk_l m c t r ⟨j.val, by omega⟩ (Fin.ofNat 4 (t.val / 32)) (Fin.ofNat 2048 (256 * (t.val % 8) + r.val))
      (by simp only [Fin.val_ofNat]; omega) (by simp only [Fin.val_ofNat]; omega)
    have h2 := (blk_w m c t ⟨j.val, by omega⟩ d _ hk).trans (dif_pos j.isLt)
    exact (congr (congrArg (fun x y : EReal => x * y) h1) h2).symm

end

/-- The scratch after point `n`: the state after the point's four chunks. -/
theorem scratch_at (n : ℕ) (hn : n < cfg0.N) (e : Fin 512) (d : Fin 256) :
    (outsAt0 m c n hn).2 (ix2 e d) = stateAt (kRow (aX m c) (n / 32) (n / 8 % 4)) (lRow (aL m c) (aW m c) (aB m c) (n / 32) (n / 8 % 4))
      (vRow (aX m c) (n / 32) (n / 8 % 4)) (4 * (n % 8 + 1)) e d := by
  induction n using Nat.strong_induction_on generalizing e d with
  | _ n ih =>
    have hN : cfg0.N = 128 := N_0
    have hl := lRow_ne_top (aL m c) (aW m c) (aB m c) (n / 32) (n / 8 % 4)
    have hla := fun r d => in_l m c ⟨n, hn⟩ r d
    have hK := fun r d => in_k m c ⟨n, hn⟩ r d
    have hV := fun r e => in_v m c ⟨n, hn⟩ r e
    by_cases h0 : n % 8 = 0
    · rw [outsAt0_A m c ⟨n, hn⟩ h0]
      dsimp only
      rw [sout_A]
      refine state_block _ _ _ (n % 8) _ _ _ _ hl hla hK hV (fun e d => ?_) e d
      rw [h0]
      pointwise [k0_pay2]
      rfl
    · rw [outsAt0_B m c ⟨n, hn⟩ h0]
      dsimp only
      rw [sout_B]
      refine state_block _ _ _ (n % 8) _ _ _ _ hl hla hK hV (fun e d => ?_) e d
      rw [ih (n - 1) (by omega) (by omega)]
      have e1 : (n - 1) / 32 = n / 32 := by omega
      have e2 : (n - 1) / 8 % 4 = n / 8 % 4 := by omega
      have e3 : (n - 1) % 8 + 1 = n % 8 := by omega
      rw [e1, e2, e3]

/-- What point `t` stores. -/
theorem stored_at (t : Fin cfg0.N) (r : Fin 256) (e : Fin 512) :
    (outsAt0 m c t.val t.isLt).1 (ix3 0 r e)
      = gla (aX m c) (aL m c) (aW m c) (aB m c) (aN m c) (t.val / 32) (t.val / 8 % 4) (256 * (t.val % 8) + r.val) e := by
  have hN : cfg0.N = 128 := N_0
  have htl := t_lt t
  have hl := lRow_ne_top (aL m c) (aW m c) (aB m c) (t.val / 32) (t.val / 8 % 4)
  have hla := fun r d => in_l m c t r d
  have hQ := fun r d => in_q m c t r d
  have hK := fun r d => in_k m c t r d
  have hV := fun r e => in_v m c t r e
  have fin : ∀ s0, (∀ e d, s0 (ix2 e d) = stateAt (kRow (aX m c) (t.val / 32) (t.val / 8 % 4)) (lRow (aL m c) (aW m c) (aB m c) (t.val / 32) (t.val / 8 % 4))
      (vRow (aX m c) (t.val / 32) (t.val / 8 % 4)) (4 * (t.val % 8)) e d) →
      O4 (F := Ideal) (k0_pay3 (iblk m c 4 t) (iblk m c 5 t) (iblk m c 6 t)) (iblk m c 0 t) (iblk m c 1 t) (iblk m c 2 t) (iblk m c 3 t) (iblk m c 7 t) s0 (ix3 0 r e)
        = gla (aX m c) (aL m c) (aW m c) (aB m c) (aN m c) (t.val / 32) (t.val / 8 % 4) (256 * (t.val % 8) + r.val) e := fun s0 hs => by
    refine (out_block _ _ _ _ (t.val % 8) _ _ _ _ _ _ s0 hl hla hQ hK hV hs r e).trans ?_
    unfold gla
    exact congr (congrArg HMul.hMul (congrArg (fun w => rms _ w e) (blk_n m c t e))) (congrArg silu (in_g m c t r e))
  by_cases h0 : t.val % 8 = 0
  · rw [outsAt0_A m c t h0]
    dsimp only
    rw [out_A]
    refine fin _ fun e d => ?_
    rw [h0]
    pointwise [k0_pay2]
    rfl
  · rw [outsAt0_B m c t h0]
    dsimp only
    rw [out_B]
    refine fin _ fun e d => ?_
    rw [scratch_at]
    have e1 : (t.val - 1) / 32 = t.val / 32 := by omega
    have e2 : (t.val - 1) / 8 % 4 = t.val / 8 % 4 := by omega
    have e3 : (t.val - 1) % 8 + 1 = t.val % 8 := by omega
    rw [e1, e2, e3]

/-- The attention as an array: lanes `512 h …` are head `h`. -/
def result (x : (⟨3, ![4, 2048, 6144]⟩ : Shape).Idx → EReal) (gl : (⟨3, ![4, 2048, 128]⟩ : Shape).Idx → EReal)
    (w : (⟨2, ![16, 1024]⟩ : Shape).Idx → EReal) (bg : (⟨1, ![1024]⟩ : Shape).Idx → EReal) (nw : (⟨1, ![512]⟩ : Shape).Idx → EReal) :
    (⟨3, ![4, 2048, 2048]⟩ : Shape).Idx → EReal := fun i =>
  gla x gl w bg nw (i 0).val ((i 2).val / 512) (i 1).val (Fin.ofNat 512 (i 2).val)

/-- The result array after the run. -/
theorem final_out : (dats m 0 c).arrAt 8 cfg0.N = result (aX m c) (aL m c) (aW m c) (aB m c) (aN m c) := by
  refine (dats m 0 c).arrAt_eq_of_covers 8 _ (by decide +kernel) fun t hf y => ?_
  have ht := t_lt t
  have h0 : ((((cfg0.win 8).blk t).view.emb y 0 : Fin _) : ℕ) = t.val / 32 := by blk_simp [idx8 t];
  have h1 : ((((cfg0.win 8).blk t).view.emb y 1 : Fin _) : ℕ) = 256 * (t.val % 8) + (y 1).val := by blk_simp [idx8 t]; omega
  have h2 : ((((cfg0.win 8).blk t).view.emb y 2 : Fin _) : ℕ) = 512 * (t.val / 8 % 4) + (y 2).val := by blk_simp [idx8 t]; omega
  have hy2 : (y 2).val < 512 := (y 2).isLt
  have key : (outsAt0 m c t.val t.isLt).1 y = result (aX m c) (aL m c) (aW m c) (aB m c) (aN m c) ((((cfg0.win 8).blk t).view.emb y)) := by
    unfold result
    rw [h0, h1, h2, show (512 * (t.val / 8 % 4) + (y 2).val) / 512 = t.val / 8 % 4 by omega]
    refine Eq.trans ?_ ((stored_at m c t (y 1) (y 2)).trans ?_)
    · refine congrArg (outsAt0 m c t.val t.isLt).1 (funext fun a => ?_)
      match a with
      | ⟨0, _⟩ => exact Subsingleton.elim (α := Fin 1) _ _
      | ⟨1, _⟩ => rfl
      | ⟨2, _⟩ => rfl
    · congr 1
      exact Fin.ext (by simp only [Fin.val_ofNat]; omega)
  blk_simp
  rw [after0_8]
  exact key

end Cert.Gla
end
-- ==== Proof.Gla.RefFinal.lean ====
/-
  The reference's result: what each position reads, normalized and gated; and its arguments, unchanged.
-/
module

public import proofs.«01_k».proof.Proof.Gla.RefLoop
public import proofs.«01_k».proof.Proof.Gla.Kernel

@[expose] public section

set_option maxHeartbeats 1000000
set_option maxRecDepth 100000

noncomputable section

open Idealize.ShloMosaic Idealize.ShloMosaic.TcCoe Idealize.SL.Sem Idealize.ShloMosaic.StableHlo
open Cert.ReferenceIdeal Cert.ReferenceIdeal.Gen Cert.ReferenceIdeal.Value

namespace Cert.Gla.Ref

/-- What each position reads, by position and head. -/
def o (u : T S4x4x32x64x512) (y : T S32x4x4x64x512) : T S4x2048x4x512 :=
  shapeCast S4x2048x4x512 (transpose S4x32x64x4x512 [0, 2, 3, 1, 4]
    (addf u (transpose S4x4x32x64x512 [1, 2, 0, 3, 4] y transposes_S32x4x4x64x512_S4x4x32x64x512_1_2_0_3_4))
    transposes_S4x4x32x64x512_S4x32x64x4x512_0_2_3_1_4) shapeCasts_S4x32x64x4x512_S4x2048x4x512

/-- The normalized rows. -/
def nrm (x : T S4x2048x4x512) (w : T S512) : T S4x2048x4x512 :=
  mulf (mulf x (broadcastInDim S4x2048x4x512 ![0, 1, 2, 3] bcast_S4x2048x4x1_S4x2048x4x512_0_1_2_3
      (Host.rsqrt (addf (Host.divf (broadcastInDim S4x2048x4x1 ![0, 1, 2] bcast_S4x2048x4_S4x2048x4x1_0_1_2
          (Host.reduceAdd (mulf x x) (constant S_ .f32 0x00000000#32) reducesTo_S4x2048x4x512_S4x2048x4_d3 h_S_))
        (broadcastInDim S4x2048x4x1 ![] bcast_S_S4x2048x4x1 (constant S_ .f32 0x44000000#32)))
        (broadcastInDim S4x2048x4x1 ![] bcast_S_S4x2048x4x1 (constant S_ .f32 0x358637BD#32))))))
    (broadcastInDim S4x2048x4x512 ![0, 1, 2, 3] bcast_S1x1x1x512_S4x2048x4x512_0_1_2_3
      (broadcastInDim S1x1x1x512 ![3] bcast_S512_S1x1x1x512_3 w))

/-- The swish of the gates. -/
def sw (g : T S4x2048x4x512) : T S4x2048x4x512 :=
  mulf g (Host.divf (broadcastInDim S4x2048x4x512 ![] bcast_S_S4x2048x4x512 (constant S_ .f32 0x3F800000#32))
    (addf (broadcastInDim S4x2048x4x512 ![] bcast_S_S4x2048x4x512 (constant S_ .f32 0x3F800000#32)) (Host.exp (Host.negf g))))

/-- The result, from what the positions read, the gates and the weights. -/
def fin (u : T S4x4x32x64x512) (y : T S32x4x4x64x512) (g : T S4x2048x2048) (w : T S512) : FVec Ideal S4x2048x2048 .bf16 :=
  truncf .bf16 (shapeCast S4x2048x2048 (mulf (nrm (o u y) w) (sw (shapeCast S4x2048x4x512 g shapeCasts_S4x2048x2048_S4x2048x4x512)))
    shapeCasts_S4x2048x4x512_S4x2048x2048) bitsLt_bf16_f32

theorem of_v64 (x) : (TRef.of main_v64 : TRef sig ⟨S4x2048x4x512, .f32⟩).ofBuf (Val := Elt Ideal) x = x := rfl
theorem of_v65 (x) : (TRef.of main_v65 : TRef sig ⟨S4x2048x4x512, .f32⟩).toBuf (Val := Elt Ideal) x = x := rfl

/-- The operations after the loop, from any contents. -/
theorem post_eq (Z : Valuation τ sig (Elt Ideal)) : afterL postI Z (Proc.devRef .tc main_v68)
    = fin (Z (Proc.devRef .tc main_v37)) (Z (Proc.devRef .tc main_v46_6)) (Z (Proc.devRef .tc main_v3)) (Z (Proc.devRef .tc main_arg4)) := by
  simp only [afterL_cons, afterL_nil]
  after_reads_simp
  simp only [TRef.ofBuf_toBuf, of_v64, of_v65]
  rfl

theorem o_at (u : T S4x4x32x64x512) (y : T S32x4x4x64x512) (b h : Fin 4) (l : Fin 2048) (e : Fin 512) :
    o u y (ix4 b l h e) = u (ix5 b h ⟨l.val / 64, by omega⟩ ⟨l.val % 64, by omega⟩ e) + y (ix5 ⟨l.val / 64, by omega⟩ b h ⟨l.val % 64, by omega⟩ e) := by
  unfold o
  pointwise

theorem nrm_at (x : T S4x2048x4x512) (w : T S512) (b h : Fin 4) (l : Fin 2048) (e : Fin 512) :
    nrm x w (ix4 b l h e) = rms (fun e => x (ix4 b l h e)) (w (ix1 e)) e := by
  unfold nrm rms
  pointwise

theorem sw_at (g : T S4x2048x4x512) (b h : Fin 4) (l : Fin 2048) (e : Fin 512) :
    sw g (ix4 b l h e) = silu (g (ix4 b l h e)) := by
  unfold sw silu
  pointwise
  rfl

theorem fin_at (u : T S4x4x32x64x512) (y : T S32x4x4x64x512) (g : T S4x2048x2048) (w : T S512) (b : Fin 4) (l r : Fin 2048) :
    fin u y g w (ix3 b l r) = nrm (o u y) w (ix4 b l ⟨r.val / 512, by omega⟩ ⟨r.val % 512, by omega⟩) * silu (g (ix3 b l r)) := by
  unfold fin
  pointwise [sw_at]

theorem g_at (x : T S4x2048x6144) (b : Fin 4) (l r : Fin 2048) :
    extractStridedSlice S4x2048x2048 ![0, 0, 4096] x slices_S4x2048x6144_S4x2048x2048_0_0_4096 (ix3 b l r)
      = x (ix3 b l ⟨4096 + r.val, by omega⟩) := by
  pointwise

section
variable (m : (ℓ : Loc nD τ sig) → Buf (Elt Ideal) ℓ) (c : Dev nD)

/-- The references the loop writes. -/
abbrev loopW : List (Ref sig .tc) := condOps_W ++ while0Ops0_W ++ while0Ops0_1_W ++ while0Ops0_2_W ++ while0Ops0_3_W
  ++ while0Ops0_4_W ++ while0Ops0_5_W ++ while0Ops0_6_W

/-- What the loop does not write is as it was before it. -/
theorem loop_keep (r : Ref sig .tc) (hr : r ∉ loopW) : ∀ n, atK m n c (Proc.devRef .tc r) = entryContents preI m c (Proc.devRef .tc r)
  | 0 => rfl
  | n + 1 => by
    have h : atK m (n + 1) c = afterL bodyI (after condOps (atK m n c)) := rfl
    simp only [loopW, List.mem_append, not_or] at hr
    obtain ⟨⟨⟨⟨⟨⟨⟨h0, h1⟩, h2⟩, h3⟩, h4⟩, h5⟩, h6⟩, h7⟩ := hr
    rw [h]
    simp only [afterL_cons, afterL_nil]
    rw [after_of_writes_sub while0Ops0_6 _ while0Ops0_6_writes h7, after_of_writes_sub while0Ops0_5 _ while0Ops0_5_writes h6,
      after_of_writes_sub while0Ops0_4 _ while0Ops0_4_writes h5, after_of_writes_sub while0Ops0_3 _ while0Ops0_3_writes h4,
      after_of_writes_sub while0Ops0_2 _ while0Ops0_2_writes h3, after_of_writes_sub while0Ops0_1 _ while0Ops0_1_writes h2,
      after_of_writes_sub while0Ops0 _ while0Ops0_writes h1, after_of_writes_sub condOps _ condOps_writes h0, loop_keep r (by
        simp only [loopW, List.mem_append, not_or]; exact ⟨⟨⟨⟨⟨⟨⟨h0, h1⟩, h2⟩, h3⟩, h4⟩, h5⟩, h6⟩, h7⟩) n]
    rfl

/-- After the loop's last test. -/
abbrev Z : Valuation τ sig (Elt Ideal) := after condOps (atK m 32 c)

theorem Z_keep (r : Ref sig .tc) (hr : r ∉ loopW) : Z m c (Proc.devRef .tc r) = entryContents preI m c (Proc.devRef .tc r) := by
  rw [← loop_keep m c r hr 32]
  exact after_of_writes_sub condOps _ condOps_writes (fun h => hr (by simp only [loopW, List.mem_append]; tauto))

theorem Z_out : Z m c (Proc.devRef .tc main_v46_6) = outI m c 32 :=
  (cond_keeps (atK m 32 c) main_v46_6 (by decide)).trans (atK_agree m c 32 main_v46_6 (by decide))

/-- The reference's result is gated linear attention of its arguments. -/
theorem final_eq : finalContents condOps preI bodyI postI 32 m c (Proc.devRef .tc main_v68)
    = result (rX m c) (rL m c) (rW m c) (rB m c) (rN m c) := by
  show afterL postI (Z m c) _ = _
  rw [post_eq, Z_out, Z_keep m c main_v37 (by decide), Z_keep m c main_v3 (by decide), Z_keep m c main_arg4 (by decide),
    e_intra, e_g, e_n]
  funext i
  obtain ⟨b, l, r, rfl⟩ : ∃ b l r, i = ix3 b l r := ⟨i 0, i 1, i 2, ValueIdx.eq_ix3 i⟩
  have hr := r.isLt
  have he : (⟨r.val % 512, by omega⟩ : Fin 512) = Fin.ofNat 512 r.val := Fin.ext (by simp only [Fin.val_ofNat])
  rw [fin_at, nrm_at, g_at]
  show _ = gla (rX m c) (rL m c) (rW m c) (rB m c) (rN m c) b.val (r.val / 512) l.val (Fin.ofNat 512 r.val)
  unfold gla
  rw [he]
  congr 2
  · funext e
    rw [o_at, read_eq]
    rfl
  · unfold gRow xAt
    rw [four_eq]
    congr 2
    · exact Fin.ext (by simp only [Fin.val_ofNat]; omega)
    · exact Fin.ext (by simp only [Fin.val_ofNat]; omega)

end

end Cert.Gla.Ref

end
-- ==== Proof.Gla.Run.lean ====
/-
  The runs of the gated linear attention: the kernel's and the reference's results are the same array.
-/
module

public import proofs.«01_k».proof.Defs
public import proofs.«01_k».proof.Proof.Gla.RefFinal
public import proofs.«01_k».proof.Proof.Gen.KernelIdeal.Frame
public import Idealize.ShloMosaic.Lib.Quiescent

@[expose] public section

set_option maxHeartbeats 1000000
set_option maxRecDepth 100000

noncomputable section

open Idealize.ShloMosaic Idealize.ShloMosaic.TcCoe Idealize.SL.Sem Idealize.ShloMosaic.StableHlo

namespace Cert.Gla

namespace Ref
open Cert.ReferenceIdeal Cert.ReferenceIdeal.Gen Cert.ReferenceIdeal.Value

variable (m : (ℓ : Loc nD τ sig) → Buf (Elt Ideal) ℓ) (ρ : Dev nD → PrngReg)

/-- What nothing writes ends as it was launched. -/
theorem keep (c : Dev nD) (r : Ref sig .tc) (hl : r ∉ loopW)
    (hpost : afterL postI (Z m c) (Proc.devRef .tc r) = Z m c (Proc.devRef .tc r))
    (hpre : entryContents preI m c (Proc.devRef .tc r) = m ((c.tc : Thread nD τ).loc r)) :
    finalContents condOps preI bodyI postI 32 m c (Proc.devRef .tc r) = m ((c.tc : Thread nD τ).loc r) :=
  hpost.trans ((Z_keep m c r hl).trans hpre)

/-- The operations before and after the loop leave the arguments as they were. -/
theorem arg_keep (c : Dev nD) :
    finalContents condOps preI bodyI postI 32 m c (Proc.devRef .tc main_arg0) = m ((c.tc : Thread nD τ).loc main_arg0)
    ∧ finalContents condOps preI bodyI postI 32 m c (Proc.devRef .tc main_arg1) = m ((c.tc : Thread nD τ).loc main_arg1)
    ∧ finalContents condOps preI bodyI postI 32 m c (Proc.devRef .tc main_arg2) = m ((c.tc : Thread nD τ).loc main_arg2)
    ∧ finalContents condOps preI bodyI postI 32 m c (Proc.devRef .tc main_arg3) = m ((c.tc : Thread nD τ).loc main_arg3)
    ∧ finalContents condOps preI bodyI postI 32 m c (Proc.devRef .tc main_arg4) = m ((c.tc : Thread nD τ).loc main_arg4) := by
  refine ⟨keep m c main_arg0 (by decide) ?_ ?_, keep m c main_arg1 (by decide) ?_ ?_, keep m c main_arg2 (by decide) ?_ ?_,
    keep m c main_arg3 (by decide) ?_ ?_, keep m c main_arg4 (by decide) ?_ ?_⟩
  all_goals
    simp only [entryContents, afterL_cons, afterL_nil]
    after_reads_simp

/-- Every run of the reference ends with gated linear attention of its arguments, which are unchanged. -/
theorem run : θ_run (defs (F := Ideal)) (onTc (τ := τ) (main (F := Ideal))) ⟨m, fun _ => 0, ρ⟩ (fun r => ∀ c : Dev nD,
    r.2.mem ((c.tc : Thread nD τ).loc main_v68) = result (rX m c) (rL m c) (rW m c) (rB m c) (rN m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run (defs (F := Ideal)) _ _).mono (fun r h c => by
    obtain ⟨k0, k1, k2, k3, k4⟩ := arg_keep m c
    exact ⟨(h c main_v68 rfl).trans (final_eq m c), (h c main_arg0 rfl).trans k0, (h c main_arg1 rfl).trans k1,
      (h c main_arg2 rfl).trans k2, (h c main_arg3 rfl).trans k3, (h c main_arg4 rfl).trans k4⟩) (run_fold m ρ)

theorem frame : Cert.quiescent_ReferenceIdeal := fun m ρ _ =>
  (θ_run (defs (F := Ideal)) _ _).mono (fun r h => ⟨fun c => (h c).2, sem_eq_zero_of_no_sems (by decide) r.2⟩) (run m ρ)

end Ref

/-- The kernel and the reference end with the same array. -/
theorem algebraic : Cert.algebraic_KernelIdeal_ReferenceIdeal := by
  intro m ρ m' ρ' _ hagree
  refine ⟨fun c => result (aX m c) (aL m c) (aW m c) (aB m c) (aN m c), ?_, ?_⟩
  · refine (θ_run (Cert.KernelIdeal.defs (F := Ideal)) _ _).mono (fun r h c => ?_) (Cert.KernelIdeal.Value.run_blocks m ρ)
    exact ⟨(h c).1.trans (final_out m c), (h c).2⟩
  · refine (θ_run (Cert.ReferenceIdeal.defs (F := Ideal)) _ _).mono (fun r h c => ?_) (Ref.run m' ρ')
    obtain ⟨a0, a1, a2, a3, a4⟩ := hagree c
    refine ⟨(h c).1.trans ?_, (h c).2⟩
    rw [show Ref.rX m' c = aX m c from a0, show Ref.rL m' c = aL m c from a1, show Ref.rW m' c = aW m c from a2,
      show Ref.rB m' c = aB m c from a3, show Ref.rN m' c = aN m c from a4]

end Cert.Gla

end
-- ==== Proof.Proj.Row.lean ====
/-
  The normalization of a row of 2048 lanes, over the extended reals.
-/
module

public import Idealize.ShloMosaic.Lib.Pointwise

@[expose] public section

noncomputable section

open Idealize.ShloMosaic

namespace Cert.Row

/-- Lane `e` of the row `y`, divided by the root of the row's mean square, times the weight `w`. -/
def rms (y : Fin 2048 → EReal) (w : EReal) (e : Fin 2048) : EReal :=
  y e * Ideal.rsqrt (Ideal.div (∑ k : Fin 2048, y k * y k) (Ideal.ofBits .f32 0x45000000#32) + Ideal.ofBits .f32 0x358637BD#32) * w

end Cert.Row

end
-- ==== Proof.Qkv.Qkv.lean ====
/-
  The modulated norm and the projection to queries, keys and values: the kernel's array and the reference's array.
-/
module

public import proofs.«01_k».proof.Defs
public import proofs.«01_k».proof.Proof.Proj.Row
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.Quiescent

@[expose] public section

noncomputable section

open Idealize.ShloMosaic Idealize.ShloMosaic.TcCoe Idealize.SL.Sem

namespace Cert.Qkv

/-- Lane `j` of a token's row after the norm, the scale and the shift of its sequence. -/
def hid (x : (⟨3, ![4, 2048, 2048]⟩ : Shape).Idx → EReal) (nw : (⟨1, ![2048]⟩ : Shape).Idx → EReal)
    (sc sh : (⟨3, ![4, 1, 2048]⟩ : Shape).Idx → EReal) (b : Fin 4) (l j : Fin 2048) : EReal :=
  Row.rms (fun k => x (ix3 b l k)) (nw (ix1 j)) j * (Ideal.ofBits .f32 0x3F800000#32 + sc (ix3 b 0 j)) + sh (ix3 b 0 j)

/-- The projected rows. -/
def result (x : (⟨3, ![4, 2048, 2048]⟩ : Shape).Idx → EReal) (nw : (⟨1, ![2048]⟩ : Shape).Idx → EReal)
    (sc sh : (⟨3, ![4, 1, 2048]⟩ : Shape).Idx → EReal) (w : (⟨2, ![2048, 6144]⟩ : Shape).Idx → EReal) :
    (⟨3, ![4, 2048, 6144]⟩ : Shape).Idx → EReal := fun i =>
  ∑ j : Fin 2048, hid x nw sc sh (i 0) (i 1) j * w (ix2 j (i 2))

namespace Ker
open Cert.Kernel2Ideal Cert.Kernel2Ideal.Gen

variable (m : (ℓ : Loc nD τ sig) → Buf (Elt Ideal) ℓ) (c : Dev nD)

/-- The launched arrays. -/
abbrev aX : (⟨3, ![4, 2048, 2048]⟩ : Shape).Idx → EReal := m ((c : Thread nD τ).loc main_arg0)
abbrev aN : (⟨1, ![2048]⟩ : Shape).Idx → EReal := m ((c : Thread nD τ).loc main_arg1)
abbrev aC : (⟨3, ![4, 1, 2048]⟩ : Shape).Idx → EReal := m ((c : Thread nD τ).loc main_arg2)
abbrev aS : (⟨3, ![4, 1, 2048]⟩ : Shape).Idx → EReal := m ((c : Thread nD τ).loc main_arg3)
abbrev aW : (⟨2, ![2048, 6144]⟩ : Shape).Idx → EReal := m ((c : Thread nD τ).loc main_arg4)

theorem idx0 : ∀ t : Fin cfg0.N, win0_0.index t = ![t.val / 24, t.val / 6 % 4, 0] := by decide +kernel
theorem idx1 : ∀ t : Fin cfg0.N, win0_1.index t = ![0, 0] := by decide +kernel
theorem idx2 : ∀ t : Fin cfg0.N, win0_2.index t = ![t.val / 24, 0, 0] := by decide +kernel
theorem idx3 : ∀ t : Fin cfg0.N, win0_3.index t = ![t.val / 24, 0, 0] := by decide +kernel
theorem idx4 : ∀ t : Fin cfg0.N, win0_4.index t = ![0, t.val % 6] := by decide +kernel
theorem idx5 : ∀ t : Fin cfg0.N, win0_5.index t = ![t.val / 24, t.val / 6 % 4, t.val % 6] := by decide +kernel

theorem t_lt (t : Fin cfg0.N) : t.val < 96 := lt_of_lt_of_eq t.isLt N_0

/-- The token rows of a point. -/
theorem blk_x (t : Fin cfg0.N) (r : Fin 512) (j : Fin 2048) (b : Fin 4) (l : Fin 2048) (hb : b.val = t.val / 24)
    (hl : l.val = 512 * (t.val / 6 % 4) + r.val) : iblk m c 0 t (ix3 0 r j) = aX m c (ix3 b l j) := by
  blk_ext [iblk, V, idx0 t]

/-- The norm's weights. -/
theorem blk_n (t : Fin cfg0.N) (k : Fin 2048) : iblk m c 1 t (ix2 0 k) = aN m c (ix1 k) := by
  have h1 : iblk m c 1 t (ix2 0 k) = V m c main_v0 (ix2 0 k) := by blk_ext [iblk, idx1 t]
  rw [h1]
  entry_read
  pointwise

/-- The scale of the point's sequence. -/
theorem blk_c (t : Fin cfg0.N) (j : Fin 2048) (b : Fin 4) (hb : b.val = t.val / 24) :
    iblk m c 2 t (ix3 0 0 j) = aC m c (ix3 b 0 j) := by
  blk_ext [iblk, V, idx2 t]

/-- The shift of the point's sequence. -/
theorem blk_s (t : Fin cfg0.N) (j : Fin 2048) (b : Fin 4) (hb : b.val = t.val / 24) :
    iblk m c 3 t (ix3 0 0 j) = aS m c (ix3 b 0 j) := by
  blk_ext [iblk, V, idx3 t]

/-- The columns of the weights that a point multiplies with. -/
theorem blk_w (t : Fin cfg0.N) (j : Fin 2048) (e : Fin 1024) (k : Fin 6144) (hk : k.val = 1024 * (t.val % 6) + e.val) :
    iblk m c 4 t (ix2 j e) = aW m c (ix2 j k) := by
  have h1 : iblk m c 4 t (ix2 j e) = V m c main_v1 (ix2 j k) := by blk_ext [iblk, idx4 t]
  rw [h1]
  entry_read
  pointwise

/-- The normalized rows that a row tile's first point leaves in the scratch. -/
theorem pay1_at (v10 : Vec Ideal S1x512x2048 .f32) (v12 : Vec Ideal S1x2048 .f32) (v14 v16 : Vec Ideal S1x1x2048 .f32)
    (r : Fin 512) (j : Fin 2048) :
    k0_pay1 (F := Ideal) v10 v12 v14 v16 (ix2 r j)
      = Row.rms (fun k => v10 (ix3 0 r k)) (v12 (ix2 0 j)) j * (Ideal.ofBits .f32 0x3F800000#32 + v14 (ix3 0 0 j)) + v16 (ix3 0 0 j) := by
  pointwise [k0_pay1, Row.rms]

/-- The product that a point stores. -/
theorem pay2_at (v3 : Vec Ideal S512x2048 .bf16) (v4 : Vec Ideal S2048x1024 .bf16) (r : Fin 512) (e : Fin 1024) :
    k0_pay2 (F := Ideal) v3 v4 (ix3 0 r e) = ∑ j : Fin 2048, v3 (ix2 r j) * v4 (ix2 j e) := by
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

section
variable (i : grid0.Coords) (a3 : Memref sig .tc .vmem S1x512x2048 .f32) (h3 : a3.IsWhole) (a4 : Memref sig .tc .vmem S1x2048 .f32) (h4 : a4.IsWhole) (a5 : Memref sig .tc .vmem S1x1x2048 .f32) (h5 : a5.IsWhole) (a6 : Memref sig .tc .vmem S1x1x2048 .f32) (h6 : a6.IsWhole) (a7 : Memref sig .tc .vmem S2048x1024 .bf16) (h7 : a7.IsWhole)
  (a8 : Memref sig .tc .vmem S1x512x1024 .f32) (h8 : a8.IsWhole) (a9 : Memref sig .tc .vmem S512x2048 .bf16) (h9 : a9.IsWhole)
  (x0 : Vec Ideal S1x512x2048 .f32) (x1 : Vec Ideal S1x2048 .f32) (x2 x3 : Vec Ideal S1x1x2048 .f32) (x4 : Vec Ideal S2048x1024 .bf16)
  (xs : Vec Ideal S512x2048 .bf16)

/-- The scratch after a row tile's first point. -/
theorem sout_A (hc : cond0_0 i) :
    sout0_A_0 (F := Ideal) c i a3 h3 a4 h4 a5 h5 a6 h6 a7 h7 a8 h8 a9 h9 hc x0 x1 x2 x3 x4 = k0_pay1 x0 x1 x2 x3 := by
  unfold sout0_A_0
  rw [View.read_writes_eq_canon _ _ _ (scover0_A_0 c i a3 h3 a4 h4 a5 h5 a6 h6 a7 h7 a8 h8 a9 h9 hc x0 x1 x2 x3 x4)]
  unfold kernelRun0_A
  dsimp only
  sl_unfold_words
  rw [View.canon_unit_zero hz2]
  simp only [View.readAt_eq_ld, h3.read_unread, h4.read_unread, h5.read_unread, h6.read_unread, View.ld_unit_zero (S := S1x512x2048) hz3, View.ld_unit_zero (S := S1x1x2048) hz3, View.ld_unit_zero (S := S1x2048) hz2]

/-- The scratch after any later point: as it was. -/
theorem sout_B (hc : ¬cond0_0 i) :
    sout0_B_0 (F := Ideal) c i a3 h3 a4 h4 a5 h5 a6 h6 a7 h7 a8 h8 a9 h9 hc x0 x1 x2 x3 x4 xs = xs := by
  unfold sout0_B_0
  first
  | rfl
  | exact h9.read_unread _

/-- The output block of a row tile's first point. -/
theorem out_A (hc : cond0_0 i) :
    out0_A_5 (F := Ideal) c i a3 h3 a4 h4 a5 h5 a6 h6 a7 h7 a8 h8 a9 h9 hc x0 x1 x2 x3 x4 = k0_pay2 (k0_pay1 x0 x1 x2 x3) x4 := by
  unfold out0_A_5
  rw [View.read_writes_eq_canon _ _ _ (cover0_A_5 c i a3 h3 a4 h4 a5 h5 a6 h6 a7 h7 a8 h8 a9 h9 hc x0 x1 x2 x3 x4)]
  unfold kernelRun0_A
  dsimp only
  sl_unfold_words
  rw [View.canon_unit_zero hz3]
  simp only [View.readCov_unit_zero (S := S512x2048) _ hz2]
  simp only [View.readAt_eq_ld, h3.read_unread, h4.read_unread, h5.read_unread, h6.read_unread, h7.read_unread, View.ld_unit_zero (S := S1x512x2048) hz3, View.ld_unit_zero (S := S1x1x2048) hz3, View.ld_unit_zero (S := S1x2048) hz2, View.ld_unit_zero (S := S2048x1024) hz2]

/-- The output block of any later point. -/
theorem out_B (hc : ¬cond0_0 i) :
    out0_B_5 (F := Ideal) c i a3 h3 a4 h4 a5 h5 a6 h6 a7 h7 a8 h8 a9 h9 hc x0 x1 x2 x3 x4 xs = k0_pay2 xs x4 := by
  unfold out0_B_5
  rw [View.read_writes_eq_canon _ _ _ (cover0_B_5 c i a3 h3 a4 h4 a5 h5 a6 h6 a7 h7 a8 h8 a9 h9 hc x0 x1 x2 x3 x4 xs)]
  unfold kernelRun0_B
  dsimp only
  sl_unfold_words
  rw [View.canon_unit_zero hz3]
  simp only [View.readAt_eq_ld, h7.read_unread, h9.read_unread, View.ld_unit_zero (S := S512x2048) hz2, View.ld_unit_zero (S := S2048x1024) hz2]

end

/-- A point's normalized rows are rows of the whole array's. -/
theorem pay1_hid (t : Fin cfg0.N) (r : Fin 512) (j : Fin 2048) (b : Fin 4) (l : Fin 2048) (hb : b.val = t.val / 24)
    (hl : l.val = 512 * (t.val / 6 % 4) + r.val) :
    k0_pay1 (F := Ideal) (iblk m c 0 t) (iblk m c 1 t) (iblk m c 2 t) (iblk m c 3 t) (ix2 r j)
      = hid (aX m c) (aN m c) (aC m c) (aS m c) b l j := by
  refine (pay1_at _ _ _ _ r j).trans ?_
  refine congr (congrArg HAdd.hAdd (congr (congrArg HMul.hMul ?_) (congrArg (Ideal.ofBits .f32 0x3F800000#32 + ·) (blk_c m c t j b hb)))) (blk_s m c t j b hb)
  exact congrFun (congr (congrArg Row.rms (funext fun k => blk_x m c t r k b l hb hl)) (blk_n m c t j)) j

/-- The scratch after point `n`: the normalized rows of the point's row tile. -/
theorem scratch_at (n : ℕ) (hn : n < cfg0.N) (r : Fin 512) (j : Fin 2048) (b : Fin 4) (l : Fin 2048) (hb : b.val = n / 24)
    (hl : l.val = 512 * (n / 6 % 4) + r.val) :
    (outsAt0 m c n hn).2 (ix2 r j) = hid (aX m c) (aN m c) (aC m c) (aS m c) b l j := by
  induction n using Nat.strong_induction_on with
  | _ n ih =>
    have hN : cfg0.N = 96 := N_0
    by_cases h0 : n % 6 = 0
    · rw [outsAt0_A m c ⟨n, hn⟩ h0]
      dsimp only
      rw [sout_A]
      exact pay1_hid m c ⟨n, hn⟩ r j b l hb hl
    · rw [outsAt0_B m c ⟨n, hn⟩ h0]
      dsimp only
      rw [sout_B]
      exact ih (n - 1) (by omega) (by omega) (by omega) (by omega)

/-- What point `t` stores. -/
theorem stored_at (t : Fin cfg0.N) (r : Fin 512) (e : Fin 1024) (b : Fin 4) (l : Fin 2048) (k : Fin 6144) (hb : b.val = t.val / 24)
    (hl : l.val = 512 * (t.val / 6 % 4) + r.val) (hk : k.val = 1024 * (t.val % 6) + e.val) :
    (outsAt0 m c t.val t.isLt).1 (ix3 0 r e) = result (aX m c) (aN m c) (aC m c) (aS m c) (aW m c) (ix3 b l k) := by
  have hN : cfg0.N = 96 := N_0
  have ht := t_lt t
  by_cases h0 : t.val % 6 = 0
  · rw [outsAt0_A m c t h0]
    dsimp only
    rw [out_A]
    refine (pay2_at _ _ r e).trans ?_
    exact Finset.sum_congr rfl fun j _ => congr (congrArg HMul.hMul (pay1_hid m c t r j b l hb hl)) (blk_w m c t j e k hk)
  · rw [outsAt0_B m c t h0]
    dsimp only
    rw [out_B]
    refine (pay2_at _ _ r e).trans ?_
    exact Finset.sum_congr rfl fun j _ => congr (congrArg HMul.hMul
      (scratch_at m c (t.val - 1) (by omega) r j b l (by omega) (by omega))) (blk_w m c t j e k hk)

/-- The result array after the run. -/
theorem final_out : (dats m 0 c).arrAt 5 cfg0.N = result (aX m c) (aN m c) (aC m c) (aS m c) (aW m c) := by
  refine (dats m 0 c).arrAt_eq_of_covers 5 _ (by decide +kernel) fun t hf y => ?_
  have ht := t_lt t
  have h0 : ((((cfg0.win 5).blk t).view.emb y 0 : Fin _) : ℕ) = t.val / 24 := by blk_simp [idx5 t]
  have h1 : ((((cfg0.win 5).blk t).view.emb y 1 : Fin _) : ℕ) = 512 * (t.val / 6 % 4) + (y 1).val := by blk_simp [idx5 t]; omega
  have h2 : ((((cfg0.win 5).blk t).view.emb y 2 : Fin _) : ℕ) = 1024 * (t.val % 6) + (y 2).val := by blk_simp [idx5 t]; omega
  have key : (outsAt0 m c t.val t.isLt).1 y
      = result (aX m c) (aN m c) (aC m c) (aS m c) (aW m c) (((cfg0.win 5).blk t).view.emb y) := by
    have hy : y = ix3 0 (y 1) (y 2) := by
      funext a
      match a with
      | ⟨0, _⟩ => exact Subsingleton.elim (α := Fin 1) _ _
      | ⟨1, _⟩ => rfl
      | ⟨2, _⟩ => rfl
    rw [hy]
    refine (stored_at m c t (y 1) (y 2) _ _ _ h0 h1 h2).trans ?_
    rw [← hy]
    rfl
  blk_simp
  rw [after0_5]
  exact key

end Ker

namespace Ref
open Cert.Reference2Ideal Cert.Reference2Ideal.Gen

/-- The reference's normalized rows, written with its own operations. -/
def hidden (x : FVec Ideal S4x2048x2048 .f32) (nw : FVec Ideal S2048 .f32) (sc sh : FVec Ideal S4x1x2048 .f32) :
    FVec Ideal S4x2048x2048 .f32 :=
  addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 nw))) (broadcastInDim S4x2048x2048 ![0, 1, 2] bcast_S4x1x2048_S4x2048x2048_0_1_2 (addf (broadcastInDim S4x1x2048 ![] bcast_S_S4x1x2048 (constant S_ .f32 0x3F800000#32)) sc))) (broadcastInDim S4x2048x2048 ![0, 1, 2] bcast_S4x1x2048_S4x2048x2048_0_1_2 sh)

theorem hidden_at (x : FVec Ideal S4x2048x2048 .f32) (nw : FVec Ideal S2048 .f32) (sc sh : FVec Ideal S4x1x2048 .f32)
    (b : Fin 4) (l j : Fin 2048) : hidden x nw sc sh (ix3 b l j) = hid x nw sc sh b l j := by
  pointwise [hidden, hid, Row.rms]

theorem term_eq (x : FVec Ideal S4x2048x2048 .f32) (nw : FVec Ideal S2048 .f32) (sc sh : FVec Ideal S4x1x2048 .f32)
    (w : FVec Ideal S2048x6144 .f32) :
    Host.dotGeneral (F := Ideal) (φ₁ := .f32) (φ₂ := .f32) dot_S4x2048x2048_S2048x6144_S4x2048x6144_2_0_01_1_n_n none (hidden x nw sc sh) w
      = result x nw sc sh w := by
  funext i
  rw [ValueIdx.eq_ix3 i]
  show _ = ∑ j : Fin 2048, hid x nw sc sh (i 0) (i 1) j * w (ix2 j (i 2))
  pointwise
  exact Finset.sum_congr rfl fun j _ => congrArg (fun y : EReal => y * w (ix2 j (i 2))) (hidden_at x nw sc sh (i 0) (i 1) j)

theorem frame : Cert.quiescent_Reference2Ideal := fun m ρ _ =>
  (θ_run (defs (F := Ideal)) _ _).mono (fun r h => ⟨fun c => (h c).2, sem_eq_zero_of_no_sems (by decide) r.2⟩)
    (Cert.Reference2Ideal.Value.run m ρ)

end Ref

/-- The kernel and the reference end with the same array. -/
theorem algebraic : Cert.algebraic_Kernel2Ideal_Reference2Ideal := by
  intro m ρ m' ρ' _ hagree
  refine ⟨fun c => result (Ker.aX m c) (Ker.aN m c) (Ker.aC m c) (Ker.aS m c) (Ker.aW m c), ?_, ?_⟩
  · refine (θ_run (Cert.Kernel2Ideal.defs (F := Ideal)) _ _).mono (fun r h c => ?_) (Cert.Kernel2Ideal.Value.run_blocks m ρ)
    exact ⟨(h c).1.trans (Ker.final_out m c), (h c).2⟩
  · refine (θ_run (Cert.Reference2Ideal.defs (F := Ideal)) _ _).mono (fun r h c => ?_) (Cert.Reference2Ideal.Value.run m' ρ')
    obtain ⟨a0, a1, a2, a3, a4⟩ := hagree c
    refine ⟨(h c).1.trans ?_, (h c).2⟩
    rw [a0, a1, a2, a3, a4]
    exact Ref.term_eq ..

end Cert.Qkv

end
-- ==== Proof.Proj.Proj.lean ====
/-
  The output projection with its norm and gated residual: the kernel's array and the reference's array.
-/
module

public import proofs.«01_k».proof.Defs
public import proofs.«01_k».proof.Proof.Proj.Row
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.Quiescent

@[expose] public section

noncomputable section

open Idealize.ShloMosaic Idealize.ShloMosaic.TcCoe Idealize.SL.Sem

namespace Cert.Proj

/-- The residual stream plus the gated norm of the projected rows. -/
def result (a : (⟨3, ![4, 2048, 2048]⟩ : Shape).Idx → EReal) (w : (⟨2, ![2048, 2048]⟩ : Shape).Idx → EReal)
    (x : (⟨3, ![4, 2048, 2048]⟩ : Shape).Idx → EReal) (nw : (⟨1, ![2048]⟩ : Shape).Idx → EReal)
    (g : (⟨3, ![4, 1, 2048]⟩ : Shape).Idx → EReal) : (⟨3, ![4, 2048, 2048]⟩ : Shape).Idx → EReal := fun i =>
  x (ix3 (i 0) (i 1) (i 2)) + g (ix3 (i 0) 0 (i 2))
    * Row.rms (fun k => ∑ j : Fin 2048, a (ix3 (i 0) (i 1) j) * w (ix2 j k)) (nw (ix1 (i 2))) (i 2)

namespace Ker
open Cert.Kernel3Ideal Cert.Kernel3Ideal.Gen

variable (m : (ℓ : Loc nD τ sig) → Buf (Elt Ideal) ℓ) (c : Dev nD)

/-- The launched arrays. -/
abbrev aA : (⟨3, ![4, 2048, 2048]⟩ : Shape).Idx → EReal := m ((c : Thread nD τ).loc main_arg0)
abbrev aW : (⟨2, ![2048, 2048]⟩ : Shape).Idx → EReal := m ((c : Thread nD τ).loc main_arg1)
abbrev aX : (⟨3, ![4, 2048, 2048]⟩ : Shape).Idx → EReal := m ((c : Thread nD τ).loc main_arg2)
abbrev aN : (⟨1, ![2048]⟩ : Shape).Idx → EReal := m ((c : Thread nD τ).loc main_arg3)
abbrev aG : (⟨3, ![4, 1, 2048]⟩ : Shape).Idx → EReal := m ((c : Thread nD τ).loc main_arg4)

theorem idx0 : ∀ t : Fin cfg0.N, win0_0.index t = ![t.val / 4, t.val % 4, 0] := by decide +kernel
theorem idx1 : ∀ t : Fin cfg0.N, win0_1.index t = ![0, 0] := by decide +kernel
theorem idx2 : ∀ t : Fin cfg0.N, win0_2.index t = ![t.val / 4, t.val % 4, 0] := by decide +kernel
theorem idx3 : ∀ t : Fin cfg0.N, win0_3.index t = ![0, 0] := by decide +kernel
theorem idx4 : ∀ t : Fin cfg0.N, win0_4.index t = ![t.val / 4, 0, 0] := by decide +kernel
theorem idx5 : ∀ t : Fin cfg0.N, win0_5.index t = ![t.val / 4, t.val % 4, 0] := by decide +kernel

theorem t_lt (t : Fin cfg0.N) : t.val < 16 := lt_of_lt_of_eq t.isLt N_0

/-- The rows that a point projects. -/
theorem blk_a (t : Fin cfg0.N) (r : Fin 512) (j : Fin 2048) (b : Fin 4) (l : Fin 2048) (hb : b.val = t.val / 4)
    (hl : l.val = 512 * (t.val % 4) + r.val) : iblk m c 0 t (ix3 0 r j) = aA m c (ix3 b l j) := by
  blk_ext [iblk, V, idx0 t]

/-- The rows of the residual stream. -/
theorem blk_x (t : Fin cfg0.N) (r : Fin 512) (j : Fin 2048) (b : Fin 4) (l : Fin 2048) (hb : b.val = t.val / 4)
    (hl : l.val = 512 * (t.val % 4) + r.val) : iblk m c 2 t (ix3 0 r j) = aX m c (ix3 b l j) := by
  blk_ext [iblk, V, idx2 t]

/-- The gate of the point's sequence. -/
theorem blk_g (t : Fin cfg0.N) (j : Fin 2048) (b : Fin 4) (hb : b.val = t.val / 4) :
    iblk m c 4 t (ix3 0 0 j) = aG m c (ix3 b 0 j) := by
  blk_ext [iblk, V, idx4 t]

/-- The projection's weights. -/
theorem blk_w (t : Fin cfg0.N) (j k : Fin 2048) : iblk m c 1 t (ix2 j k) = aW m c (ix2 j k) := by
  have h1 : iblk m c 1 t (ix2 j k) = V m c main_v0 (ix2 j k) := by blk_ext [iblk, idx1 t]
  rw [h1]
  entry_read
  pointwise

/-- The norm's weights. -/
theorem blk_n (t : Fin cfg0.N) (k : Fin 2048) : iblk m c 3 t (ix2 0 k) = aN m c (ix1 k) := by
  have h1 : iblk m c 3 t (ix2 0 k) = V m c main_v1 (ix2 0 k) := by blk_ext [iblk, idx3 t]
  rw [h1]
  entry_read
  pointwise

/-- What a point stores, of its blocks. -/
theorem pay_at (v0 : Vec Ideal S1x512x2048 .bf16) (v2 : Vec Ideal S2048x2048 .bf16) (v5 : Vec Ideal S1x512x2048 .f32)
    (v7 : Vec Ideal S1x1x2048 .f32) (v19 : Vec Ideal S1x2048 .f32) (r : Fin 512) (e : Fin 2048) :
    k0_pay1 (F := Ideal) v0 v2 v5 v7 v19 (ix3 0 r e)
      = v5 (ix3 0 r e) + v7 (ix3 0 0 e) * Row.rms (fun k => ∑ j : Fin 2048, v0 (ix3 0 r j) * v2 (ix2 j k)) (v19 (ix2 0 e)) e := by
  pointwise [k0_pay1, Row.rms]

theorem hz2 : (![0, 0] : Fin 2 → Nat) = fun _ => 0 := funext fun a => by fin_cases a <;> rfl
theorem hz3 : (![0, 0, 0] : Fin 3 → Nat) = fun _ => 0 := funext fun a => by fin_cases a <;> rfl

/-- The point's output buffer, of its blocks. -/
theorem out_eq (x0 : Vec Ideal S1x512x2048 .bf16) (x1 : Vec Ideal S2048x2048 .bf16) (x2 : Vec Ideal S1x512x2048 .f32)
    (x3 : Vec Ideal S1x2048 .f32) (x4 : Vec Ideal S1x1x2048 .f32) : out0_5 x0 x1 x2 x3 x4 = k0_pay1 x0 x1 x2 x4 x3 := by
  unfold out0_5
  rw [View.canon_unit_zero (S := S1x512x2048) hz3, View.ld_unit_zero (S := S1x512x2048) hz3, View.ld_unit_zero (S := S2048x2048) hz2,
    View.ld_unit_zero (S := S1x512x2048) hz3, View.ld_unit_zero (S := S1x1x2048) hz3, View.ld_unit_zero (S := S1x2048) hz2]

/-- What point `t` stores. -/
theorem stored_at (t : Fin cfg0.N) (r : Fin 512) (e : Fin 2048) (b : Fin 4) (l : Fin 2048) (hb : b.val = t.val / 4)
    (hl : l.val = 512 * (t.val % 4) + r.val) :
    out0_5 (iblk m c 0 t) (iblk m c 1 t) (iblk m c 2 t) (iblk m c 3 t) (iblk m c 4 t) (ix3 0 r e)
      = result (aA m c) (aW m c) (aX m c) (aN m c) (aG m c) (ix3 b l e) := by
  rw [out_eq]
  refine (pay_at _ _ _ _ _ r e).trans ?_
  refine congr (congrArg HAdd.hAdd (blk_x m c t r e b l hb hl)) (congr (congrArg HMul.hMul (blk_g m c t e b hb)) ?_)
  refine congrFun (congr (congrArg Row.rms (funext fun k => ?_)) (blk_n m c t e)) e
  exact Finset.sum_congr rfl fun j _ => congr (congrArg HMul.hMul (blk_a m c t r j b l hb hl)) (blk_w m c t j k)

/-- The result array after the run. -/
theorem final_out : (dats m 0 c).arrAt 5 cfg0.N = result (aA m c) (aW m c) (aX m c) (aN m c) (aG m c) := by
  refine (dats m 0 c).arrAt_eq_of_covers 5 _ (by decide +kernel) fun t hf y => ?_
  have ht := t_lt t
  have h0 : ((((cfg0.win 5).blk t).view.emb y 0 : Fin _) : ℕ) = t.val / 4 := by blk_simp [idx5 t]
  have h1 : ((((cfg0.win 5).blk t).view.emb y 1 : Fin _) : ℕ) = 512 * (t.val % 4) + (y 1).val := by blk_simp [idx5 t]; omega
  have h2 : ((((cfg0.win 5).blk t).view.emb y 2 : Fin _) : ℕ) = (y 2).val := by blk_simp [idx5 t]
  have key : out0_5 (iblk m c 0 t) (iblk m c 1 t) (iblk m c 2 t) (iblk m c 3 t) (iblk m c 4 t) y
      = result (aA m c) (aW m c) (aX m c) (aN m c) (aG m c) (((cfg0.win 5).blk t).view.emb y) := by
    have hy : y = ix3 0 (y 1) (y 2) := by
      funext a
      match a with
      | ⟨0, _⟩ => exact Subsingleton.elim (α := Fin 1) _ _
      | ⟨1, _⟩ => rfl
      | ⟨2, _⟩ => rfl
    rw [hy]
    refine (stored_at m c t (y 1) (y 2) _ _ h0 h1).trans ?_
    rw [← hy]
    refine congrArg _ (funext fun a => ?_)
    match a with
    | ⟨0, _⟩ => rfl
    | ⟨1, _⟩ => rfl
    | ⟨2, _⟩ => exact Fin.ext h2.symm
  blk_simp
  rw [after0_5]
  exact key

end Ker

namespace Ref
open Cert.Reference3Ideal Cert.Reference3Ideal.Gen

/-- The reference's array, written with its own operations. -/
def term (a : FVec Ideal S4x2048x2048 .bf16) (w : FVec Ideal S2048x2048 .f32) (x : FVec Ideal S4x2048x2048 .f32)
    (nw : FVec Ideal S2048 .f32) (g : FVec Ideal S4x1x2048 .f32) : FVec Ideal S4x2048x2048 .f32 :=
  have y : FVec Ideal S4x2048x2048 .f32 := Host.dotGeneral (F := Ideal) (φ₁ := .f32) (φ₂ := .f32) dot_S4x2048x2048_S2048x2048_S4x2048x2048_2_0_01_1_n_n none (extf .f32 a bitsLt_bf16_f32) w
  addf x (mulf (broadcastInDim S4x2048x2048 ![0, 1, 2] bcast_S4x1x2048_S4x2048x2048_0_1_2 g) (mulf (mulf y (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf y y) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 nw))))

theorem term_at (a : FVec Ideal S4x2048x2048 .bf16) (w : FVec Ideal S2048x2048 .f32) (x : FVec Ideal S4x2048x2048 .f32)
    (nw : FVec Ideal S2048 .f32) (g : FVec Ideal S4x1x2048 .f32) (b : Fin 4) (l e : Fin 2048) :
    term a w x nw g (ix3 b l e) = result a w x nw g (ix3 b l e) := by
  show _ = x (ix3 b l e) + g (ix3 b 0 e) * Row.rms (fun k => ∑ j : Fin 2048, a (ix3 b l j) * w (ix2 j k)) (nw (ix1 e)) e
  pointwise [term, Row.rms]

theorem term_eq (a : FVec Ideal S4x2048x2048 .bf16) (w : FVec Ideal S2048x2048 .f32) (x : FVec Ideal S4x2048x2048 .f32)
    (nw : FVec Ideal S2048 .f32) (g : FVec Ideal S4x1x2048 .f32) : term a w x nw g = result a w x nw g := by
  funext i
  rw [ValueIdx.eq_ix3 i]
  exact term_at ..

theorem frame : Cert.quiescent_Reference3Ideal := fun m ρ _ =>
  (θ_run (defs (F := Ideal)) _ _).mono (fun r h => ⟨fun c => (h c).2, sem_eq_zero_of_no_sems (by decide) r.2⟩)
    (Cert.Reference3Ideal.Value.run m ρ)

end Ref

/-- The kernel and the reference end with the same array. -/
theorem algebraic : Cert.algebraic_Kernel3Ideal_Reference3Ideal := by
  intro m ρ m' ρ' _ hagree
  refine ⟨fun c => result (Ker.aA m c) (Ker.aW m c) (Ker.aX m c) (Ker.aN m c) (Ker.aG m c), ?_, ?_⟩
  · refine (θ_run (Cert.Kernel3Ideal.defs (F := Ideal)) _ _).mono (fun r h c => ?_) (Cert.Kernel3Ideal.Value.run_blocks m ρ)
    exact ⟨(h c).1.trans (Ker.final_out m c), (h c).2⟩
  · refine (θ_run (Cert.Reference3Ideal.defs (F := Ideal)) _ _).mono (fun r h c => ?_) (Cert.Reference3Ideal.Value.run m' ρ')
    obtain ⟨a0, a1, a2, a3, a4⟩ := hagree c
    refine ⟨(h c).1.trans ?_, (h c).2⟩
    rw [a0, a1, a2, a3, a4]
    exact Ref.term_eq ..

end Cert.Proj

end
-- ==== Proof.Low.BodyIdeal.lean ====
/-
  The modulated norm with its two projections: what one grid point stores, and the run of all of them.
-/
module

public import proofs.«01_k».proof.Proof.Gen.Kernel4Ideal.Frame
public import proofs.«01_k».proof.Proof.Gen.Kernel4Ideal.Skeleton
public import Idealize.ShloMosaic.Lib.Pipeline.TableIdle
public import Idealize.ShloMosaic.Lib.Pipeline.ValueKit
public import Idealize.ShloMosaic.Lib.Claim

@[expose] public section

set_option maxRecDepth 16384

noncomputable section

namespace Cert.Kernel4Ideal.Low

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point is the first of its row tile. -/
abbrev first (i : grid0.Coords) : Prop := k0_cond1 i = 1#1

/-- The row tiles' first points: one in six. -/
theorem first_iff : ∀ t : Fin cfg0.N, first (grid0.coords t) ↔ t.val % 6 = 0 := by decide +kernel

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg3 : Memref sig .tc .vmem S1x512x2048 .f32) (harg3 : arg3.IsWhole)
  (arg4 : Memref sig .tc .vmem S1x2048 .f32) (harg4 : arg4.IsWhole) (arg5 : Memref sig .tc .vmem S1x1x2048 .f32) (harg5 : arg5.IsWhole)
  (arg6 : Memref sig .tc .vmem S1x1x2048 .f32) (harg6 : arg6.IsWhole) (arg7 : Memref sig .tc .vmem S2048x1024 .bf16) (harg7 : arg7.IsWhole)
  (arg8 : Memref sig .tc .vmem S2048x128 .bf16) (harg8 : arg8.IsWhole) (arg9 : Memref sig .tc .vmem S1x512x1024 .f32) (harg9 : arg9.IsWhole)
  (arg10 : Memref sig .tc .vmem S1x512x128 .f32) (harg10 : arg10.IsWhole) (arg11 : Memref sig .tc .vmem S512x2048 .bf16) (harg11 : arg11.IsWhole)
  (x0 : Vec F S1x512x2048 .f32) (x1 : Vec F S1x2048 .f32) (x2 x3 : Vec F S1x1x2048 .f32) (x4 : Vec F S2048x1024 .bf16)
  (x5 : Vec F S2048x128 .bf16)

/-- The input blocks a point finds and leaves. -/
def ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5)

set_option maxHeartbeats 2000000 in
/-- A row tile's first point: it normalizes the rows into the scratch, and stores both products. -/
theorem run_first (hc : first i) (K : PUnit → sProp 𝕄) :
    iprop(ins c arg3 arg4 arg5 arg6 arg7 arg8 x0 x1 x2 x3 x4 x5
        ∗ (∃ d, owns (c : Thread nD τ) arg9 fullShare d) ∗ (∃ d, owns (c : Thread nD τ) arg10 fullShare d)
        ∗ (∃ d, owns (c : Thread nD τ) arg11 fullShare d)
        ∗ (iprop(ins c arg3 arg4 arg5 arg6 arg7 arg8 x0 x1 x2 x3 x4 x5
            ∗ owns (c : Thread nD τ) arg9 fullShare (k0_pay1 (k0_pay3 x0 x1 x2 x3) x4)
            ∗ owns (c : Thread nD τ) arg10 fullShare (k0_pay4 x0 x1 x2 x3 x5)
            ∗ owns (c : Thread nD τ) arg11 fullShare (k0_pay3 x0 x1 x2 x3)) -∗ K ⟨⟩))
      ⊢ wp frame (wpE (defs₀ (F := F)) Variants.none c none) Set.univ
          (cc0_norm_mod_matmul i arg3 harg3 arg4 harg4 arg5 harg5 arg6 harg6 arg7 harg7 arg8 harg8 arg9 harg9 arg10 harg10 arg11 harg11) K := by
  simp only [cc0_norm_mod_matmul_eq_skeleton]; unfold cc0_norm_mod_matmul_skel
  simp only [k0_part1_eq_skeleton]; unfold k0_part1_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%ds, %fs, -, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | sl_exact hc)
  sl_step
  iapply Hk
  isplitl [H0 H1 H2 H3 H4 H5]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; isplitr; · ipureintro; exact harg8.read_unread _
    iexact H5
  isplitl [H6]
  · iexists _; isplitr
    swap; · iexact H6
    ipureintro
    rw [View.read_writes_eq_canon _ _ _ (View.cover_of_tiledL _ S1x512x1024.size (by sl_kernel_rfl))]
    sl_unfold_words
    rw [View.canon_unit_zero hz3]
    simp only [View.readCov_unit_zero (S := S512x2048) _ hz2]
    simp only [View.readAt_eq_ld, harg3.read_unread, harg4.read_unread, harg5.read_unread, harg6.read_unread, harg7.read_unread, View.ld_unit_zero (S := S1x512x2048) hz3, View.ld_unit_zero (S := S1x1x2048) hz3, View.ld_unit_zero (S := S1x2048) hz2, View.ld_unit_zero (S := S2048x1024) hz2]
  isplitl [H7]
  · iexists _; isplitr
    swap; · iexact H7
    ipureintro
    rw [View.read_writes_eq_canon _ _ _ (View.cover_of_tiledL _ S1x512x128.size (by sl_kernel_rfl))]
    sl_unfold_words
    rw [View.canon_unit_zero hz3]
    simp only [View.readAt_eq_ld, harg3.read_unread, harg4.read_unread, harg5.read_unread, harg6.read_unread, harg8.read_unread, View.ld_unit_zero (S := S1x512x2048) hz3, View.ld_unit_zero (S := S1x1x2048) hz3, View.ld_unit_zero (S := S1x2048) hz2, View.ld_unit_zero (S := S2048x128) hz2]
  iexists _; isplitr
  swap; · iexact HS
  ipureintro
  rw [View.read_writes_eq_canon _ _ _ (View.cover_of_tiledL _ S512x2048.size (by sl_kernel_rfl))]
  sl_unfold_words
  rw [View.canon_unit_zero hz2]
  simp only [View.readAt_eq_ld, harg3.read_unread, harg4.read_unread, harg5.read_unread, harg6.read_unread, View.ld_unit_zero (S := S1x512x2048) hz3, View.ld_unit_zero (S := S1x1x2048) hz3, View.ld_unit_zero (S := S1x2048) hz2]

set_option maxHeartbeats 2000000 in
/-- Any later point: it multiplies the rows it finds in the scratch, and leaves the narrow output alone. -/
theorem run_later (hc : ¬first i) (xs : Vec F S512x2048 .bf16) (K : PUnit → sProp 𝕄) :
    iprop(ins c arg3 arg4 arg5 arg6 arg7 arg8 x0 x1 x2 x3 x4 x5
        ∗ (∃ d, owns (c : Thread nD τ) arg9 fullShare d) ∗ owns (c : Thread nD τ) arg11 fullShare xs
        ∗ (iprop(ins c arg3 arg4 arg5 arg6 arg7 arg8 x0 x1 x2 x3 x4 x5
            ∗ owns (c : Thread nD τ) arg9 fullShare (k0_pay1 xs x4) ∗ owns (c : Thread nD τ) arg11 fullShare xs) -∗ K ⟨⟩))
      ⊢ wp frame (wpE (defs₀ (F := F)) Variants.none c none) Set.univ
          (cc0_norm_mod_matmul i arg3 harg3 arg4 harg4 arg5 harg5 arg6 harg6 arg7 harg7 arg8 harg8 arg9 harg9 arg10 harg10 arg11 harg11) K := by
  simp only [cc0_norm_mod_matmul_eq_skeleton]; unfold cc0_norm_mod_matmul_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg11.eq_unread hfs
  sl_exec (disch := first | sl_exact hc)
  sl_step
  iapply Hk
  isplitl [H0 H1 H2 H3 H4 H5]
  · isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; isplitr; · ipureintro; exact harg8.read_unread _
    iexact H5
  isplitl [H6]
  · iexists _; isplitr
    swap; · iexact H6
    ipureintro
    rw [View.read_writes_eq_canon _ _ _ (View.cover_of_tiledL _ S1x512x1024.size (by sl_kernel_rfl))]
    sl_unfold_words
    rw [View.canon_unit_zero hz3]
    simp only [View.readAt_eq_ld, harg7.read_unread, harg11.read_unread, View.ld_unit_zero (S := S512x2048) hz2, View.ld_unit_zero (S := S2048x1024) hz2]
  iexists _; isplitr; · ipureintro; exact harg11.read_unread _
  iexact HS

end

/-! ## What every point leaves -/

/-- The scratch of the normalized rows. -/
abbrev scr : Memref sig .tc .vmem S512x2048 .bf16 := Memref.whole cc0_scratch0

/-- The normalized rows of point `t`'s row tile. -/
def hidAt (c : Dev nD) (t : Fin cfg0.N) : Vec F S512x2048 .bf16 :=
  k0_pay3 (iblk m c 0 t) (iblk m c 1 t) (iblk m c 2 t) (iblk m c 3 t)

/-- The columns point `t` stores of the wide product. -/
def projAt (c : Dev nD) (t : Fin cfg0.N) : Vec F S1x512x1024 .f32 := k0_pay1 (hidAt m c t) (iblk m c 4 t)

/-- The narrow product of point `t`'s row tile. -/
def lowAt (c : Dev nD) (t : Fin cfg0.N) : Vec F S1x512x128 .f32 :=
  k0_pay4 (iblk m c 0 t) (iblk m c 1 t) (iblk m c 2 t) (iblk m c 3 t) (iblk m c 5 t)

/-- What is held between points: before the first anything, then the scratch at the rows of the point before. -/
def held (c : Dev nD) : (n : ℕ) → n ≤ cfg0.N → sProp 𝕄
  | 0, _ => Pipeline.ΦA spec0 c
  | n + 1, hn => iprop(owns (c : Thread nD τ) scr fullShare (hidAt m c ⟨n, hn⟩) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(owns (c : Thread nD τ) scr fullShare (hidAt m c ⟨n - 1, by omega⟩) ∗ (∃ r, prngReg c r)) := by
  cases n with
  | zero => exact absurd rfl hz
  | succ n => rfl

/-- The launch's resources beside the windows: the scratch at anything, and the generator's register. -/
theorem start_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; rfl

/-- The proof data: the inputs stay at their blocks, the two outputs are at what the points store. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => projAt m c t
    | ⟨7, _⟩ => lowAt m c t
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = projAt m c t := by dsimp only [dats]
theorem after7 (c : Dev nD) (t : Fin cfg0.N) : (dats m 0 c).after 7 t = lowAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## Within a row tile the blocks stay -/

theorem idx0 : ∀ t : Fin cfg0.N, win0_0.index t = ![t.val / 24, t.val / 6 % 4, 0] := by decide +kernel
theorem idx1 : ∀ t : Fin cfg0.N, win0_1.index t = ![0, 0] := by decide +kernel
theorem idx2 : ∀ t : Fin cfg0.N, win0_2.index t = ![t.val / 24, 0, 0] := by decide +kernel
theorem idx3 : ∀ t : Fin cfg0.N, win0_3.index t = ![t.val / 24, 0, 0] := by decide +kernel
theorem idx5 : ∀ t : Fin cfg0.N, win0_5.index t = ![0, 0] := by decide +kernel

/-- Two points with one block index of an input window have one block. -/
theorem iblk_congr (c : Dev nD) (t t' : Fin cfg0.N) :
    (win0_0.index t = win0_0.index t' → iblk m c 0 t = iblk m c 0 t')
    ∧ (win0_1.index t = win0_1.index t' → iblk m c 1 t = iblk m c 1 t')
    ∧ (win0_2.index t = win0_2.index t' → iblk m c 2 t = iblk m c 2 t')
    ∧ (win0_3.index t = win0_3.index t' → iblk m c 3 t = iblk m c 3 t')
    ∧ (win0_5.index t = win0_5.index t' → iblk m c 5 t = iblk m c 5 t') := by
  refine ⟨fun h => ?_, fun h => ?_, fun h => ?_, fun h => ?_, fun h => ?_⟩
  · exact (dats m 0 c).fetched_congr 0 h rfl (iblk m c 0 t)
  · exact (dats m 0 c).fetched_congr 1 h rfl (iblk m c 1 t)
  · exact (dats m 0 c).fetched_congr 2 h rfl (iblk m c 2 t)
  · exact (dats m 0 c).fetched_congr 3 h rfl (iblk m c 3 t)
  · exact (dats m 0 c).fetched_congr 5 h rfl (iblk m c 5 t)

/-- Two points of one row tile have the same normalized rows and the same narrow product. -/
theorem tile_congr (c : Dev nD) (t t' : Fin cfg0.N) (h : t.val / 6 = t'.val / 6) :
    hidAt m c t = hidAt m c t' ∧ lowAt m c t = lowAt m c t' := by
  have h24 : t.val / 24 = t'.val / 24 := by omega
  obtain ⟨e0, e1, e2, e3, e5⟩ := iblk_congr m c t t'
  have e0 := e0 (by rw [idx0, idx0, h, h24])
  have e1 := e1 (by rw [idx1, idx1])
  have e2 := e2 (by rw [idx2, idx2, h24])
  have e3 := e3 (by rw [idx3, idx3, h24])
  have e5 := e5 (by rw [idx5, idx5])
  unfold hidAt lowAt
  rw [e0, e1, e2, e3, e5]
  exact ⟨rfl, rfl⟩

/-- The narrow output is left alone at every point but a row tile's first. -/
theorem idle7 : ∀ t : Fin cfg0.N, cfg0.idle 7 (cfg0.grid.coords t) = !decide (t.val % 6 = 0) := by decide +kernel

theorem flush7 (t : Fin cfg0.N) : (cfg0.win 7).flush t = decide (t.val % 6 = 5) := by
  rw [Bool.eq_iff_iff, flush0_7]; simp

/-- After a row tile's first point the narrow output's buffer holds the tile's narrow product. -/
theorem before7 (c : Dev nD) (d) : ∀ (n : ℕ) (h : n < cfg0.N), n % 6 ≠ 0 → (dats m 0 c).before 7 ⟨n, h⟩ d = lowAt m c ⟨n, h⟩ := by
  intro n
  induction n with
  | zero => intro h h0; exact absurd rfl h0
  | succ n ih =>
    intro h h0
    rw [(dats m 0 c).before_of_pos 7 ⟨n + 1, h⟩ (Nat.succ_ne_zero n) rfl]
    rw [if_neg (by rw [flush7]; simp only [decide_eq_true_eq, Nat.add_sub_cancel]; omega)]
    refine Eq.trans ?_ (tile_congr m c ⟨n, by omega⟩ ⟨n + 1, h⟩ (by simp only; omega)).2
    show (dats m 0 c).left 7 ⟨n, _⟩ d = _
    unfold Dat.left
    rw [idle7]
    by_cases hn : n % 6 = 0
    · simp only [hn, decide_true, Bool.not_true]
      exact after7 m c _
    · simp only [hn, decide_false, Bool.not_false]
      exact ih _ hn

/-! ## The body at every point -/

abbrev ms (t : Fin cfg0.N) (w : Fin cfg0.W) := (cfg0.win w).stage (cfg0.slots t w)

/-- What the narrow output's buffer is left at. -/
def left7 (c : Dev nD) (t : Fin cfg0.N) : sProp 𝕄 :=
  match cfg0.idle 7 (cfg0.grid.coords t) with
  | true =>
    match (cfg0.win 7).flush t with
    | false => iprop(∃ d, owns (c : Thread nD τ) ((cfg0.win 7).stage (cfg0.slots t 7)) fullShare ((dats m 0 c).before 7 t d))
    | true => owns (c : Thread nD τ) ((cfg0.win 7).stage (cfg0.slots t 7)) fullShare ((dats m 0 c).after 7 t)
  | false => owns (c : Thread nD τ) ((cfg0.win 7).stage (cfg0.slots t 7)) fullShare ((dats m 0 c).after 7 t)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ left7 m c t)

theorem left7_first (c : Dev nD) (t : Fin cfg0.N) (h : t.val % 6 = 0) :
    left7 m c t = owns (c : Thread nD τ) (st0_7 t) fullShare (lowAt m c t) := by
  unfold left7; rw [idle7, after7]; simp only [h, decide_true, Bool.not_true]

/-- At a later point it is enough to leave the buffer as it was. -/
theorem left7_later (c : Dev nD) (t : Fin cfg0.N) (h : t.val % 6 ≠ 0) (d) :
    owns (c : Thread nD τ) (st0_7 t) fullShare ((dats m 0 c).before 7 t d) ⊢ left7 m c t := by
  unfold left7; rw [idle7, flush7, after7]
  simp only [h, decide_false, Bool.not_false]
  by_cases h5 : t.val % 6 = 5
  · simp only [h5, decide_true]
    rw [before7 m c d t.val t.isLt h]
  · simp only [h5, decide_false]
    iintro H
    iexists d
    iexact H

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = iprop(owns (c : Thread nD τ) scr fullShare (hidAt m c t) ∗ (∃ r, prngReg c r)) from rfl]
  by_cases h0 : t.val % 6 = 0
  · have hs : (dats m 0 c).Φ t.castSucc ⊢ iprop((∃ d, owns (c : Thread nD τ) scr fullShare d) ∗ (∃ r, prngReg c r)) := by
      rw [held_castSucc m c t]
      by_cases hz : t.val = 0
      · rw [held_zero m c _ _ hz, start_eq]
      · rw [held_pos m c _ _ hz]
        iintro ⟨HS, Hg⟩
        isplitl [HS]
        · iexists _; iexact HS
        iexact Hg
    rw [left7_first m c t h0]
    refine BIBase.Entails.trans (sep_mono hs .rfl) ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ scr (Memref.isWhole_whole _) (iblk m c 0 t) (iblk m c 1 t) (iblk m c 2 t) (iblk m c 3 t) (iblk m c 4 t) (iblk m c 5 t) ((first_iff t).mpr h0) _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [HS]; · iexact HS
    iintro ⟨⟨H0, H1, H2, H3, H4, H5⟩, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hz : t.val ≠ 0 := fun h => h0 (by rw [h])
    rw [held_castSucc m c t, held_pos m c _ _ hz, (tile_congr m c ⟨t.val - 1, by omega⟩ t (by simp only; omega)).1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ (st0_7 t) (hstage0_7 ((cfg0.slots t 7).cast nbuf0_7)) scr (Memref.isWhole_whole _) (iblk m c 0 t) (iblk m c 1 t) (iblk m c 2 t) (iblk m c 3 t) (iblk m c 4 t) (iblk m c 5 t) (fun h => h0 ((first_iff t).mp h)) (hidAt m c t) _)
    unfold ins
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [HS]; · iexact HS
    iintro ⟨⟨H0, H1, H2, H3, H4, H5⟩, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (left7_later m c t h0 d7)
    iexact H7

theorem row_eq (t : Fin cfg0.N) : defs₀ (F := F) .tc cfg0.body (cfg0.bodyArgs t (cfg0.slots t)) = bodyAt0 t := by
  unfold defs₀; rw [Defs.onTc_tc]

/-- The body's triple, as the pipeline asks for it. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_zero m c 0 _ rfl]

theorem hout (c : Dev nD) : (dats m 0 c).Φ (Fin.last cfg0.N) ⊢ Pipeline.ΦA spec0 c := by
  have hN : cfg0.N = 96 := N_0
  rw [show (dats m 0 c).Φ (Fin.last cfg0.N) = held m c cfg0.N (Nat.le_refl _) from rfl, held_pos m c _ _ (by omega), start_eq]
  iintro ⟨HS, Hg⟩
  isplitl [HS]
  · iexists _; iexact HS
  iexact Hg

/-! ## The run -/

set_option backward.isDefEq.respectTransparency.types false in
/-- Every run ends with the windows' arrays at what the points wrote back, and all counters at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with the arguments as they were, and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel4Ideal.Low

end
-- ==== Proof.Low.Low.lean ====
/-
  The modulated norm with its two projections: the kernel's two arrays and the reference's two arrays.
-/
module

public import proofs.«01_k».proof.Defs
public import proofs.«01_k».proof.Proof.Qkv.Qkv
public import proofs.«01_k».proof.Proof.Low.BodyIdeal
public import proofs.«01_k».proof.Proof.Gen.Reference4Ideal.Run
public import Idealize.ShloMosaic.Lib.Pointwise
public import Idealize.ShloMosaic.Lib.Quiescent
public import Idealize.ShloMosaic.Lib.Routing.OpsPair
public import Idealize.ShloMosaic.Lib.Routing.OpsSet

@[expose] public section

noncomputable section

open Idealize.ShloMosaic Idealize.ShloMosaic.TcCoe Idealize.SL.Sem

namespace Cert.Low

open Cert.Qkv (hid)

/-- Column `k` of a token's row after the norm, the scale and the shift, times the weights. -/
def proj (x : (⟨3, ![4, 2048, 2048]⟩ : Shape).Idx → EReal) (nw : (⟨1, ![2048]⟩ : Shape).Idx → EReal)
    (sc sh : (⟨3, ![4, 1, 2048]⟩ : Shape).Idx → EReal) (w : (⟨2, ![2048, 6160]⟩ : Shape).Idx → EReal)
    (b : Fin 4) (l : Fin 2048) (k : Fin 6160) : EReal :=
  ∑ j : Fin 2048, hid x nw sc sh b l j * w (ix2 j k)

/-- The wide result: the first 6144 columns. -/
def wide (x : (⟨3, ![4, 2048, 2048]⟩ : Shape).Idx → EReal) (nw : (⟨1, ![2048]⟩ : Shape).Idx → EReal)
    (sc sh : (⟨3, ![4, 1, 2048]⟩ : Shape).Idx → EReal) (w : (⟨2, ![2048, 6160]⟩ : Shape).Idx → EReal) :
    (⟨3, ![4, 2048, 6144]⟩ : Shape).Idx → EReal := fun i =>
  proj x nw sc sh w (i 0) (i 1) ⟨(i 2).val, Nat.lt_trans (i 2).isLt (by decide)⟩

/-- The narrow result: the last 16 columns, and zeros up to 128. -/
def narrow (x : (⟨3, ![4, 2048, 2048]⟩ : Shape).Idx → EReal) (nw : (⟨1, ![2048]⟩ : Shape).Idx → EReal)
    (sc sh : (⟨3, ![4, 1, 2048]⟩ : Shape).Idx → EReal) (w : (⟨2, ![2048, 6160]⟩ : Shape).Idx → EReal) :
    (⟨3, ![4, 2048, 128]⟩ : Shape).Idx → EReal := fun i =>
  if h : (i 2).val < 16 then proj x nw sc sh w (i 0) (i 1) ⟨6144 + (i 2).val, by omega⟩ else 0

namespace Ker
open Cert.Kernel4Ideal Cert.Kernel4Ideal.Gen Cert.Kernel4Ideal.Low

variable (m : (ℓ : Loc nD τ sig) → Buf (Elt Ideal) ℓ) (c : Dev nD)

/-- The launched arrays. -/
abbrev aX : (⟨3, ![4, 2048, 2048]⟩ : Shape).Idx → EReal := m ((c : Thread nD τ).loc main_arg0)
abbrev aN : (⟨1, ![2048]⟩ : Shape).Idx → EReal := m ((c : Thread nD τ).loc main_arg1)
abbrev aC : (⟨3, ![4, 1, 2048]⟩ : Shape).Idx → EReal := m ((c : Thread nD τ).loc main_arg2)
abbrev aS : (⟨3, ![4, 1, 2048]⟩ : Shape).Idx → EReal := m ((c : Thread nD τ).loc main_arg3)
abbrev aW : (⟨2, ![2048, 6160]⟩ : Shape).Idx → EReal := m ((c : Thread nD τ).loc main_arg4)

theorem idx4 : ∀ t : Fin cfg0.N, win0_4.index t = ![0, t.val % 6] := by decide +kernel
theorem idx6 : ∀ t : Fin cfg0.N, win0_6.index t = ![t.val / 24, t.val / 6 % 4, t.val % 6] := by decide +kernel
theorem idx7 : ∀ t : Fin cfg0.N, win0_7.index t = ![t.val / 24, t.val / 6 % 4, 0] := by decide +kernel

theorem t_lt (t : Fin cfg0.N) : t.val < 96 := lt_of_lt_of_eq t.isLt N_0

/-- The token rows of a point. -/
theorem blk_x (t : Fin cfg0.N) (r : Fin 512) (j : Fin 2048) (b : Fin 4) (l : Fin 2048) (hb : b.val = t.val / 24)
    (hl : l.val = 512 * (t.val / 6 % 4) + r.val) : iblk m c 0 t (ix3 0 r j) = aX m c (ix3 b l j) := by
  blk_ext [iblk, V, idx0 t]

/-- The norm's weights. -/
theorem blk_n (t : Fin cfg0.N) (k : Fin 2048) : iblk m c 1 t (ix2 0 k) = aN m c (ix1 k) := by
  have h1 : iblk m c 1 t (ix2 0 k) = V m c main_v7 (ix2 0 k) := by blk_ext [iblk, idx1 t]
  rw [h1]
  entry_read
  pointwise

/-- The scale of the point's sequence. -/
theorem blk_c (t : Fin cfg0.N) (j : Fin 2048) (b : Fin 4) (hb : b.val = t.val / 24) :
    iblk m c 2 t (ix3 0 0 j) = aC m c (ix3 b 0 j) := by
  blk_ext [iblk, V, idx2 t]

/-- The shift of the point's sequence. -/
theorem blk_s (t : Fin cfg0.N) (j : Fin 2048) (b : Fin 4) (hb : b.val = t.val / 24) :
    iblk m c 3 t (ix3 0 0 j) = aS m c (ix3 b 0 j) := by
  blk_ext [iblk, V, idx3 t]

/-- The columns of the weights that a point multiplies with. -/
theorem blk_w (t : Fin cfg0.N) (j : Fin 2048) (e : Fin 1024) (k : Fin 6144) (hk : k.val = 1024 * (t.val % 6) + e.val) :
    iblk m c 4 t (ix2 j e) = aW m c (ix2 j ⟨k.val, Nat.lt_trans k.isLt (by decide)⟩) := by
  have h1 : iblk m c 4 t (ix2 j e) = V m c main_v1 (ix2 j k) := by blk_ext [iblk, idx4 t]
  rw [h1]
  entry_read
  pointwise

/-- Where a column of the narrow weights lands in the padded ones: at its own row and column. -/
theorem pad_lands (k : S2048x16.Idx) (j : Fin 2048) (e : Fin 128) :
    scatter_S2048x128_S1_S2048x16_01_n_1_0.resultIdx? k (broadcastInDim S1 ![] bcast_S_S1 (constantI S_ 32 0#32)) = some (ix2 j e)
      ↔ (k 0).val = j.val ∧ (k 1).val = e.val := by
  refine (Routing.resultIdx?_ix2 _ _ _ _ _).trans ?_
  have h0 : scatter_S2048x128_S1_S2048x16_01_n_1_0.start k (broadcastInDim S1 ![] bcast_S_S1 (constantI S_ 32 0#32)) 0 = 0 := rfl
  have h1 : scatter_S2048x128_S1_S2048x16_01_n_1_0.start k (broadcastInDim S1 ![] bcast_S_S1 (constantI S_ 32 0#32)) 1 = 0 := rfl
  have w0 : scatter_S2048x128_S1_S2048x16_01_n_1_0.window k 0 = (k 0).val := rfl
  have w1 : scatter_S2048x128_S1_S2048x16_01_n_1_0.window k 1 = (k 1).val := rfl
  rw [h0, h1, w0, w1]
  omega

/-- The narrow weights, padded with zero columns. -/
theorem blk_l (t : Fin cfg0.N) (j : Fin 2048) (e : Fin 128) :
    (iblk m c 5 t (ix2 j e) : EReal) = if h : e.val < 16 then (aW m c (ix2 j ⟨6144 + e.val, by omega⟩) : EReal) else (0 : EReal) := by
  have h1 : ∀ W : (b : Ref sig .tc) → Buf (Elt Ideal) ((c : Thread nD τ).loc b),
      ((cfg0.win 5).blk t).view.read (Elt Ideal) (W (Pipeline.arrRef spec0 5)) (ix2 j e) = W main_v6 (ix2 j e) := fun W => by
    blk_ext [idx5 t]
  refine (h1 (V m c)).trans ?_
  entry_read
  pointwise
  split_ifs with h
  · refine Routing.scatter_set_hit _ _ _ _ _ _ (fun u hu => ?_) (ix2 j ⟨e.val, h⟩) ((pad_lands _ _ _).mpr ⟨rfl, rfl⟩)
    obtain ⟨h0, h1⟩ := (pad_lands _ _ _).mp hu
    have hu : u = ix2 j ⟨e.val, h⟩ := funext fun a => by
      match a with
      | ⟨0, _⟩ => exact Fin.ext h0
      | ⟨1, _⟩ => exact Fin.ext h1
    rw [hu]
    pointwise
  · rw [Routing.scatter_set_miss]
    · pointwise
    · intro u hu
      have h0 := ((pad_lands _ _ _).mp hu).2
      have := (u 1).isLt
      exact h (h0 ▸ this)

/-- The rows that a row tile's first point normalizes. -/
theorem pay2_at (v10 : Vec Ideal S1x512x2048 .f32) (v12 : Vec Ideal S1x2048 .f32) (v14 v16 : Vec Ideal S1x1x2048 .f32)
    (r : Fin 512) (j : Fin 2048) :
    k0_pay2 (F := Ideal) v10 v12 v14 v16 (ix2 r j)
      = Row.rms (fun k => v10 (ix3 0 r k)) (v12 (ix2 0 j)) j * (Ideal.ofBits .f32 0x3F800000#32 + v14 (ix3 0 0 j)) + v16 (ix3 0 0 j) := by
  pointwise [k0_pay2, Row.rms]

/-- They are what the scratch holds. -/
theorem pay3_at (v10 : Vec Ideal S1x512x2048 .f32) (v12 : Vec Ideal S1x2048 .f32) (v14 v16 : Vec Ideal S1x1x2048 .f32)
    (r : Fin 512) (j : Fin 2048) :
    k0_pay3 (F := Ideal) v10 v12 v14 v16 (ix2 r j) = k0_pay2 (F := Ideal) v10 v12 v14 v16 (ix2 r j) := by
  unfold k0_pay3
  generalize k0_pay2 (F := Ideal) v10 v12 v14 v16 = y
  pointwise

/-- The wide product that a point stores. -/
theorem pay1_at (v3 : Vec Ideal S512x2048 .bf16) (v4 : Vec Ideal S2048x1024 .bf16) (r : Fin 512) (e : Fin 1024) :
    k0_pay1 (F := Ideal) v3 v4 (ix3 0 r e) = ∑ j : Fin 2048, v3 (ix2 r j) * v4 (ix2 j e) := by
  pointwise [k0_pay1]

/-- The narrow product that a row tile's first point stores. -/
theorem pay4_at (v10 : Vec Ideal S1x512x2048 .f32) (v12 : Vec Ideal S1x2048 .f32) (v14 v16 : Vec Ideal S1x1x2048 .f32)
    (v40 : Vec Ideal S2048x128 .bf16) (r : Fin 512) (e : Fin 128) :
    k0_pay4 (F := Ideal) v10 v12 v14 v16 v40 (ix3 0 r e)
      = ∑ j : Fin 2048, k0_pay2 (F := Ideal) v10 v12 v14 v16 (ix2 r j) * v40 (ix2 j e) := by
  unfold k0_pay4
  generalize k0_pay2 (F := Ideal) v10 v12 v14 v16 = y
  pointwise

/-- A point's normalized rows are rows of the whole array's. -/
theorem pay2_hid (t : Fin cfg0.N) (r : Fin 512) (j : Fin 2048) (b : Fin 4) (l : Fin 2048) (hb : b.val = t.val / 24)
    (hl : l.val = 512 * (t.val / 6 % 4) + r.val) :
    k0_pay2 (F := Ideal) (iblk m c 0 t) (iblk m c 1 t) (iblk m c 2 t) (iblk m c 3 t) (ix2 r j)
      = hid (aX m c) (aN m c) (aC m c) (aS m c) b l j := by
  refine (pay2_at _ _ _ _ r j).trans ?_
  refine congr (congrArg HAdd.hAdd (congr (congrArg HMul.hMul ?_) (congrArg (Ideal.ofBits .f32 0x3F800000#32 + ·) (blk_c m c t j b hb)))) (blk_s m c t j b hb)
  exact congrFun (congr (congrArg Row.rms (funext fun k => blk_x m c t r k b l hb hl)) (blk_n m c t j)) j

/-- What point `t` stores of the wide result. -/
theorem wide_at (t : Fin cfg0.N) (r : Fin 512) (e : Fin 1024) (b : Fin 4) (l : Fin 2048) (k : Fin 6144) (hb : b.val = t.val / 24)
    (hl : l.val = 512 * (t.val / 6 % 4) + r.val) (hk : k.val = 1024 * (t.val % 6) + e.val) :
    projAt m c t (ix3 0 r e) = wide (aX m c) (aN m c) (aC m c) (aS m c) (aW m c) (ix3 b l k) := by
  refine (pay1_at _ _ r e).trans ?_
  exact Finset.sum_congr rfl fun j _ => congr (congrArg HMul.hMul
    ((pay3_at _ _ _ _ r j).trans (pay2_hid m c t r j b l hb hl))) (blk_w m c t j e k hk)

/-- What point `t`'s row tile stores of the narrow result. -/
theorem narrow_at (t : Fin cfg0.N) (r : Fin 512) (e : Fin 128) (b : Fin 4) (l : Fin 2048) (hb : b.val = t.val / 24)
    (hl : l.val = 512 * (t.val / 6 % 4) + r.val) :
    lowAt m c t (ix3 0 r e) = narrow (aX m c) (aN m c) (aC m c) (aS m c) (aW m c) (ix3 b l e) := by
  refine (pay4_at _ _ _ _ _ r e).trans ?_
  have hs : ∀ j : Fin 2048, k0_pay2 (F := Ideal) (iblk m c 0 t) (iblk m c 1 t) (iblk m c 2 t) (iblk m c 3 t) (ix2 r j) * (iblk m c 5 t (ix2 j e) : EReal)
      = hid (aX m c) (aN m c) (aC m c) (aS m c) b l j
        * (if h : e.val < 16 then (aW m c (ix2 j ⟨6144 + e.val, by omega⟩) : EReal) else (0 : EReal)) := fun j =>
    congr (congrArg HMul.hMul (pay2_hid m c t r j b l hb hl)) (blk_l m c t j e)
  refine (Finset.sum_congr rfl fun j _ => hs j).trans ?_
  show _ = if h : e.val < 16 then proj _ _ _ _ _ b l ⟨6144 + e.val, by omega⟩ else 0
  by_cases h : e.val < 16
  · simp only [h, dif_pos]
    rfl
  · simp only [h, dif_neg, not_false_eq_true, mul_zero, Finset.sum_const_zero]

theorem row_ix {n k : Nat} (y : (⟨3, ![1, n, k]⟩ : Shape).Idx) : y = ix3 0 (y 1) (y 2) := by
  funext a
  match a with
  | ⟨0, _⟩ => exact Subsingleton.elim (α := Fin 1) _ _
  | ⟨1, _⟩ => rfl
  | ⟨2, _⟩ => rfl

/-- The wide result array after the run. -/
theorem final_wide : (dats m 0 c).arrAt 6 cfg0.N = wide (aX m c) (aN m c) (aC m c) (aS m c) (aW m c) := by
  refine (dats m 0 c).arrAt_eq_of_covers 6 _ (by decide +kernel) fun t hf y => ?_
  have ht := t_lt t
  have h0 : ((((cfg0.win 6).blk t).view.emb y 0 : Fin _) : ℕ) = t.val / 24 := by blk_simp [idx6 t]
  have h1 : ((((cfg0.win 6).blk t).view.emb y 1 : Fin _) : ℕ) = 512 * (t.val / 6 % 4) + (y 1).val := by blk_simp [idx6 t]; omega
  have h2 : ((((cfg0.win 6).blk t).view.emb y 2 : Fin _) : ℕ) = 1024 * (t.val % 6) + (y 2).val := by blk_simp [idx6 t]; omega
  have key : projAt m c t y
      = wide (aX m c) (aN m c) (aC m c) (aS m c) (aW m c) (((cfg0.win 6).blk t).view.emb y) := by
    rw [row_ix y]
    refine (wide_at m c t (y 1) (y 2) _ _ _ h0 h1 h2).trans ?_
    rw [← row_ix y]
    rfl
  blk_simp
  rw [after6]
  exact key

/-- The narrow result array after the run. -/
theorem final_narrow : (dats m 0 c).arrAt 7 cfg0.N = narrow (aX m c) (aN m c) (aC m c) (aS m c) (aW m c) := by
  refine (dats m 0 c).arrAt_eq_of_covers 7 _ (by decide +kernel) fun t hf y => ?_
  have ht := t_lt t
  have h0 : ((((cfg0.win 7).blk t).view.emb y 0 : Fin _) : ℕ) = t.val / 24 := by blk_simp [idx7 t]
  have h1 : ((((cfg0.win 7).blk t).view.emb y 1 : Fin _) : ℕ) = 512 * (t.val / 6 % 4) + (y 1).val := by blk_simp [idx7 t]; omega
  have h2 : ((((cfg0.win 7).blk t).view.emb y 2 : Fin _) : ℕ) = (y 2).val := by blk_simp [idx7 t]
  have key : lowAt m c t y
      = narrow (aX m c) (aN m c) (aC m c) (aS m c) (aW m c) (((cfg0.win 7).blk t).view.emb y) := by
    rw [row_ix y]
    refine (narrow_at m c t (y 1) (y 2) _ _ h0 h1).trans ?_
    rw [← row_ix y]
    refine congrArg (narrow (aX m c) (aN m c) (aC m c) (aS m c) (aW m c)) (funext fun a => ?_)
    match a with
    | ⟨0, _⟩ => rfl
    | ⟨1, _⟩ => rfl
    | ⟨2, _⟩ => exact Fin.ext h2.symm
  blk_simp
  rw [after7]
  exact key

end Ker

namespace Ref
open Cert.Reference4Ideal Cert.Reference4Ideal.Gen

/-- The reference's normalized rows, written with its own operations. -/
def hidden (x : FVec Ideal S4x2048x2048 .f32) (nw : FVec Ideal S2048 .f32) (sc sh : FVec Ideal S4x1x2048 .f32) :
    FVec Ideal S4x2048x2048 .f32 :=
  addf (mulf (mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 nw))) (broadcastInDim S4x2048x2048 ![0, 1, 2] bcast_S4x1x2048_S4x2048x2048_0_1_2 (addf (broadcastInDim S4x1x2048 ![] bcast_S_S4x1x2048 (constant S_ .f32 0x3F800000#32)) sc))) (broadcastInDim S4x2048x2048 ![0, 1, 2] bcast_S4x1x2048_S4x2048x2048_0_1_2 sh)

theorem hidden_at (x : FVec Ideal S4x2048x2048 .f32) (nw : FVec Ideal S2048 .f32) (sc sh : FVec Ideal S4x1x2048 .f32)
    (b : Fin 4) (l j : Fin 2048) : hidden x nw sc sh (ix3 b l j) = hid x nw sc sh b l j := by
  pointwise [hidden, hid, Row.rms]

/-- All 6160 columns. -/
def product (x : FVec Ideal S4x2048x2048 .f32) (nw : FVec Ideal S2048 .f32) (sc sh : FVec Ideal S4x1x2048 .f32)
    (w : FVec Ideal S2048x6160 .f32) : FVec Ideal S4x2048x6160 .f32 :=
  Host.dotGeneral (F := Ideal) (φ₁ := .f32) (φ₂ := .f32) dot_S4x2048x2048_S2048x6160_S4x2048x6160_2_0_01_1_n_n none (hidden x nw sc sh) w

theorem product_at (x : FVec Ideal S4x2048x2048 .f32) (nw : FVec Ideal S2048 .f32) (sc sh : FVec Ideal S4x1x2048 .f32)
    (w : FVec Ideal S2048x6160 .f32) (b : Fin 4) (l : Fin 2048) (k : Fin 6160) :
    product x nw sc sh w (ix3 b l k) = proj x nw sc sh w b l k := by
  unfold product proj
  pointwise
  exact Finset.sum_congr rfl fun j _ => congrArg (fun y : EReal => y * w (ix2 j k)) (hidden_at x nw sc sh b l j)

/-- The five ranges of columns, the first four laid side by side again. -/
theorem columns_at (y : FVec Ideal S4x2048x6160 .f32) (b : Fin 4) (l : Fin 2048) (k : Fin 6144) :
    concatenate S4x2048x6144 2 [⟨S4x2048x1024, extractStridedSlice S4x2048x1024 ![0, 0, 0] y slices_S4x2048x6160_S4x2048x1024_0_0_0⟩, ⟨S4x2048x1024, extractStridedSlice S4x2048x1024 ![0, 0, 1024] y slices_S4x2048x6160_S4x2048x1024_0_0_1024⟩, ⟨S4x2048x2048, extractStridedSlice S4x2048x2048 ![0, 0, 2048] y slices_S4x2048x6160_S4x2048x2048_0_0_2048⟩, ⟨S4x2048x2048, extractStridedSlice S4x2048x2048 ![0, 0, 4096] y slices_S4x2048x6160_S4x2048x2048_0_0_4096⟩] concatenates_S4x2048x1024_S4x2048x1024_S4x2048x2048_S4x2048x2048_S4x2048x6144_d2 (ix3 b l k)
      = y (ix3 b l ⟨k.val, Nat.lt_trans k.isLt (by decide)⟩) := by
  pointwise
  split_ifs <;> exact congrArg (fun q => y (ix3 b l q)) (Fin.ext (by first | omega | (simp only; omega)))

/-- The last range, padded with zeros. -/
theorem padded_at (y : FVec Ideal S4x2048x6160 .f32) (b : Fin 4) (l : Fin 2048) (e : Fin 128) :
    pad S4x2048x128 ![0, 0, 0] ![0, 0, 112] ![0, 0, 0] (extractStridedSlice S4x2048x16 ![0, 0, 6144] y slices_S4x2048x6160_S4x2048x16_0_0_6144) (sitofp (F := Ideal) .f32 (constantI S_ 32 0#32)) pads_S4x2048x16_S4x2048x128_000_000_01120 h_S_ (ix3 b l e)
      = if h : e.val < 16 then (y (ix3 b l ⟨6144 + e.val, by omega⟩) : EReal) else (0 : EReal) := by
  have h0 : (FloatOps.sitofp (F := Ideal) FTy.f32 (0#32)) = (0 : EReal) := by
    show (((0#32).toInt : ℝ) : EReal) = 0
    simp
  pointwise
  rw [h0]

theorem wide_eq (m : (ℓ : Loc nD τ sig) → Buf (Elt Ideal) ℓ) (c : Dev nD) :
    Value.res_out0 m c = wide (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [ValueIdx.eq_ix3 i]
  exact (columns_at (product _ _ _ _ _) (i 0) (i 1) (i 2)).trans (product_at _ _ _ _ _ _ _ _)

theorem narrow_eq (x : FVec Ideal S4x2048x2048 .f32) (nw : FVec Ideal S2048 .f32) (sc sh : FVec Ideal S4x1x2048 .f32)
    (w : FVec Ideal S2048x6160 .f32) :
    pad S4x2048x128 ![0, 0, 0] ![0, 0, 112] ![0, 0, 0] (extractStridedSlice S4x2048x16 ![0, 0, 6144] (product x nw sc sh w) slices_S4x2048x6160_S4x2048x16_0_0_6144) (sitofp (F := Ideal) .f32 (constantI S_ 32 0#32)) pads_S4x2048x16_S4x2048x128_000_000_01120 h_S_
      = narrow x nw sc sh w := by
  funext i
  rw [ValueIdx.eq_ix3 i]
  refine (padded_at _ (i 0) (i 1) (i 2)).trans ?_
  show _ = if h : (i 2).val < 16 then proj x nw sc sh w (i 0) (i 1) ⟨6144 + (i 2).val, by omega⟩ else 0
  by_cases h : (i 2).val < 16
  · rw [dif_pos h, dif_pos h]
    exact product_at _ _ _ _ _ _ _ _
  · rw [dif_neg h, dif_neg h]

theorem frame : Cert.quiescent_Reference4Ideal := fun m ρ _ =>
  (θ_run (defs (F := Ideal)) _ _).mono (fun r h => ⟨fun c => (h c).2.2, sem_eq_zero_of_no_sems (by decide) r.2⟩)
    (Cert.Reference4Ideal.Value.run m ρ)

end Ref

/-- The kernel and the reference end with the same two arrays. -/
theorem algebraic : Cert.algebraic_Kernel4Ideal_Reference4Ideal := by
  intro m ρ m' ρ' _ hagree
  refine ⟨fun c => wide (Ker.aX m c) (Ker.aN m c) (Ker.aC m c) (Ker.aS m c) (Ker.aW m c),
    fun c => narrow (Ker.aX m c) (Ker.aN m c) (Ker.aC m c) (Ker.aS m c) (Ker.aW m c), ?_, ?_⟩
  · refine (θ_run (Cert.Kernel4Ideal.defs (F := Ideal)) _ _).mono (fun r h c => ?_)
      (θ_run_and (Cert.Kernel4Ideal.Low.run_main m ρ) (Cert.Kernel4Ideal.Low.frame m ρ))
    exact ⟨((h.1.1 c).1 6).trans (Ker.final_wide m c), ((h.1.1 c).1 7).trans (Ker.final_narrow m c), h.2.1 c⟩
  · refine (θ_run (Cert.Reference4Ideal.defs (F := Ideal)) _ _).mono (fun r h c => ?_) (Cert.Reference4Ideal.Value.run m' ρ')
    obtain ⟨a0, a1, a2, a3, a4⟩ := hagree c
    refine ⟨(h c).1.trans ((Ref.wide_eq m' c).trans ?_), (h c).2.1.trans ?_, (h c).2.2⟩
    · rw [a0, a1, a2, a3, a4]
    · rw [a0, a1, a2, a3, a4]
      exact Ref.narrow_eq ..

end Cert.Low

end
-- ==== Proof.Moe.Items.lean ====
/-
  The work items of the grouped expert matmul: what the precondition says of the five tables.
-/
module

public import proofs.«01_k».proof.Pre_items_ok
public import Idealize.ShloMosaic.Lib.Pointwise
public import Idealize.ShloMosaic.Lib.StableHlo.Predicate
public import Idealize.ShloMosaic.Lib.IndicatorCount

@[expose] public section

noncomputable section

open Idealize.ShloMosaic

namespace Cert.Moe

/-- Item `w` covers row `p`: the row lies in the item's block and between its two bounds. -/
def Cov (b l h : Fin 255 → BitVec 32) (w : Fin 255) (p : Fin 49152) : Prop :=
  (b w).toNat = p.val / 256 ∧ (l w).toInt ≤ p.val ∧ (p.val : ℤ) < (h w).toInt

/-- What the tables of blocks, experts, bounds and opening marks are to satisfy, `x` the rows' experts. -/
structure Items (b e l h f : Fin 255 → BitVec 32) (x : Fin 49152 → BitVec 32) : Prop where
  block_lt : ∀ w, (b w).toNat < 192
  expert_lt : ∀ w, (e w).toNat < 64
  first_zero : ∀ w : Fin 255, w.val = 0 → f w = 1#32
  first_succ : ∀ v w : Fin 255, w.val = v.val + 1 → f w = if b w = b v then 0#32 else 1#32
  opens : ∀ w, f w = 1#32 → IntOp.cmpi .slt (l w) (h w) = 1#1
  mono : ∀ v w : Fin 255, w.val = v.val + 1 → (b v).toNat ≤ (b w).toNat
  covered : ∀ p, ∃ w, Cov b l h w p
  once : ∀ p v w, Cov b l h v p → Cov b l h w p → v = w
  right : ∀ w p, Cov b l h w p → e w = x p

theorem andi_one : ∀ {a c : BitVec 1}, IntOp.andi a c = 1#1 ↔ a = 1#1 ∧ c = 1#1 := by decide
theorem ori_one : ∀ {a c : BitVec 1}, IntOp.ori a c = 1#1 ↔ a = 1#1 ∨ c = 1#1 := by decide
theorem not_one : ∀ {a : BitVec 1}, ~~~a = 1#1 ↔ ¬ a = 1#1 := by decide

theorem sge_int {a c : BitVec 32} : IntOp.cmpi .sge a c = 1#1 ↔ c.toInt ≤ a.toInt := by
  simp [IntOp.cmpi, BitVec.sle, StableHlo.Predicate.ofBool_eq_one_iff]
theorem sle_int {a c : BitVec 32} : IntOp.cmpi .sle a c = 1#1 ↔ a.toInt ≤ c.toInt := by
  simp [IntOp.cmpi, BitVec.sle, StableHlo.Predicate.ofBool_eq_one_iff]
theorem slt_int {a c : BitVec 32} : IntOp.cmpi .slt a c = 1#1 ↔ a.toInt < c.toInt := by
  simp [IntOp.cmpi, BitVec.slt, StableHlo.Predicate.ofBool_eq_one_iff]

/-- The words that say that an item covers a row, for a block in range. -/
theorem cov_iff (b l h : Fin 255 → BitVec 32) (w : Fin 255) (p : Fin 49152) (hb : (b w).toNat < 192) :
    IntOp.andi (IntOp.andi (IntOp.andi (IntOp.cmpi .sge (BitVec.ofNat 32 p.val) (IntOp.muli (b w) 256#32))
      (IntOp.cmpi .slt (BitVec.ofNat 32 p.val) (IntOp.addi (IntOp.muli (b w) 256#32) 256#32)))
      (IntOp.cmpi .sge (BitVec.ofNat 32 p.val) (l w))) (IntOp.cmpi .slt (BitVec.ofNat 32 p.val) (h w)) = 1#1 ↔ Cov b l h w p := by
  have hp : (BitVec.ofNat 32 p.val).toInt = p.val := StableHlo.Predicate.toInt_ofNat_small _ (by omega)
  have hm : (IntOp.muli (b w) 256#32).toNat = (b w).toNat * 256 := by
    show (b w * 256#32).toNat = _
    rw [BitVec.toNat_mul]; simp; omega
  have ha : (IntOp.addi (IntOp.muli (b w) 256#32) 256#32).toNat = (b w).toNat * 256 + 256 := by
    show (IntOp.muli (b w) 256#32 + 256#32).toNat = _
    rw [BitVec.toNat_add, hm]; simp; omega
  simp only [andi_one, sge_int, slt_int, hp]
  rw [StableHlo.Predicate.toInt_eq_toNat_of_lt (a := IntOp.muli (b w) 256#32) (by omega),
    StableHlo.Predicate.toInt_eq_toNat_of_lt (a := IntOp.addi (IntOp.muli (b w) 256#32) 256#32) (by omega), hm, ha]
  unfold Cov
  constructor
  · rintro ⟨⟨⟨h1, h2⟩, h3⟩, h4⟩; exact ⟨by omega, h3, h4⟩
  · rintro ⟨h1, h3, h4⟩; exact ⟨⟨⟨by omega, by omega⟩, h3⟩, h4⟩

theorem word_lt {a : BitVec 32} {n : ℕ} (hn : n < 2 ^ 31) (h0 : IntOp.cmpi .sge a 0#32 = 1#1)
    (h1 : IntOp.cmpi .slt a (BitVec.ofNat 32 n) = 1#1) : a.toNat < n := by
  rw [sge_int] at h0
  rw [slt_int, StableHlo.Predicate.toInt_ofNat_small n hn] at h1
  have : (0#32 : BitVec 32).toInt = 0 := rfl
  rw [this] at h0
  have := BitVec.toInt_eq_toNat_cond a
  have hlt := a.isLt
  split at this <;> omega

theorem ne_word {a c : BitVec 32} (h : a ≠ c) : (IntOp.cmpi .ne a c).setWidth 32 = 1#32 := by
  have h1 : (a != c) = true := by simpa using h
  show (BitVec.ofBool (a != c)).setWidth 32 = _
  rw [h1]; rfl

open Cert.Pre_items_ok Cert.Pre_items_ok.Facts
variable [Cert.Pre_items_ok.Facts] {F : FTy → Type} [FloatOps F]

open Classical in
/-- Tables of which the precondition holds satisfy this. -/
theorem items_of (b e l h f : IVec S255 32) (x : IVec S49152 32) (a6 : FVec F S49152x2048 .f32) (a7 : FVec F S4x64x2048x768 .f32)
    (a8 : FVec F S4x64x384x2048 .f32) (hp : fn (F := F) b e l h f x a6 a7 a8 = fun _ => 1#1) :
    Items (fun w => b (ix1 w)) (fun w => e (ix1 w)) (fun w => l (ix1 w)) (fun w => h (ix1 w)) (fun w => f (ix1 w)) (fun p => x (ix1 p)) := by
  have hall : ∀ (w : Fin 255) (p : Fin 49152), _ := fun w p => by
    have hh := congrFun hp (ix2 w p)
    unfold fn fn_part1 fn_part2 fn_part3 at hh
    pointwise at hh
    simp only [andi_one, ori_one, not_one] at hh
    exact hh
  have hb : ∀ w : Fin 255, (b (ix1 w)).toNat < 192 := fun w => word_lt (by norm_num) (hall w 0).1.2.2.1.1.1.1 (hall w 0).1.2.2.1.1.1.2
  have hcard : ∀ p : Fin 49152, ∃! w, Cov (fun w => b (ix1 w)) (fun w => l (ix1 w)) (fun w => h (ix1 w)) w p := fun p => by
    have h1 := (hall 0 p).1.1
    rw [StableHlo.Predicate.cmpi_eq_iff] at h1
    replace h1 := (IndicatorCount.fold_addi_setWidth_eq_card _ _).symm.trans h1
    rw [Finset.filter_congr (fun w _ => cov_iff (fun w => b (ix1 w)) (fun w => l (ix1 w)) (fun w => h (ix1 w)) w p (hb w))] at h1
    have h2 := congrArg BitVec.toNat h1
    rw [BitVec.toNat_ofNat, Nat.mod_eq_of_lt (lt_of_le_of_lt (Finset.card_le_univ _) (by simp))] at h2
    obtain ⟨w, hw⟩ := Finset.card_eq_one.mp (h2.trans (by rfl))
    refine ⟨w, ?_, fun v hv => ?_⟩
    · have := Finset.mem_singleton_self w; rw [← hw] at this; exact (Finset.mem_filter.mp this).2
    · have : v ∈ Finset.univ.filter fun w => Cov (fun w => b (ix1 w)) (fun w => l (ix1 w)) (fun w => h (ix1 w)) w p := Finset.mem_filter.mpr ⟨Finset.mem_univ _, hv⟩
      rw [hw] at this; exact Finset.mem_singleton.mp this
  refine ⟨hb, fun w => word_lt (by norm_num) (hall w 0).1.2.2.1.2 (hall w 0).1.2.2.2, ?_, ?_, ?_, ?_, ?_, ?_, ?_⟩
  · intro w h0
    have h1 := (hall w 0).1.2.1.1
    rw [dif_pos (by omega), StableHlo.Predicate.cmpi_eq_iff] at h1
    show f (ix1 w) = _
    rw [h1]
    have : b (ix1 w) ≠ 4294967295#32 := by
      intro h2; have := hb w; rw [h2] at this; revert this; decide
    exact ne_word this
  · intro v w hv
    have h1 := (hall w 0).1.2.1.1
    rw [dif_neg (by omega), StableHlo.Predicate.cmpi_eq_iff] at h1
    have hvw : (⟨w.val - 1, by omega⟩ : Fin 255) = v := Fin.ext (by simp only; omega)
    rw [hvw] at h1
    show f (ix1 w) = _
    rw [h1]
    by_cases hbb : b (ix1 w) = b (ix1 v)
    · simp [IntOp.cmpi, hbb]
    · rw [if_neg hbb]; exact ne_word hbb
  · intro w hf
    have h1 := (hall w 0).1.2.1.1
    rcases (hall w 0).1.2.1.2 with h2 | h2
    · rw [StableHlo.Predicate.cmpi_eq_iff] at h1 h2
      rw [← h2] at h1
      exfalso
      have : f (ix1 w) = 1#32 := hf
      rw [h1] at this
      revert this
      simp [IntOp.cmpi]
    · exact h2
  · intro v w hv
    have h1 := (hall w 0).1.2.2.1.1.2
    rw [dif_neg (by omega)] at h1
    have hvw : (⟨w.val - 1, by omega⟩ : Fin 255) = v := Fin.ext (by simp only; omega)
    rw [hvw] at h1
    exact (StableHlo.Predicate.sle_iff_toNat (by have := hb v; omega) (by have := hb w; omega)).mp h1
  · intro p; exact (hcard p).exists
  · intro p v w h1 h2; exact (hcard p).unique h1 h2
  · intro w p hc
    rcases (hall w p).2 with h1 | h1
    · have h2 := (cov_iff (fun w => b (ix1 w)) (fun w => l (ix1 w)) (fun w => h (ix1 w)) w p (hb w)).mpr hc
      simp only [andi_one] at h2
      exact absurd h2 h1
    · exact StableHlo.Predicate.cmpi_eq_iff.mp h1

end Cert.Moe

end
-- ==== Proof.Moe.KitIdeal.lean ====
/-
  The grouped expert matmul: what its launch is stated over, the tables at their contents.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Pipeline.TableIdle
public import Idealize.ShloMosaic.Lib.Pipeline.ValueKit
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel5Ideal.Moe

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the call is entered: as launched. -/
abbrev V (c : Dev nD) (b : Ref sig .tc) : Buf (Elt F) ((c : Thread nD τ).loc b) := m ((c : Thread nD τ).loc b)

set_option maxHeartbeats 800000 in
/-- The program up to the call: the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The prefetched tables, read off the launch memory -/

/-- The tables' contents: device 0's, the one device. -/
def tbl : pre0.Contents (Elt F) := fun j => V m (0 : Dev nD) (pre0.ref j)
/-- Every device's tables hold them. -/
theorem V_pre (c : Dev nD) (j : Fin 5) : V m c (pre0.ref j) = tbl m j := by
  obtain rfl : c = 0 := Subsingleton.elim _ _; rfl
/-- Every block the tables name lies inside its array. -/
abbrev Ok : Prop := ok0 (F := F) (tbl m)
/-- The tables' contents with that fact, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tbM0_0 : Memref sig .tc .smem S255 .i32 := Memref.whole main_arg0
abbrev htbM0_0 : tbM0_0.IsWhole := Memref.isWhole_whole _
abbrev tbM0_1 : Memref sig .tc .smem S255 .i32 := Memref.whole main_arg1
abbrev htbM0_1 : tbM0_1.IsWhole := Memref.isWhole_whole _
abbrev tbM0_2 : Memref sig .tc .smem S255 .i32 := Memref.whole main_arg2
abbrev htbM0_2 : tbM0_2.IsWhole := Memref.isWhole_whole _
abbrev tbM0_3 : Memref sig .tc .smem S255 .i32 := Memref.whole main_arg3
abbrev htbM0_3 : tbM0_3.IsWhole := Memref.isWhole_whole _
abbrev tbM0_4 : Memref sig .tc .smem S255 .i32 := Memref.whole main_arg4
abbrev htbM0_4 : tbM0_4.IsWhole := Memref.isWhole_whole _

/-- A table's buffer on device `c`, and half of it held: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The halves of the five tables, one by one. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from the launch's. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 0).trans (((dats 0 c).arrAt_in 0 rfl _).trans ((hA c 0).trans (V_main_arg6 m c))),
      ((h c).1 1).trans (((dats 0 c).arrAt_in 1 rfl _).trans ((hA c 1).trans (V_main_arg7 m c))),
      ((h c).1 2).trans (((dats 0 c).arrAt_in 2 rfl _).trans ((hA c 2).trans (V_main_arg8 m c)))⟩) h

/-- The staging buffers at point `t`. -/
abbrev ms0_0 (hO : Ok m) (t : Fin (cfgM m hO).N) : Memref sig .tc .vmem S256x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x768 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x384x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S256x2048 .f32 := spec0_3.stage ((cfgM m hO).slots t 3)
abbrev hs0_3 (hO : Ok m) (t : Fin (cfgM m hO).N) : (ms0_3 m hO t).IsWhole := hstage0_3 (((cfgM m hO).slots t 3).cast nbuf0_3)

/-- The body at point `t`. -/
abbrev bodyAt0 (a : (pcfg0 (F := F)).Adm) (t : Fin (cfg0 a).N) : Prog (TpuEff nD τ sig (Elt F) Λ₀ .tc) PUnit :=
  cc0_grouped_expert_matmul (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.Kernel5Ideal.Moe

end
-- ==== Proof.Moe.BodyIdeal.lean ====
/-
  The grouped expert matmul: what one work item does to its block of rows.
-/
module

public import proofs.«01_k».proof.Proof.Moe.KitIdeal

@[expose] public section

set_option maxRecDepth 16384

noncomputable section

namespace Cert.Kernel5Ideal.Moe

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A table's word of a work item. -/
abbrev wordOf (x : Vec F S255 .i32) (i : grid0.Coords) : BitVec 32 :=
  x ((Rect.unit (s := S255) (k0_off1 i) S1.size (k0_off1_inb i)).emb (Shape.Idx.first (numel1_S1.symm ▸ Nat.one_pos)))

section
variable (c : Dev nD) (i : grid0.Coords) (arg6 : Memref sig .tc .vmem S256x2048 .f32) (harg6 : arg6.IsWhole) (arg7 : Memref sig .tc .vmem S1x1x2048x768 .f32) (harg7 : arg7.IsWhole) (arg8 : Memref sig .tc .vmem S1x1x384x2048 .f32) (harg8 : arg8.IsWhole) (arg9 : Memref sig .tc .vmem S256x2048 .f32) (harg9 : arg9.IsWhole)
  (x0 : Vec F S256x2048 .f32) (x1 : Vec F S1x1x2048x768 .f32) (x2 : Vec F S1x1x384x2048 .f32) (xt0 xt1 xt2 xt3 xt4 : Vec F S255 .i32)

/-- The blocks and the tables an item finds and leaves. -/
def ins : sProp 𝕄 :=
  iprop(owns (c : Thread nD τ) arg6 fullShare x0 ∗ owns (c : Thread nD τ) arg7 fullShare x1 ∗ owns (c : Thread nD τ) arg8 fullShare x2
    ∗ tbPt0 c tbM0_0 xt0 ∗ tbPt0 c tbM0_1 xt1 ∗ tbPt0 c tbM0_2 xt2 ∗ tbPt0 c tbM0_3 xt3 ∗ tbPt0 c tbM0_4 xt4)

set_option maxHeartbeats 2000000 in
/-- An item without rows does nothing. -/
theorem run_none (hc : ¬ k0_cond1 (wordOf xt2 i) (wordOf xt3 i) = 1#1) (K : PUnit → sProp 𝕄) :
    iprop(ins c arg6 arg7 arg8 x0 x1 x2 xt0 xt1 xt2 xt3 xt4 ∗ (ins c arg6 arg7 arg8 x0 x1 x2 xt0 xt1 xt2 xt3 xt4 -∗ K ⟨⟩))
      ⊢ wp frame (wpE (defs₀ (F := F)) Variants.none c none) Set.univ
          (cc0_grouped_expert_matmul i tbM0_0 htbM0_0 tbM0_1 htbM0_1 tbM0_2 htbM0_2 tbM0_3 htbM0_3 tbM0_4 htbM0_4 arg6 harg6 arg7 harg7 arg8 harg8 arg9 harg9) K := by
  simp only [cc0_grouped_expert_matmul_eq_skeleton]; unfold cc0_grouped_expert_matmul_skel
  unfold ins
  iintro ⟨⟨H0, H1, H2, HT0, HT1, HT2, HT3, HT4⟩, Hk⟩
  sl_exec (disch := first | sl_exact hc)
  sl_step
  iapply Hk
  isplitl [H0]; · iexact H0
  isplitl [H1]; · iexact H1
  isplitl [H2]; · iexact H2
  isplitl [HT0]; · iexact HT0
  isplitl [HT1]; · iexact HT1
  isplitl [HT2]; · iexact HT2
  isplitl [HT3]; · iexact HT3
  iexact HT4

set_option maxHeartbeats 4000000 in
/-- A block's first item stores its rows' outputs, the other rows zero. -/
theorem run_first (hc : k0_cond1 (wordOf xt2 i) (wordOf xt3 i) = 1#1) (hf : k0_cond2 (wordOf xt4 i) = 1#1)
    (hl : ¬ k0_cond3 (wordOf xt4 i) = 1#1) (K : PUnit → sProp 𝕄) :
    iprop(ins c arg6 arg7 arg8 x0 x1 x2 xt0 xt1 xt2 xt3 xt4 ∗ (∃ d, owns (c : Thread nD τ) arg9 fullShare d)
        ∗ (iprop(ins c arg6 arg7 arg8 x0 x1 x2 xt0 xt1 xt2 xt3 xt4
            ∗ owns (c : Thread nD τ) arg9 fullShare (k0_pay2 (wordOf xt2 i) (wordOf xt3 i) x0 x1 x2 (wordOf xt0 i))) -∗ K ⟨⟩))
      ⊢ wp frame (wpE (defs₀ (F := F)) Variants.none c none) Set.univ
          (cc0_grouped_expert_matmul i tbM0_0 htbM0_0 tbM0_1 htbM0_1 tbM0_2 htbM0_2 tbM0_3 htbM0_3 tbM0_4 htbM0_4 arg6 harg6 arg7 harg7 arg8 harg8 arg9 harg9) K := by
  simp only [cc0_grouped_expert_matmul_eq_skeleton]; unfold cc0_grouped_expert_matmul_skel
  simp only [k0_part1_eq_skeleton]; unfold k0_part1_skel
  unfold ins owns
  iintro ⟨⟨⟨%f0, %hf0, H0⟩, ⟨%f1, %hf1, H1⟩, ⟨%f2, %hf2, H2⟩, HT0, HT1, HT2, HT3, HT4⟩, ⟨%d3, %f3, -, H3⟩, Hk⟩
  obtain rfl := harg6.eq_unread hf0; obtain rfl := harg7.eq_unread hf1; obtain rfl := harg8.eq_unread hf2
  sl_exec (disch := first | sl_exact hc | sl_exact hf | sl_exact hl)
  sl_step
  iapply Hk
  isplitl [H0 H1 H2 HT0 HT1 HT2 HT3 HT4]
  · isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [HT0]; · iexact HT0
    isplitl [HT1]; · iexact HT1
    isplitl [HT2]; · iexact HT2
    isplitl [HT3]; · iexact HT3
    iexact HT4
  iexists _; isplitr
  swap; · iexact H3
  ipureintro
  rw [View.read_writes_eq_canon _ _ _ (View.cover_of_tiledL _ S256x2048.size (by sl_kernel_rfl))]
  sl_unfold_words
  rw [View.canon_unit_zero hz2]
  simp only [View.readAt_eq_ld, harg6.read_unread, harg7.read_unread, harg8.read_unread, View.ld_unit_zero (S := S256x2048) hz2, View.ld_unit_zero (S := S1x1x2048x768) hz4, View.ld_unit_zero (S := S1x1x384x2048) hz4]
  rfl

set_option maxHeartbeats 4000000 in
/-- A block's later item adds its rows' outputs. -/
theorem run_later (hc : k0_cond1 (wordOf xt2 i) (wordOf xt3 i) = 1#1) (hf : ¬ k0_cond2 (wordOf xt4 i) = 1#1)
    (hl : k0_cond3 (wordOf xt4 i) = 1#1) (y : Vec F S256x2048 .f32) (K : PUnit → sProp 𝕄) :
    iprop(ins c arg6 arg7 arg8 x0 x1 x2 xt0 xt1 xt2 xt3 xt4 ∗ owns (c : Thread nD τ) arg9 fullShare y
        ∗ (iprop(ins c arg6 arg7 arg8 x0 x1 x2 xt0 xt1 xt2 xt3 xt4
            ∗ owns (c : Thread nD τ) arg9 fullShare (k0_pay1 (k0_pay2 (wordOf xt2 i) (wordOf xt3 i) x0 x1 x2 (wordOf xt0 i)) y)) -∗ K ⟨⟩))
      ⊢ wp frame (wpE (defs₀ (F := F)) Variants.none c none) Set.univ
          (cc0_grouped_expert_matmul i tbM0_0 htbM0_0 tbM0_1 htbM0_1 tbM0_2 htbM0_2 tbM0_3 htbM0_3 tbM0_4 htbM0_4 arg6 harg6 arg7 harg7 arg8 harg8 arg9 harg9) K := by
  simp only [cc0_grouped_expert_matmul_eq_skeleton]; unfold cc0_grouped_expert_matmul_skel
  simp only [k0_part1_eq_skeleton]; unfold k0_part1_skel
  unfold ins owns
  iintro ⟨⟨⟨%f0, %hf0, H0⟩, ⟨%f1, %hf1, H1⟩, ⟨%f2, %hf2, H2⟩, HT0, HT1, HT2, HT3, HT4⟩, ⟨%f3, %hf3, H3⟩, Hk⟩
  obtain rfl := harg6.eq_unread hf0; obtain rfl := harg7.eq_unread hf1; obtain rfl := harg8.eq_unread hf2
  obtain rfl := harg9.eq_unread hf3
  sl_exec (disch := first | sl_exact hc | sl_exact hf | sl_exact hl)
  sl_step
  iapply Hk
  isplitl [H0 H1 H2 HT0 HT1 HT2 HT3 HT4]
  · isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [HT0]; · iexact HT0
    isplitl [HT1]; · iexact HT1
    isplitl [HT2]; · iexact HT2
    isplitl [HT3]; · iexact HT3
    iexact HT4
  iexists _; isplitr
  swap; · iexact H3
  ipureintro
  rw [View.read_writes_eq_canon _ _ _ (View.cover_of_tiledL _ S256x2048.size (by sl_kernel_rfl))]
  sl_unfold_words
  rw [View.canon_unit_zero hz2]
  simp only [View.readAt_eq_ld, harg6.read_unread, harg7.read_unread, harg8.read_unread, harg9.read_unread, View.ld_unit_zero (S := S256x2048) hz2, View.ld_unit_zero (S := S1x1x2048x768) hz4, View.ld_unit_zero (S := S1x1x384x2048) hz4]
  rfl

end

end Cert.Kernel5Ideal.Moe

end
-- ==== Proof.Moe.FrameIdeal.lean ====
/-
  The grouped expert matmul: what every work item leaves of its block, and the run of all of them.
-/
module

public import proofs.«01_k».proof.Proof.Moe.BodyIdeal
public import proofs.«01_k».proof.Proof.Moe.Items

@[expose] public section

set_option maxRecDepth 16384

noncomputable section

namespace Cert.Kernel5Ideal.Moe

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables' words -/

/-- The words of table `k` by work item. -/
abbrev tB (w : Fin 255) : BitVec 32 := (tbl m 0 : Vec F S255 .i32) (ix1 w)
abbrev tE (w : Fin 255) : BitVec 32 := (tbl m 1 : Vec F S255 .i32) (ix1 w)
abbrev tL (w : Fin 255) : BitVec 32 := (tbl m 2 : Vec F S255 .i32) (ix1 w)
abbrev tH (w : Fin 255) : BitVec 32 := (tbl m 3 : Vec F S255 .i32) (ix1 w)
abbrev tF (w : Fin 255) : BitVec 32 := (tbl m 4 : Vec F S255 .i32) (ix1 w)
/-- The rows' experts. -/
abbrev tX (p : Fin 49152) : BitVec 32 := (V m (0 : Dev nD) main_arg5 : Vec F S49152 .i32) (ix1 p)

/-- The tables satisfy the precondition. -/
abbrev Good : Prop := Cert.Moe.Items (tB m) (tE m) (tL m) (tH m) (tF m) (tX m)

theorem off_val : ∀ n : Fin 255, (Scalar.indexCast (BitVec.ofNat 32 n.val) : Index).toNat = n.val := by decide +kernel

theorem coords_val : ∀ t : Fin grid0.N, (grid0.coords t 0).val = t.val := by decide +kernel

/-- The work item of a point. -/
abbrev item (i : grid0.Coords) : Fin 255 := i 0

theorem wordOf_eq (x : Vec F S255 .i32) (i : grid0.Coords) : wordOf x i = x (ix1 (item i)) := by
  refine congrArg x (funext fun a => Fin.ext ?_)
  obtain rfl : a = 0 := Subsingleton.elim _ _
  show k0_off1 i 0 + 1 * _ = (item i).val
  have : k0_off1 i 0 = (item i).val := off_val (item i)
  rw [this]
  rfl

theorem atD_eq (x : Vec F S255 .i32) (i : grid0.Coords) :
    (if h : ∀ a, k0_off1 i a + 1 ≤ S255.size a then x (fun a => ⟨k0_off1 i a, h a⟩) else default) = x (ix1 (item i)) := by
  have h0 : k0_off1 i 0 = (item i).val := off_val (item i)
  rw [dif_pos (fun a => by
    obtain rfl : a = 0 := Subsingleton.elim _ _
    rw [h0]; exact (item i).isLt)]
  refine congrArg x (funext fun a => Fin.ext ?_)
  obtain rfl : a = 0 := Subsingleton.elim _ _
  exact h0

theorem bit_ne : ∀ v : BitVec 1, Scalar.cmpi .ne (Scalar.extui v : BitVec 32) 0#32 = 1#1 ↔ v = 1#1 := by decide

theorem cond1_iff (a b : BitVec 32) : k0_cond1 a b = 1#1 ↔ IntOp.cmpi .slt a b = 1#1 := by
  unfold k0_cond1; exact bit_ne _
theorem cond2_iff (a : BitVec 32) : k0_cond2 a = 1#1 ↔ a = 1#32 := by
  unfold k0_cond2; exact (bit_ne _).trans StableHlo.Predicate.cmpi_eq_iff
theorem cond3_iff (a : BitVec 32) : k0_cond3 a = 1#1 ↔ a = 0#32 := by
  unfold k0_cond3; exact (bit_ne _).trans StableHlo.Predicate.cmpi_eq_iff

/-- The blocks lie inside their arrays. -/
theorem ok (hG : Good m) : Ok m := by
  have hB : ∀ i : grid0.Coords, ((tbl m 0 : Vec F S255 .i32) ((Rect.unit (s := S255) (k0_off1 i) S1.size (k0_off1_inb i)).emb (Shape.Idx.first (numel1_S1.symm ▸ Nat.one_pos)))).toNat < 192 := fun i => by
    exact lt_of_eq_of_lt (congrArg BitVec.toNat (wordOf_eq (F := F) (tbl m 0) i)) (hG.block_lt _)
  have hE : ∀ i : grid0.Coords, ((tbl m 1 : Vec F S255 .i32) ((Rect.unit (s := S255) (k0_off1 i) S1.size (k0_off1_inb i)).emb (Shape.Idx.first (numel1_S1.symm ▸ Nat.one_pos)))).toNat < 64 := fun i => by
    exact lt_of_eq_of_lt (congrArg BitVec.toNat (wordOf_eq (F := F) (tbl m 1) i)) (hG.expert_lt _)
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · match a with
    | ⟨0, _⟩ => have := hB i; show (_ + 1) * 256 ≤ 49152; exact (Nat.mul_le_mul_right 256 this).trans (by norm_num)
    | ⟨1, _⟩ => show (0 + 1) * 2048 ≤ 2048; norm_num
  · match a with
    | ⟨0, _⟩ => show (0 + 1) * 1 ≤ 4; norm_num
    | ⟨1, _⟩ => have := hE i; show (_ + 1) * 1 ≤ 64; exact (Nat.mul_le_mul_right 1 this).trans (by norm_num)
    | ⟨2, _⟩ => show (0 + 1) * 2048 ≤ 2048; norm_num
    | ⟨3, _⟩ => show (0 + 1) * 768 ≤ 768; norm_num
  · match a with
    | ⟨0, _⟩ => show (0 + 1) * 1 ≤ 4; norm_num
    | ⟨1, _⟩ => have := hE i; show (_ + 1) * 1 ≤ 64; exact (Nat.mul_le_mul_right 1 this).trans (by norm_num)
    | ⟨2, _⟩ => show (0 + 1) * 384 ≤ 384; norm_num
    | ⟨3, _⟩ => show (0 + 1) * 2048 ≤ 2048; norm_num
  · match a with
    | ⟨0, _⟩ => have := hB i; show (_ + 1) * 256 ≤ 49152; exact (Nat.mul_le_mul_right 256 this).trans (by norm_num)
    | ⟨1, _⟩ => show (0 + 1) * 2048 ≤ 2048; norm_num

/-! ## What every item leaves -/

variable (hO : Ok m) (c : Dev nD)

/-- The item of point `t`. -/
abbrev it (t : Fin (cfgM m hO).N) : Fin 255 := item (grid0.coords t)

theorem it_val (t : Fin (cfgM m hO).N) : (it m hO t).val = t.val := coords_val t

/-- The item has rows. -/
abbrev Live (w : Fin 255) : Prop := IntOp.cmpi .slt (tL m w) (tH m w) = 1#1

/-- The item's rows' outputs, the block's other rows zero. -/
def part (t : Fin (cfgM m hO).N) : Vec F S256x2048 .f32 :=
  k0_pay2 (wordOf (tbl m 2) (grid0.coords t)) (wordOf (tbl m 3) (grid0.coords t)) (iblk m hO c 0 t) (iblk m hO c 1 t) (iblk m hO c 2 t)
    (wordOf (tbl m 0) (grid0.coords t))

open Classical in
/-- What the block's buffer holds after point `n`. -/
def acc : (n : ℕ) → n < (cfgM m hO).N → Vec F S256x2048 .f32
  | 0, h => part m hO c ⟨0, h⟩
  | n + 1, h =>
    if Live m (it m hO ⟨n + 1, h⟩) then
      if tF m (it m hO ⟨n + 1, h⟩) = 1#32 then part m hO c ⟨n + 1, h⟩
      else k0_pay1 (part m hO c ⟨n + 1, h⟩) (acc n (Nat.lt_of_succ_lt h))
    else acc n (Nat.lt_of_succ_lt h)

/-- The proof data: the inputs stay at their blocks, the output's buffer is at what the items left. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => acc m hO c t.val t.isLt
  Φ _ := iprop(Pipeline.ΦA spec0 c ∗ Pipeline.ΦT pre0 (tbl m) c)
  q _ := fullShare
  owed _ := 0

theorem A_eq (w : Fin (cfgM m hO).W) : (dats m hO 0 c).A w = V m c (Pipeline.arrRef spec0 w) := by
  dsimp only [dats]

theorem after0 (t : Fin (cfgM m hO).N) : (dats m hO 0 c).after 0 t = iblk m hO c 0 t := by dsimp only [dats]; try rfl
theorem after1 (t : Fin (cfgM m hO).N) : (dats m hO 0 c).after 1 t = iblk m hO c 1 t := by dsimp only [dats]; try rfl
theorem after2 (t : Fin (cfgM m hO).N) : (dats m hO 0 c).after 2 t = iblk m hO c 2 t := by dsimp only [dats]; try rfl
theorem after3 (t : Fin (cfgM m hO).N) : (dats m hO 0 c).after 3 t = acc m hO c t.val t.isLt := by dsimp only [dats]; try rfl

theorem before0 (t : Fin (cfgM m hO).N) (d) : (dats m hO 0 c).before 0 t d = iblk m hO c 0 t :=
  before0_0_of m hO (dats m hO 0 c) (A_eq m hO c 0) (after0 m hO c) t d
theorem before1 (t : Fin (cfgM m hO).N) (d) : (dats m hO 0 c).before 1 t d = iblk m hO c 1 t :=
  before0_1_of m hO (dats m hO 0 c) (A_eq m hO c 1) (after1 m hO c) t d
theorem before2 (t : Fin (cfgM m hO).N) (d) : (dats m hO 0 c).before 2 t d = iblk m hO c 2 t :=
  before0_2_of m hO (dats m hO 0 c) (A_eq m hO c 2) (after2 m hO c) t d

/-! ## Where the output's buffer is left alone, and where it is written back -/

theorem first_cases (hG : Good m) (w : Fin 255) : tF m w = 1#32 ∨ tF m w = 0#32 := by
  by_cases h : w.val = 0
  · exact .inl (hG.first_zero w h)
  · rw [hG.first_succ ⟨w.val - 1, by omega⟩ w (by simp only; omega)]
    split
    · exact .inr rfl
    · exact .inl rfl

theorem idle3 (hG : Good m) (t : Fin (cfgM m hO).N) :
    (cfgM m hO).idle 3 ((cfgM m hO).grid.coords t) = true ↔ ¬ Live m (it m hO t) := by
  show idle0 (tbl m) 3 (grid0.coords t) = true ↔ _
  have e2 : (Pipeline.Prefetch.Contents.atD (tbl m) 2 (k0_off1 (grid0.coords t))) = tL m (it m hO t) := atD_eq (tbl m 2) _
  have e3 : (Pipeline.Prefetch.Contents.atD (tbl m) 3 (k0_off1 (grid0.coords t))) = tH m (it m hO t) := atD_eq (tbl m 3) _
  have e4 : (Pipeline.Prefetch.Contents.atD (tbl m) 4 (k0_off2 (grid0.coords t))) = tF m (it m hO t) := atD_eq (tbl m 4) _
  have e5 : (Pipeline.Prefetch.Contents.atD (tbl m) 4 (k0_off3 (grid0.coords t))) = tF m (it m hO t) := atD_eq (tbl m 4) _
  show (!(k0_cond1 (Pipeline.Prefetch.Contents.atD (tbl m) 2 (k0_off1 (grid0.coords t))) (Pipeline.Prefetch.Contents.atD (tbl m) 3 (k0_off1 (grid0.coords t))) == 1#1 && k0_cond2 (Pipeline.Prefetch.Contents.atD (tbl m) 4 (k0_off2 (grid0.coords t))) == 1#1)
    && !(k0_cond1 (Pipeline.Prefetch.Contents.atD (tbl m) 2 (k0_off1 (grid0.coords t))) (Pipeline.Prefetch.Contents.atD (tbl m) 3 (k0_off1 (grid0.coords t))) == 1#1 && k0_cond3 (Pipeline.Prefetch.Contents.atD (tbl m) 4 (k0_off3 (grid0.coords t))) == 1#1)) = true ↔ _
  rw [e2, e3, e4, e5]
  simp only [Bool.and_eq_true, Bool.not_eq_true', Bool.and_eq_false_iff, beq_eq_false_iff_ne, ne_eq, cond1_iff, cond2_iff, cond3_iff]
  rcases first_cases m hG (it m hO t) with h | h <;> simp [h]

theorem index3 (t : Fin (cfgM m hO).N) : ((cfgM m hO).win 3).index t = ![(tB m (it m hO t)).toNat, 0] := by
  have e : ![(wordOf (F := F) (tbl m 0) (grid0.coords t)).toNat, 0] = ![(tB m (it m hO t)).toNat, 0] :=
    congrArg (fun z : BitVec 32 => ![z.toNat, 0]) (wordOf_eq (F := F) (tbl m 0) _)
  exact e

/-- Between two items of one block nothing is written back. -/
theorem flush3_false (t t' : Fin (cfgM m hO).N) (ht : t'.val = t.val + 1) (h : tB m (it m hO t') = tB m (it m hO t)) :
    ((cfgM m hO).win 3).flush t = false := by
  unfold Pipeline.Window.flush
  have ht' : t'.val < (cfgM m hO).N := t'.isLt
  rw [Bool.and_eq_false_iff]; right
  rw [Bool.or_eq_false_iff]
  refine ⟨decide_eq_false (fun hh => ?_), decide_eq_false ?_⟩
  · have : t.val + 1 = (cfgM m hO).N := hh
    omega
  · rintro ⟨hlt, hne⟩
    refine hne ?_
    have : (⟨t.val + 1, hlt⟩ : Fin (cfgM m hO).N) = t' := Fin.ext ht.symm
    have e := (index3 m hO t').trans ((by rw [h] : ![(tB m (it m hO t')).toNat, 0] = ![(tB m (it m hO t)).toNat, 0]).trans (index3 m hO t).symm)
    rw [← this] at e
    exact e

theorem same_block (hG : Good m) (t t' : Fin (cfgM m hO).N) (ht : t'.val = t.val + 1) (h : tF m (it m hO t') = 0#32) :
    tB m (it m hO t') = tB m (it m hO t) := by
  have h1 := hG.first_succ (it m hO t) (it m hO t') (by rw [it_val, it_val, ht])
  by_contra hne
  rw [if_neg hne, h] at h1
  exact absurd h1 (by decide)

theorem not_live (hG : Good m) (t : Fin (cfgM m hO).N) (h : ¬ Live m (it m hO t)) : tF m (it m hO t) = 0#32 :=
  (first_cases m hG _).resolve_left fun hf => h (hG.opens _ hf)

theorem pos_of_first (hG : Good m) (t : Fin (cfgM m hO).N) (h : tF m (it m hO t) = 0#32) : t.val ≠ 0 := fun h0 => by
  rw [hG.first_zero _ ((it_val m hO t).trans h0)] at h
  exact absurd h (by decide)

theorem acc_dead (n : ℕ) (h : n + 1 < (cfgM m hO).N) (hd : ¬ Live m (it m hO ⟨n + 1, h⟩)) :
    acc m hO c (n + 1) h = acc m hO c n (Nat.lt_of_succ_lt h) := by
  rw [acc, if_neg hd]

theorem acc_later (n : ℕ) (h : n + 1 < (cfgM m hO).N) (hd : Live m (it m hO ⟨n + 1, h⟩)) (hf : tF m (it m hO ⟨n + 1, h⟩) = 0#32) :
    acc m hO c (n + 1) h = k0_pay1 (part m hO c ⟨n + 1, h⟩) (acc m hO c n (Nat.lt_of_succ_lt h)) := by
  rw [acc, if_pos hd, if_neg (by rw [hf]; decide)]

theorem acc_first (hG : Good m) (t : Fin (cfgM m hO).N) (hf : tF m (it m hO t) = 1#32) : acc m hO c t.val t.isLt = part m hO c t := by
  obtain ⟨n, h⟩ := t
  cases n with
  | zero => rfl
  | succ n => show acc m hO c (n + 1) h = _; rw [acc, if_pos (hG.opens _ hf), if_pos hf]

/-- An item that does not open its block finds what the item before left. -/
theorem before3 (hG : Good m) (d) : ∀ (n : ℕ) (h : n + 1 < (cfgM m hO).N), tF m (it m hO ⟨n + 1, h⟩) = 0#32 →
    (dats m hO 0 c).before 3 ⟨n + 1, h⟩ d = acc m hO c n (Nat.lt_of_succ_lt h) := by
  intro n
  induction n with
  | zero =>
    intro h h0
    rw [(dats m hO 0 c).before_of_pos 3 ⟨0 + 1, h⟩ (Nat.succ_ne_zero 0) rfl]
    have hfl := flush3_false m hO ⟨0, Nat.lt_of_succ_lt h⟩ ⟨0 + 1, h⟩ rfl (same_block m hO hG _ _ rfl h0)
    refine (if_neg (fun hh => Bool.false_ne_true (hfl.symm.trans hh))).trans ?_
    show (dats m hO 0 c).left 3 ⟨0, _⟩ d = _
    unfold Dat.left
    have hi : (cfgM m hO).idle 3 ((cfgM m hO).grid.coords ⟨0, Nat.lt_of_succ_lt h⟩) = false := by
      rw [← Bool.not_eq_true, idle3 m hO hG, not_not]
      by_contra hd
      exact pos_of_first m hO hG _ (not_live m hO hG _ hd) rfl
    rw [hi]
    exact after3 m hO c ⟨0, _⟩
  | succ n ih =>
    intro h h0
    rw [(dats m hO 0 c).before_of_pos 3 ⟨n + 1 + 1, h⟩ (Nat.succ_ne_zero _) rfl]
    have hfl := flush3_false m hO ⟨n + 1, Nat.lt_of_succ_lt h⟩ ⟨n + 1 + 1, h⟩ rfl (same_block m hO hG _ _ rfl h0)
    refine (if_neg (fun hh => Bool.false_ne_true (hfl.symm.trans hh))).trans ?_
    show (dats m hO 0 c).left 3 ⟨n + 1, _⟩ d = _
    unfold Dat.left
    by_cases hl : Live m (it m hO ⟨n + 1, Nat.lt_of_succ_lt h⟩)
    · have hi : (cfgM m hO).idle 3 ((cfgM m hO).grid.coords ⟨n + 1, Nat.lt_of_succ_lt h⟩) = false := by
        rw [← Bool.not_eq_true, idle3 m hO hG, not_not]; exact hl
      rw [hi]
      exact after3 m hO c ⟨n + 1, _⟩
    · have hi : (cfgM m hO).idle 3 ((cfgM m hO).grid.coords ⟨n + 1, Nat.lt_of_succ_lt h⟩) = true := (idle3 m hO hG _).mpr hl
      rw [hi]
      exact (ih _ (not_live m hO hG _ hl)).trans (acc_dead m hO c n _ hl).symm

/-! ## The body at every point -/

/-- What the output's buffer is left at. -/
def left3 (t : Fin (cfgM m hO).N) : sProp 𝕄 :=
  match (cfgM m hO).idle 3 ((cfgM m hO).grid.coords t) with
  | true =>
    match ((cfgM m hO).win 3).flush t with
    | false => iprop(∃ d, owns (c : Thread nD τ) (((cfgM m hO).win 3).stage ((cfgM m hO).slots t 3)) fullShare ((dats m hO 0 c).before 3 t d))
    | true => owns (c : Thread nD τ) (((cfgM m hO).win 3).stage ((cfgM m hO).slots t 3)) fullShare ((dats m hO 0 c).after 3 t)
  | false => owns (c : Thread nD τ) (((cfgM m hO).win 3).stage ((cfgM m hO).slots t 3)) fullShare ((dats m hO 0 c).after 3 t)

/-- What the body is called with at point `t`. -/
def bodyPre (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- What it returns. -/
def bodyPost (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ left3 m hO c t)

theorem left3_live (hG : Good m) (t : Fin (cfgM m hO).N) (h : Live m (it m hO t)) :
    left3 m hO c t = owns (c : Thread nD τ) (ms0_3 m hO t) fullShare (acc m hO c t.val t.isLt) := by
  have hi : (cfgM m hO).idle 3 ((cfgM m hO).grid.coords t) = false := by
    rw [← Bool.not_eq_true, idle3 m hO hG, not_not]; exact h
  unfold left3; rw [hi, after3]; rfl

/-- At an item without rows it is enough to leave the buffer as it was. -/
theorem left3_dead (hG : Good m) (t : Fin (cfgM m hO).N) (h : ¬ Live m (it m hO t)) (d) :
    owns (c : Thread nD τ) (ms0_3 m hO t) fullShare ((dats m hO 0 c).before 3 t d) ⊢ left3 m hO c t := by
  have hi : (cfgM m hO).idle 3 ((cfgM m hO).grid.coords t) = true := (idle3 m hO hG _).mpr h
  have hb : (dats m hO 0 c).before 3 t d = acc m hO c t.val t.isLt := by
    have hz := pos_of_first m hO hG t (not_live m hO hG t h)
    obtain ⟨n, hn⟩ := t
    cases n with
    | zero => exact absurd rfl hz
    | succ n => exact (before3 m hO c hG d n hn (not_live m hO hG _ h)).trans (acc_dead m hO c n hn h).symm
  unfold left3; rw [hi, after3]
  cases hfl : ((cfgM m hO).win 3).flush t with
  | true => simp only; rw [hb]; exact .rfl
  | false =>
    simp only
    iintro H
    iexists d
    iexact H

set_option maxHeartbeats 2000000 in
/-- The body at any point. -/
theorem sound_body (hG : Good m) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0, before1, before2]
  rw [show (dats m hO 0 c).Φ t.succ = (dats m hO 0 c).Φ t.castSucc from rfl,
    show (dats m hO 0 c).owesAt () t.succ = (dats m hO 0 c).owesAt () t.castSucc from rfl,
    after0, after1, after2]
  rw [show (dats m hO 0 c).Φ t.castSucc = iprop(Pipeline.ΦA spec0 c ∗ Pipeline.ΦT pre0 (tbl m) c) from rfl, PhiT0_eq]
  have w2 := wordOf_eq (F := F) (tbl m 2) (grid0.coords t)
  have w3 := wordOf_eq (F := F) (tbl m 3) (grid0.coords t)
  have w4 := wordOf_eq (F := F) (tbl m 4) (grid0.coords t)
  by_cases hl : Live m (it m hO t)
  · have h1 : k0_cond1 (wordOf (F := F) (tbl m 2) (grid0.coords t)) (wordOf (F := F) (tbl m 3) (grid0.coords t)) = 1#1 :=
      (cond1_iff _ _).mpr ((congrArg₂ (fun a b : BitVec 32 => IntOp.cmpi .slt a b) w2 w3).trans hl)
    rw [left3_live m hO c hG t hl]
    rcases first_cases m hG (it m hO t) with hf | hf
    · have h2 : k0_cond2 (wordOf (F := F) (tbl m 4) (grid0.coords t)) = 1#1 := (cond2_iff _).mpr (w4.trans hf)
      have h3 : ¬ k0_cond3 (wordOf (F := F) (tbl m 4) (grid0.coords t)) = 1#1 := fun h =>
        absurd (hf.symm.trans (w4.symm.trans ((cond3_iff _).mp h))) (by decide)
      rw [acc_first m hO c hG t hf]
      unfold part
      iintro ⟨⟨HΦ, ⟨HT0, HT1, HT2, HT3, HT4⟩⟩, Ho, ⟨%d0, H0⟩, ⟨%d1, H1⟩, ⟨%d2, H2⟩, ⟨%d3, H3⟩⟩
      iapply (run_first c (grid0.coords t) _ _ _ _ _ _ _ _ (iblk m hO c 0 t) (iblk m hO c 1 t) (iblk m hO c 2 t) (tbl m 0) (tbl m 1) (tbl m 2) (tbl m 3) (tbl m 4) h1 h2 h3 _)
      unfold ins
      isplitl [H0 H1 H2 HT0 HT1 HT2 HT3 HT4]
      · isplitl [H0]; · iexact H0
        isplitl [H1]; · iexact H1
        isplitl [H2]; · iexact H2
        isplitl [HT0]; · iexact HT0
        isplitl [HT1]; · iexact HT1
        isplitl [HT2]; · iexact HT2
        isplitl [HT3]; · iexact HT3
        iexact HT4
      isplitl [H3]; · iexists _; iexact H3
      iintro ⟨⟨H0, H1, H2, HT0, HT1, HT2, HT3, HT4⟩, H3⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
    · have h2 : ¬ k0_cond2 (wordOf (F := F) (tbl m 4) (grid0.coords t)) = 1#1 := fun h =>
        absurd (hf.symm.trans (w4.symm.trans ((cond2_iff _).mp h))) (by decide)
      have h3 : k0_cond3 (wordOf (F := F) (tbl m 4) (grid0.coords t)) = 1#1 := (cond3_iff _).mpr (w4.trans hf)
      have hz := pos_of_first m hO hG t hf
      obtain ⟨n, hn⟩ := t
      cases n with
      | zero => exact absurd rfl hz
      | succ n =>
      simp only [before3 m hO c hG _ n hn hf]
      rw [acc_later m hO c n hn hl hf]
      unfold part
      iintro ⟨⟨HΦ, ⟨HT0, HT1, HT2, HT3, HT4⟩⟩, Ho, ⟨%d0, H0⟩, ⟨%d1, H1⟩, ⟨%d2, H2⟩, ⟨%d3, H3⟩⟩
      iapply (run_later c (grid0.coords ⟨n + 1, hn⟩) _ _ _ _ _ _ _ _ (iblk m hO c 0 ⟨n + 1, hn⟩) (iblk m hO c 1 ⟨n + 1, hn⟩) (iblk m hO c 2 ⟨n + 1, hn⟩) (tbl m 0) (tbl m 1) (tbl m 2) (tbl m 3) (tbl m 4) h1 h2 h3 (acc m hO c n (Nat.lt_of_succ_lt hn)) _)
      unfold ins
      isplitl [H0 H1 H2 HT0 HT1 HT2 HT3 HT4]
      · isplitl [H0]; · iexact H0
        isplitl [H1]; · iexact H1
        isplitl [H2]; · iexact H2
        isplitl [HT0]; · iexact HT0
        isplitl [HT1]; · iexact HT1
        isplitl [HT2]; · iexact HT2
        isplitl [HT3]; · iexact HT3
        iexact HT4
      isplitl [H3]; · iexact H3
      iintro ⟨⟨H0, H1, H2, HT0, HT1, HT2, HT3, HT4⟩, H3⟩
      isplitl [HΦ HT0 HT1 HT2 HT3 HT4]
      · isplitl [HΦ]
        · iexact HΦ
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
  · have h1 : ¬ k0_cond1 (wordOf (F := F) (tbl m 2) (grid0.coords t)) (wordOf (F := F) (tbl m 3) (grid0.coords t)) = 1#1 := fun h =>
      hl ((congrArg₂ (fun a b : BitVec 32 => IntOp.cmpi .slt a b) w2 w3).symm.trans ((cond1_iff _ _).mp h))
    iintro ⟨⟨HΦ, ⟨HT0, HT1, HT2, HT3, HT4⟩⟩, Ho, ⟨%d0, H0⟩, ⟨%d1, H1⟩, ⟨%d2, H2⟩, ⟨%d3, H3⟩⟩
    iapply (run_none c (grid0.coords t) _ _ _ _ _ _ _ _ (iblk m hO c 0 t) (iblk m hO c 1 t) (iblk m hO c 2 t) (tbl m 0) (tbl m 1) (tbl m 2) (tbl m 3) (tbl m 4) h1 _)
    unfold ins
    isplitl [H0 H1 H2 HT0 HT1 HT2 HT3 HT4]
    · isplitl [H0]; · iexact H0
      isplitl [H1]; · iexact H1
      isplitl [H2]; · iexact H2
      isplitl [HT0]; · iexact HT0
      isplitl [HT1]; · iexact HT1
      isplitl [HT2]; · iexact HT2
      isplitl [HT3]; · iexact HT3
      iexact HT4
    iintro ⟨H0, H1, H2, HT0, HT1, HT2, HT3, HT4⟩
    isplitl [HΦ HT0 HT1 HT2 HT3 HT4]
    · isplitl [HΦ]
      · iexact HΦ
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iapply (left3_dead m hO c hG t hl d3)
    iexact H3

theorem row_eq (t : Fin (cfgM m hO).N) :
    defs₀ (F := F) .tc (cfgM m hO).body ((cfgM m hO).bodyArgs t ((cfgM m hO).slots t)) = bodyAt0 (adm m hO) t := by
  unfold defs₀; rw [Defs.onTc_tc]

/-- The body's triple, as the pipeline asks for it. -/
theorem body_obligation (hG : Good m) : BodyObligation (dats (F := F) m hO 0 c) (defs₀ (F := F)) Variants.none () Set.univ := fun t => by
  rw [bigSep_W0, bigSep_W0, row_eq m hO]
  exact triple_restated (sound_body m hO c hG t) rfl .rfl fun _ => .rfl

/-! ## The run -/

set_option backward.isDefEq.respectTransparency.types false in
/-- Every run ends with the windows' arrays at what the items wrote back, and all counters at zero. -/
theorem run_main (hG : Good m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c hG).loose) (hshare := fun c => (dats m hO 0 c).share_full fun _ => rfl)
    (howed := fun _ _ => rfl) (V := V m) (hmain := hmain m Variants.none) (hA := A_eq m hO) (hpf := V_pre m)
    (hΦ := fun _ _ => rfl)

/-- Every run ends with the arguments as they were, and all counters at zero. -/
theorem frame (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (ok m hG) (dats m (ok m hG)) (A_eq m (ok m hG)) ((θ_run defs _ _).mono (fun _ h => h.1) (run_main m ρ (ok m hG) hG)))
    ((θ_run defs _ _).mono (fun _ h => h.2) (run_main m ρ (ok m hG) hG))

end Cert.Kernel5Ideal.Moe

end
-- ==== Proof.Moe.Model.lean ====
/-
  The grouped expert matmul as a formula: a row's expert, applied to the row.
-/
module

public import Idealize.ShloMosaic.Lib.Pointwise

@[expose] public section

noncomputable section

open Idealize.ShloMosaic

namespace Cert.Moe

variable (x : (⟨2, ![49152, 2048]⟩ : Shape).Idx → EReal) (wg : (⟨4, ![4, 64, 2048, 768]⟩ : Shape).Idx → EReal)
  (wd : (⟨4, ![4, 64, 384, 2048]⟩ : Shape).Idx → EReal)

/-- The gate and up columns of expert `e` at row `p`. -/
def gateUp (p : Fin 49152) (e : Fin 64) (f : Fin 768) : EReal := ∑ k : Fin 2048, x (ix2 p k) * wg (ix4 0 e k f)

/-- The gated activation. -/
def act (p : Fin 49152) (e : Fin 64) (f : Fin 384) : EReal :=
  gateUp x wg p e ⟨f.val, by omega⟩ * Ideal.logistic (gateUp x wg p e ⟨f.val, by omega⟩) * gateUp x wg p e ⟨384 + f.val, by omega⟩

/-- Expert `e`'s output at row `p`. -/
def ffn (p : Fin 49152) (e : Fin 64) (d : Fin 2048) : EReal := ∑ f : Fin 384, act x wg p e f * wd (ix4 0 e f d)

/-- Each row's own expert's output. -/
def row (X : Fin 49152 → BitVec 32) (p : Fin 49152) (d : Fin 2048) : EReal :=
  if h : (X p).toNat < 64 then ffn x wg wd p ⟨(X p).toNat, h⟩ d else 0

/-- The result. -/
def result (X : Fin 49152 → BitVec 32) : (⟨2, ![49152, 2048]⟩ : Shape).Idx → EReal := fun i => row x wg wd X (i 0) (i 1)

end Cert.Moe

end
-- ==== Proof.Moe.Pay.lean ====
/-
  The grouped expert matmul, kernel side: what a work item computes at every row of its block.
-/
module

public import proofs.«01_k».proof.Proof.Moe.FrameIdeal
public import proofs.«01_k».proof.Proof.Moe.Model

@[expose] public section

noncomputable section

open Idealize.ShloMosaic Idealize.ShloMosaic.TcCoe Idealize.SL.Sem

namespace Cert.Moe.Ker
open Cert.Kernel5Ideal Cert.Kernel5Ideal.Gen Cert.Kernel5Ideal.Moe

variable (m : (ℓ : Loc nD τ sig) → Buf (Elt Ideal) ℓ) (hO : Ok m) (c : Dev nD)

/-- The launched arrays. -/
abbrev aX : (⟨2, ![49152, 2048]⟩ : Shape).Idx → EReal := m ((c : Thread nD τ).loc main_arg6)
abbrev aG : (⟨4, ![4, 64, 2048, 768]⟩ : Shape).Idx → EReal := m ((c : Thread nD τ).loc main_arg7)
abbrev aD : (⟨4, ![4, 64, 384, 2048]⟩ : Shape).Idx → EReal := m ((c : Thread nD τ).loc main_arg8)

theorem index0 (t : Fin (cfgM m hO).N) : ((cfgM m hO).win 0).index t = ![(tB m (it m hO t)).toNat, 0] := by
  have e : ![(wordOf (F := Ideal) (tbl m 0) (grid0.coords t)).toNat, 0] = ![(tB m (it m hO t)).toNat, 0] :=
    congrArg (fun z : BitVec 32 => ![z.toNat, 0]) (wordOf_eq (F := Ideal) (tbl m 0) _)
  exact e
theorem index1 (t : Fin (cfgM m hO).N) : ((cfgM m hO).win 1).index t = ![0, (tE m (it m hO t)).toNat, 0, 0] := by
  have e : ![0, (wordOf (F := Ideal) (tbl m 1) (grid0.coords t)).toNat, 0, 0] = ![0, (tE m (it m hO t)).toNat, 0, 0] :=
    congrArg (fun z : BitVec 32 => ![0, z.toNat, 0, 0]) (wordOf_eq (F := Ideal) (tbl m 1) _)
  exact e
theorem index2 (t : Fin (cfgM m hO).N) : ((cfgM m hO).win 2).index t = ![0, (tE m (it m hO t)).toNat, 0, 0] := by
  have e : ![0, (wordOf (F := Ideal) (tbl m 1) (grid0.coords t)).toNat, 0, 0] = ![0, (tE m (it m hO t)).toNat, 0, 0] :=
    congrArg (fun z : BitVec 32 => ![0, z.toNat, 0, 0]) (wordOf_eq (F := Ideal) (tbl m 1) _)
  exact e

/-- The rows of a point's block. -/
theorem blk_x (t : Fin (cfgM m hO).N) (r : Fin 256) (k : Fin 2048) (p : Fin 49152)
    (hp : p.val = 256 * (tB m (it m hO t)).toNat + r.val) : iblk m hO c 0 t (ix2 r k) = aX m c (ix2 p k) := by
  blk_ext [iblk, V, index0 m hO t]

/-- The point's expert's first weights. -/
theorem blk_g (t : Fin (cfgM m hO).N) (k : Fin 2048) (f : Fin 768) (e : Fin 64)
    (he : e.val = (tE m (it m hO t)).toNat) : iblk m hO c 1 t (ix4 0 0 k f) = aG m c (ix4 0 e k f) := by
  blk_ext [iblk, V, index1 m hO t]

/-- The point's expert's second weights. -/
theorem blk_d (t : Fin (cfgM m hO).N) (f : Fin 384) (d : Fin 2048) (e : Fin 64)
    (he : e.val = (tE m (it m hO t)).toNat) : iblk m hO c 2 t (ix4 0 0 f d) = aD m c (ix4 0 e f d) := by
  blk_ext [iblk, V, index2 m hO t]

set_option maxHeartbeats 1000000 in
theorem pay_at (v1 v3 v24 : BitVec 32) (v7 : Vec Ideal S256x2048 .f32) (v9 : Vec Ideal S1x1x2048x768 .f32)
    (v19 : Vec Ideal S1x1x384x2048 .f32) (r : Fin 256) (d : Fin 2048) :
    (k0_pay2 (F := Ideal) v1 v3 v7 v9 v19 v24 (ix2 r d) : EReal)
      = if (v1.toInt ≤ (v24 * 256#32 + BitVec.ofNat 32 r.val).toInt ∧ (v24 * 256#32 + BitVec.ofNat 32 r.val).toInt < v3.toInt) then
        ∑ f : Fin 384, ((∑ k : Fin 2048, v7 (ix2 r k) * v9 (ix4 0 0 k ⟨f.val, by omega⟩))
          * Ideal.logistic (∑ k : Fin 2048, v7 (ix2 r k) * v9 (ix4 0 0 k ⟨f.val, by omega⟩))
          * (∑ k : Fin 2048, v7 (ix2 r k) * v9 (ix4 0 0 k ⟨384 + f.val, by omega⟩))) * v19 (ix4 0 0 f d) else 0 := by
  pointwise [k0_pay2]
  have hb : IntOp.andi (IntOp.cmpi CmpIPredicate.sge (IntOp.addi (Scalar.muli v24 256#32) (BitVec.ofNat 32 r.val)) v1)
      (IntOp.cmpi CmpIPredicate.slt (IntOp.addi (Scalar.muli v24 256#32) (BitVec.ofNat 32 r.val)) v3) = 1#1
      ↔ (v1.toInt ≤ (v24 * 256#32 + BitVec.ofNat 32 r.val).toInt ∧ (v24 * 256#32 + BitVec.ofNat 32 r.val).toInt < v3.toInt) := by
    rw [andi_one, sge_int, slt_int]
    exact Iff.rfl
  exact if_congr hb rfl rfl

/-- The sum that a later item of a block stores. -/
theorem sum_at (v37 v48 : Vec Ideal S256x2048 .f32) (r : Fin 256) (d : Fin 2048) :
    (k0_pay1 (F := Ideal) v37 v48 (ix2 r d) : EReal) = v48 (ix2 r d) + v37 (ix2 r d) := by
  pointwise [k0_pay1]

/-- The word of a row's place. -/
theorem slot_int (b : BitVec 32) (r : Fin 256) (p : Fin 49152) (hp : p.val = 256 * b.toNat + r.val) :
    (b * 256#32 + BitVec.ofNat 32 r.val).toInt = p.val := by
  have hn : (b * 256#32 + BitVec.ofNat 32 r.val) = BitVec.ofNat 32 p.val := by
    apply BitVec.eq_of_toNat_eq
    have := p.isLt
    have := r.isLt
    have e : (BitVec.ofNat 32 p.val).toNat = p.val := by rw [BitVec.toNat_ofNat]; omega
    have e' : (BitVec.ofNat 32 r.val).toNat = r.val := by rw [BitVec.toNat_ofNat]; omega
    have e2 : (256#32).toNat = 256 := rfl
    rw [e, BitVec.toNat_add, BitVec.toNat_mul, e', e2]
    omega
  rw [hn]
  exact StableHlo.Predicate.toInt_ofNat_small _ (by omega)

open Classical in
/-- What an item computes at a row of its block: its expert's output at the rows it covers, else zero. -/
theorem pay_cov (b l h : Fin 255 → BitVec 32) (w : Fin 255) (v1 v3 v24 : BitVec 32) (h1 : v1 = l w) (h3 : v3 = h w) (hb : v24 = b w)
    (v7 : Vec Ideal S256x2048 .f32) (v9 : Vec Ideal S1x1x2048x768 .f32) (v19 : Vec Ideal S1x1x384x2048 .f32)
    (x : (⟨2, ![49152, 2048]⟩ : Shape).Idx → EReal) (wg : (⟨4, ![4, 64, 2048, 768]⟩ : Shape).Idx → EReal)
    (wd : (⟨4, ![4, 64, 384, 2048]⟩ : Shape).Idx → EReal) (r : Fin 256) (p : Fin 49152) (e : Fin 64) (d : Fin 2048)
    (hp : p.val = 256 * (b w).toNat + r.val) (hx : ∀ k, v7 (ix2 r k) = x (ix2 p k)) (hg : ∀ k f, v9 (ix4 0 0 k f) = wg (ix4 0 e k f))
    (hd : ∀ f, v19 (ix4 0 0 f d) = wd (ix4 0 e f d)) :
    (k0_pay2 (F := Ideal) v1 v3 v7 v9 v19 v24 (ix2 r d) : EReal) = if Cov b l h w p then ffn x wg wd p e d else 0 := by
  subst h1 h3 hb
  rw [pay_at, slot_int (b w) r p hp]
  have hs : ∀ f : Fin 768, (∑ k : Fin 2048, (v7 (ix2 r k) * v9 (ix4 0 0 k f) : EReal)) = gateUp x wg p e f := fun f =>
    Finset.sum_congr rfl fun k _ => congr (congrArg HMul.hMul (hx k)) (hg k f)
  have hv : (∑ f : Fin 384, ((∑ k : Fin 2048, v7 (ix2 r k) * v9 (ix4 0 0 k ⟨f.val, by omega⟩))
          * Ideal.logistic (∑ k : Fin 2048, v7 (ix2 r k) * v9 (ix4 0 0 k ⟨f.val, by omega⟩))
          * (∑ k : Fin 2048, v7 (ix2 r k) * v9 (ix4 0 0 k ⟨384 + f.val, by omega⟩))) * v19 (ix4 0 0 f d) : EReal) = ffn x wg wd p e d :=
    Finset.sum_congr rfl fun f _ => by
      rw [hs, hs, hd]
      rfl
  rw [hv]
  refine if_congr ⟨fun hh => ⟨by omega, hh⟩, fun hh => hh.2⟩ rfl rfl

open Classical in
theorem part_at (hG : Good m) (t : Fin (cfgM m hO).N) (r : Fin 256) (p : Fin 49152) (d : Fin 2048)
    (hp : p.val = 256 * (tB m (it m hO t)).toNat + r.val) :
    (part m hO c t (ix2 r d) : EReal)
      = if Cov (tB m) (tL m) (tH m) (it m hO t) p then row (aX m c) (aG m c) (aD m c) (tX m) p d else 0 := by
  have he : (tE m (it m hO t)).toNat < 64 := hG.expert_lt _
  refine (pay_cov (tB m) (tL m) (tH m) (it m hO t) _ _ _ (wordOf_eq (F := Ideal) (tbl m 2) _) (wordOf_eq (F := Ideal) (tbl m 3) _)
    (wordOf_eq (F := Ideal) (tbl m 0) _) _ _ _ (aX m c) (aG m c) (aD m c) r p ⟨(tE m (it m hO t)).toNat, he⟩ d hp
    (fun k => blk_x m hO c t r k p hp) (fun k f => blk_g m hO c t k f _ rfl) (fun f => blk_d m hO c t f d _ rfl)).trans ?_
  by_cases hc : Cov (tB m) (tL m) (tH m) (it m hO t) p
  · rw [if_pos hc, if_pos hc]
    have hr := hG.right _ _ hc
    unfold row
    rw [dif_pos (hr ▸ he)]
    exact congrArg (fun q => ffn (aX m c) (aG m c) (aD m c) p q d) (Fin.ext (congrArg BitVec.toNat hr))
  · rw [if_neg hc, if_neg hc]

end Cert.Moe.Ker

end
-- ==== Proof.Moe.Reference.lean ====
/-
  The reference of the grouped expert matmul: all experts' outputs at all rows, the row's own expert's kept.
-/
module

public import proofs.«01_k».proof.Proof.Moe.Model
public import proofs.«01_k».proof.Proof.Gen.Reference5Ideal.Run
public import Idealize.ShloMosaic.Lib.StableHlo.Predicate
public import Idealize.ShloMosaic.Lib.IdealHost

@[expose] public section

noncomputable section

open Idealize.ShloMosaic Idealize.ShloMosaic.TcCoe Idealize.SL.Sem

namespace Cert.Moe.Ref
open Cert.Reference5Ideal Cert.Reference5Ideal.Gen

/-- The first products of all experts, written with the reference's own operations. -/
def first (x : FVec Ideal S49152x2048 .f32) (wg : FVec Ideal S4x64x2048x768 .f32) : FVec Ideal S64x49152x768 .f32 :=
  transpose S64x49152x768 [0, 2, 1] (Host.dotGeneral (F := Ideal) (φ₁ := .f32) (φ₂ := .f32) dot_S64x2048x768_S49152x2048_S64x768x49152_1_1_02_0_n_n none (shapeCast _ (extractStridedSlice S1x64x2048x768 ![0, 0, 0, 0] wg slices_S4x64x2048x768_S1x64x2048x768_0_0_0_0) shapeCasts_S1x64x2048x768_S64x2048x768) x) transposes_S64x768x49152_S64x49152x768_0_2_1

theorem first_at (x : FVec Ideal S49152x2048 .f32) (wg : FVec Ideal S4x64x2048x768 .f32) (e : Fin 64) (p : Fin 49152) (f : Fin 768) :
    first x wg (ix3 e p f) = gateUp x wg p e f := by
  unfold first gateUp
  pointwise
  exact Finset.sum_congr rfl fun k _ => mul_comm _ _

/-- The gated activations. -/
def gated (y : FVec Ideal S64x49152x768 .f32) : FVec Ideal S64x49152x384 .f32 :=
  mulf (mulf (extractStridedSlice S64x49152x384 ![0, 0, 0] y slices_S64x49152x768_S64x49152x384_0_0_0) (Host.divf (broadcastInDim S64x49152x384 ![] bcast_S_S64x49152x384 (constant S_ .f32 0x3F800000#32)) (addf (broadcastInDim S64x49152x384 ![] bcast_S_S64x49152x384 (constant S_ .f32 0x3F800000#32)) (Host.exp (Host.negf (extractStridedSlice S64x49152x384 ![0, 0, 0] y slices_S64x49152x768_S64x49152x384_0_0_0)))))) (extractStridedSlice S64x49152x384 ![0, 0, 384] y slices_S64x49152x768_S64x49152x384_0_0_384)

theorem gated_at (y : FVec Ideal S64x49152x768 .f32) (e : Fin 64) (p : Fin 49152) (f : Fin 384) :
    (gated y (ix3 e p f) : EReal) = (y (ix3 e p ⟨f.val, by omega⟩) : EReal) * Ideal.logistic (y (ix3 e p ⟨f.val, by omega⟩)) * y (ix3 e p ⟨384 + f.val, by omega⟩) := by
  pointwise [gated, Ideal.logistic]

/-- All experts' outputs. -/
def outs (x : FVec Ideal S49152x2048 .f32) (wg : FVec Ideal S4x64x2048x768 .f32) (wd : FVec Ideal S4x64x384x2048 .f32) : FVec Ideal S64x49152x2048 .f32 :=
  Host.dotGeneral (F := Ideal) (φ₁ := .f32) (φ₂ := .f32) dot_S64x49152x384_S64x384x2048_S64x49152x2048_2_1_1_2_0_0 none (gated (first x wg)) (shapeCast _ (extractStridedSlice S1x64x384x2048 ![0, 0, 0, 0] wd slices_S4x64x384x2048_S1x64x384x2048_0_0_0_0) shapeCasts_S1x64x384x2048_S64x384x2048)

theorem outs_at (x : FVec Ideal S49152x2048 .f32) (wg : FVec Ideal S4x64x2048x768 .f32) (wd : FVec Ideal S4x64x384x2048 .f32)
    (e : Fin 64) (p : Fin 49152) (d : Fin 2048) : outs x wg wd (ix3 e p d) = ffn x wg wd p e d := by
  unfold outs ffn
  have hg : ∀ f : Fin 384, (gated (first x wg) (ix3 e p f) : EReal) = act x wg p e f := fun f => by
    rw [gated_at, first_at, first_at]
    rfl
  generalize gated (first x wg) = z at hg
  pointwise
  exact Finset.sum_congr rfl fun f _ => congrArg (fun q : EReal => q * wd (ix4 0 e f d)) (hg f)

/-- The choice of the row's expert. -/
def chosen (X : IVec S49152 32) (y : FVec Ideal S64x49152x2048 .f32) : FVec Ideal S49152x2048 .f32 :=
  Host.reduceAdd (select (broadcastInDim S64x49152x2048 ![0, 1, 2] bcast_S64x49152x1_S64x49152x2048_0_1_2 (broadcastInDim S64x49152x1 ![0, 1] bcast_S64x49152_S64x49152x1_0_1 (cmpi .eq (broadcastInDim S64x49152 ![0, 1] bcast_S1x49152_S64x49152_0_1 (broadcastInDim S1x49152 ![1] bcast_S49152_S1x49152_1 X)) (broadcastInDim S64x49152 ![0, 1] bcast_S64x1_S64x49152_0_1 (broadcastInDim S64x1 ![0] bcast_S64_S64x1_0 (iotaInDim S64 32 0)))))) y (broadcastInDim S64x49152x2048 ![] bcast_S_S64x49152x2048 (id (constant S_ .f32 0x00000000#32)))) (constant S_ .f32 0x00000000#32) reducesTo_S64x49152x2048_S49152x2048_d0 h_S_

theorem chosen_at (X : IVec S49152 32) (y : FVec Ideal S64x49152x2048 .f32) (p : Fin 49152) (d : Fin 2048) :
    (chosen X y (ix2 p d) : EReal) = if h : (X (ix1 p)).toNat < 64 then (y (ix3 ⟨(X (ix1 p)).toNat, h⟩ p d) : EReal) else 0 := by
  pointwise [chosen]
  have hb : ∀ e : Fin 64, IntOp.cmpi .eq (X (ix1 p)) (BitVec.ofNat 32 e.val) = 1#1 ↔ (X (ix1 p)).toNat = e.val := fun e => by
    rw [StableHlo.Predicate.cmpi_eq_iff]
    constructor
    · intro h; rw [h, BitVec.toNat_ofNat]; omega
    · intro h; rw [← h]; simp
  have hz : (id (constant (F := Ideal) S_ .f32 0x00000000#32) ix0 : EReal) = 0 := Ideal.ofBits_zero_f32
  rw [hz]
  by_cases h : (X (ix1 p)).toNat < 64
  · rw [dif_pos h, Finset.sum_eq_single (⟨(X (ix1 p)).toNat, h⟩ : Fin 64)]
    · exact if_pos ((hb ⟨(X (ix1 p)).toNat, h⟩).mpr rfl)
    · intro e _ hne; exact if_neg (fun hh => hne (Fin.ext ((hb e).mp hh).symm))
    · intro hh; exact absurd (Finset.mem_univ _) hh
  · rw [dif_neg h]
    refine Finset.sum_eq_zero fun e _ => ?_
    exact if_neg (fun hh => h (((hb e).mp hh) ▸ e.isLt))

/-- The reference's term. -/
theorem term_eq (X : IVec S49152 32) (x : FVec Ideal S49152x2048 .f32) (wg : FVec Ideal S4x64x2048x768 .f32) (wd : FVec Ideal S4x64x384x2048 .f32) :
    chosen X (outs x wg wd) = result x wg wd (fun p => X (ix1 p)) := by
  funext i
  rw [ValueIdx.eq_ix2 i]
  refine (chosen_at X _ (i 0) (i 1)).trans ?_
  show _ = row x wg wd (fun p => X (ix1 p)) (i 0) (i 1)
  unfold row
  split
  · exact outs_at ..
  · rfl

end Cert.Moe.Ref

end
-- ==== Proof.Moe.Value.lean ====
/-
  The grouped expert matmul: what the run leaves in the result, and that it is the reference's.
-/
module

public import proofs.«01_k».proof.Defs
public import proofs.«01_k».proof.Proof.Moe.Pay
public import proofs.«01_k».proof.Proof.Moe.Reference
public import proofs.«01_k».proof.Proof.Gen.Pre_items_ok
public import Idealize.ShloMosaic.Lib.Quiescent

@[expose] public section

noncomputable section

open Idealize.ShloMosaic Idealize.ShloMosaic.TcCoe Idealize.SL.Sem

namespace Cert.Moe

/-- Blocks do not come back. -/
theorem Items.le {b e l h f : Fin 255 → BitVec 32} {x : Fin 49152 → BitVec 32} (hG : Items b e l h f x) :
    ∀ (n : ℕ) (v w : Fin 255), w.val = v.val + n → (b v).toNat ≤ (b w).toNat := by
  intro n
  induction n with
  | zero => intro v w hw; rw [Fin.ext (a := w) (b := v) hw]
  | succ n ih =>
    intro v w hw
    have hlt := w.isLt
    exact (ih v ⟨v.val + n, by omega⟩ rfl).trans (hG.mono ⟨v.val + n, by omega⟩ w hw)

theorem Items.le' {b e l h f : Fin 255 → BitVec 32} {x : Fin 49152 → BitVec 32} (hG : Items b e l h f x)
    (v w : Fin 255) (hvw : v.val ≤ w.val) : (b v).toNat ≤ (b w).toNat := hG.le (w.val - v.val) v w (by omega)

/-- An item that opens its block is the first that covers any of the block's rows. -/
theorem Items.no_earlier {b e l h f : Fin 255 → BitVec 32} {x : Fin 49152 → BitVec 32} (hG : Items b e l h f x)
    (v w : Fin 255) (hf : f w = 1#32) (hvw : v.val < w.val) : (b v).toNat ≠ (b w).toNat := by
  have hlt := w.isLt
  have h1 := hG.first_succ ⟨w.val - 1, by omega⟩ w (by show w.val = w.val - 1 + 1; omega)
  have h2 := hG.le' v ⟨w.val - 1, by omega⟩ (by show v.val ≤ w.val - 1; omega)
  have h3 := hG.mono ⟨w.val - 1, by omega⟩ w (by show w.val = w.val - 1 + 1; omega)
  intro hh
  have h4 : b w = b ⟨w.val - 1, by omega⟩ := BitVec.eq_of_toNat_eq (by omega)
  rw [if_pos h4, hf] at h1
  exact absurd h1 (by decide)

/-- An item that covers a row has rows. -/
theorem Cov.live {b l h : Fin 255 → BitVec 32} {w : Fin 255} {p : Fin 49152} (hc : Cov b l h w p) :
    IntOp.cmpi .slt (l w) (h w) = 1#1 := slt_int.mpr (lt_of_le_of_lt hc.2.1 hc.2.2)

namespace Ker
open Cert.Kernel5Ideal Cert.Kernel5Ideal.Gen Cert.Kernel5Ideal.Moe

variable (m : (ℓ : Loc nD τ sig) → Buf (Elt Ideal) ℓ) (hO : Ok m) (c : Dev nD)

open Classical in
/-- After point `n` a row of its block holds its own expert's output if an item up to `n` covers it, else zero. -/
theorem acc_at (hG : Good m) : ∀ (n : ℕ) (hn : n < (cfgM m hO).N) (r : Fin 256) (p : Fin 49152) (d : Fin 2048),
    p.val = 256 * (tB m (it m hO ⟨n, hn⟩)).toNat + r.val →
    (acc m hO c n hn (ix2 r d) : EReal)
      = if ∃ v : Fin 255, v.val ≤ n ∧ Cov (tB m) (tL m) (tH m) v p then row (aX m c) (aG m c) (aD m c) (tX m) p d else 0 := by
  have key : ∀ (n : ℕ) (hn : n < (cfgM m hO).N) (r : Fin 256) (p : Fin 49152) (d : Fin 2048),
      p.val = 256 * (tB m (it m hO ⟨n, hn⟩)).toNat + r.val → tF m (it m hO ⟨n, hn⟩) = 1#32 →
      (acc m hO c n hn (ix2 r d) : EReal)
        = if ∃ v : Fin 255, v.val ≤ n ∧ Cov (tB m) (tL m) (tH m) v p then row (aX m c) (aG m c) (aD m c) (tX m) p d else 0 := by
    intro n hn r p d hp hf
    rw [acc_first m hO c hG ⟨n, hn⟩ hf, part_at m hO c hG ⟨n, hn⟩ r p d hp]
    refine if_congr ⟨fun hc => ⟨_, (it_val m hO ⟨n, hn⟩).le, hc⟩, ?_⟩ rfl rfl
    rintro ⟨v, hv, hc⟩
    have hw : (it m hO ⟨n, hn⟩).val = n := it_val m hO ⟨n, hn⟩
    rcases Nat.lt_or_ge v.val (it m hO ⟨n, hn⟩).val with hlt | hge
    · have h1 := hG.no_earlier v _ hf hlt
      have h2 := hc.1
      have := r.isLt
      exact absurd (by omega) h1
    · have : v = it m hO ⟨n, hn⟩ := Fin.ext (by omega)
      exact this ▸ hc
  intro n
  induction n with
  | zero =>
    intro hn r p d hp
    exact key 0 hn r p d hp (hG.first_zero _ (it_val m hO ⟨0, hn⟩))
  | succ n ih =>
    intro hn r p d hp
    rcases first_cases m hG (it m hO ⟨n + 1, hn⟩) with hf | hf
    · exact key (n + 1) hn r p d hp hf
    have hw : (it m hO ⟨n + 1, hn⟩).val = n + 1 := it_val m hO ⟨n + 1, hn⟩
    have hs := same_block m hO hG ⟨n, Nat.lt_of_succ_lt hn⟩ ⟨n + 1, hn⟩ rfl hf
    have hi := ih (Nat.lt_of_succ_lt hn) r p d (by rw [← hs]; exact hp)
    by_cases hl : Live m (it m hO ⟨n + 1, hn⟩)
    · rw [acc_later m hO c n hn hl hf, sum_at, hi, part_at m hO c hG ⟨n + 1, hn⟩ r p d hp]
      by_cases hc : Cov (tB m) (tL m) (tH m) (it m hO ⟨n + 1, hn⟩) p
      · rw [if_neg, if_pos hc, if_pos ⟨_, hw.le, hc⟩, zero_add]
        rintro ⟨v, hv, hc'⟩
        have := congrArg Fin.val (hG.once p _ _ hc hc')
        omega
      · rw [if_neg hc, add_zero]
        refine if_congr ⟨fun ⟨v, hv, hc'⟩ => ⟨v, by omega, hc'⟩, fun ⟨v, hv, hc'⟩ => ⟨v, ?_, hc'⟩⟩ rfl rfl
        by_contra hgt
        exact hc ((Fin.ext (by omega) : v = it m hO ⟨n + 1, hn⟩) ▸ hc')
    · rw [acc_dead m hO c n hn hl, hi]
      refine if_congr ⟨fun ⟨v, hv, hc'⟩ => ⟨v, by omega, hc'⟩, fun ⟨v, hv, hc'⟩ => ⟨v, ?_, hc'⟩⟩ rfl rfl
      by_contra hgt
      exact hl (((Fin.ext (by omega) : v = it m hO ⟨n + 1, hn⟩) ▸ hc').live)

theorem N_M : (cfgM m hO).N = 255 := rfl

/-- A point that writes its block back is the last of the block's. -/
theorem last_of_flush (hG : Good m) (t : Fin (cfgM m hO).N) (hf : ((cfgM m hO).win 3).flush t = true) (v : Fin 255)
    (hv : t.val < v.val) : (tB m v).toNat ≠ (tB m (it m hO t)).toNat := by
  intro hh
  have ht := it_val m hO t
  have hlt := v.isLt
  have hN : (cfgM m hO).N = 255 := rfl
  let t' : Fin (cfgM m hO).N := ⟨t.val + 1, by omega⟩
  have ht' : (it m hO t').val = t.val + 1 := it_val m hO t'
  have h1 := hG.le' (it m hO t) (it m hO t') (by omega)
  have h2 := hG.le' (it m hO t') v (by omega)
  have := flush3_false m hO t t' rfl (BitVec.eq_of_toNat_eq (by omega))
  rw [this] at hf
  exact absurd hf (by decide)

/-- Every block is written back. -/
theorem flushed (hG : Good m) (p : Fin 49152) :
    ∃ t : Fin (cfgM m hO).N, ((cfgM m hO).win 3).flush t = true ∧ (tB m (it m hO t)).toNat = p.val / 256 := by
  obtain ⟨v, hv⟩ := hG.covered p
  obtain ⟨w, hw, hmax⟩ := Finset.exists_max_image (Finset.univ.filter fun w : Fin 255 => (tB m w).toNat = p.val / 256) (fun w => w.val)
    ⟨v, Finset.mem_filter.mpr ⟨Finset.mem_univ _, hv.1⟩⟩
  have hwb := (Finset.mem_filter.mp hw).2
  have hN : (cfgM m hO).N = 255 := rfl
  let t : Fin (cfgM m hO).N := ⟨w.val, by rw [hN]; exact w.isLt⟩
  have ht : it m hO t = w := Fin.ext (it_val m hO t)
  refine ⟨t, ?_, by rw [ht]; exact hwb⟩
  unfold Pipeline.Window.flush
  refine Bool.and_eq_true_iff.mpr ⟨rfl, ?_⟩
  rw [Bool.or_eq_true, decide_eq_true_iff, decide_eq_true_iff]
  by_cases hl : t.val + 1 = (cfgM m hO).N
  · exact .inl hl
  · have hlt : t.val + 1 < (cfgM m hO).N := by have := t.isLt; omega
    refine .inr ⟨hlt, fun hh => ?_⟩
    have e := (index3 m hO ⟨t.val + 1, hlt⟩).symm.trans (hh.trans (index3 m hO t))
    have e0 : (tB m (it m hO ⟨t.val + 1, hlt⟩)).toNat = (tB m (it m hO t)).toNat := congrFun e 0
    rw [ht, hwb] at e0
    have := hmax (it m hO ⟨t.val + 1, hlt⟩) (Finset.mem_filter.mpr ⟨Finset.mem_univ _, e0⟩)
    have h2 := it_val m hO ⟨t.val + 1, hlt⟩
    have h3 : t.val = w.val := rfl
    simp only at h2
    omega

/-- Where a block's entries lie in the result. -/
theorem emb_at (t : Fin (cfgM m hO).N) (r : Fin 256) (d : Fin 2048) (p : Fin 49152)
    (hp : p.val = 256 * (tB m (it m hO t)).toNat + r.val) :
    (((cfgM m hO).win 3).blk t).view.emb (ix2 r d) = (ix2 p d : S49152x2048.Idx) := by
  blk_ext [index3 m hO t]

/-- The result array after the run. -/
theorem final_out (hG : Good m) : (dats m hO 0 c).arrAt 3 (cfgM m hO).N = result (aX m c) (aG m c) (aD m c) (tX m) := by
  refine (dats m hO 0 c).arrAt_eq_of_emb 3 _ (fun t hf y => ?_) (fun i => ?_)
  · have key : ∀ y : S256x2048.Idx, acc m hO c t.val t.isLt y
        = result (aX m c) (aG m c) (aD m c) (tX m) ((((cfgM m hO).win 3).blk t).view.emb y) := fun y => by
      have hb := hG.block_lt (it m hO t)
      have hr : (y 0).val < 256 := (y 0).isLt
      let p : Fin 49152 := ⟨256 * (tB m (it m hO t)).toNat + (y 0).val, by omega⟩
      rw [ValueIdx.eq_ix2 y]
      refine (acc_at m hO c hG t.val t.isLt (y 0) p (y 1) rfl).trans ?_
      obtain ⟨v, hv⟩ := hG.covered p
      have hpv : p.val = 256 * (tB m (it m hO t)).toNat + (y 0).val := rfl
      refine (if_pos ⟨v, ?_, hv⟩).trans
        (congrArg (result (aX m c) (aG m c) (aD m c) (tX m)) (emb_at m hO t (y 0) (y 1) p rfl)).symm
      by_contra hgt
      have h1 := last_of_flush m hO hG t hf v (by omega)
      have h2 := hv.1
      omega
    blk_simp
    rw [after3]
    exact key y
  · have hi : ∀ i : S49152x2048.Idx, ∃ t : Fin (cfgM m hO).N, ((cfgM m hO).win 3).flush t = true
        ∧ i ∈ (((cfgM m hO).win 3).blk t).view.set := fun i => by
      obtain ⟨t, hf, hb⟩ := flushed m hO hG (i 0)
      have hlt : (i 0).val < 49152 := (i 0).isLt
      refine ⟨t, hf, ?_⟩
      have e := emb_at m hO t ⟨(i 0).val % 256, by omega⟩ (i 1) (i 0) (by show (i 0).val = _ + (i 0).val % 256; omega)
      exact Eq.subst (motive := fun z => z ∈ (((cfgM m hO).win 3).blk t).view.set) (e.trans (ValueIdx.eq_ix2 i).symm)
        (View.emb_mem_set _ _)
    exact hi i

/-- The precondition gives what the run needs. -/
theorem good (hp : Cert.Pre_Kernel5Ideal m) : Good m := items_of _ _ _ _ _ _ _ _ _ (hp 0)

theorem frame : Cert.quiescent_Kernel5Ideal := fun m ρ hp => Cert.Kernel5Ideal.Moe.frame m ρ (good m hp)

end Ker

namespace Ref
open Cert.Reference5Ideal Cert.Reference5Ideal.Gen

theorem frame : Cert.quiescent_Reference5Ideal := fun m ρ _ =>
  (θ_run (defs (F := Ideal)) _ _).mono (fun r h => ⟨fun c => (h c).2, sem_eq_zero_of_no_sems (by decide) r.2⟩)
    (Cert.Reference5Ideal.Value.run m ρ)

end Ref

/-- The kernel and the reference end with the same array. -/
theorem algebraic : Cert.algebraic_Kernel5Ideal_Reference5Ideal := by
  intro m ρ m' ρ' hp hagree
  have hG := Ker.good m hp
  have hO := Cert.Kernel5Ideal.Moe.ok m hG
  refine ⟨fun c => result (Ker.aX m c) (Ker.aG m c) (Ker.aD m c) (Cert.Kernel5Ideal.Moe.tX m), ?_, ?_⟩
  · refine (θ_run (Cert.Kernel5Ideal.defs (F := Ideal)) _ _).mono (fun r h c => ?_)
      (θ_run_and (Cert.Kernel5Ideal.Moe.run_main m ρ hO hG) (Cert.Kernel5Ideal.Moe.frame m ρ hG))
    exact ⟨((h.1.1 c).1 3).trans (Ker.final_out m hO c hG), h.2.1 c⟩
  · refine (θ_run (Cert.Reference5Ideal.defs (F := Ideal)) _ _).mono (fun r h c => ?_) (Cert.Reference5Ideal.Value.run m' ρ')
    obtain ⟨-, -, -, -, -, a5, a6, a7, a8⟩ := hagree c
    refine ⟨(h c).1.trans ?_, (h c).2⟩
    rw [a5, a6, a7, a8]
    obtain rfl : c = 0 := Subsingleton.elim _ _
    exact Ref.term_eq ..

end Cert.Moe

end
-- ==== Proof.Combine.RowsIdeal.lean ====
/-
  The combine of the expert outputs: the rows a block gathers, one transfer each.
-/
module

public import proofs.«01_k».proof.Proof.Gen.Kernel6Ideal.Frame
public import proofs.«01_k».proof.Proof.Gen.Kernel6Ideal.Skeleton
public import Idealize.ShloMosaic.Lib.Pipeline.Frame
public import Idealize.ShloMosaic.Lib.Batch
public import Idealize.ShloMosaic.Lib.Ring
public import Idealize.ShloMosaic.Lib.Tactic
public import Idealize.ShloMosaic.Lib.Transfers

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The gathered rows' buffer, and the expert outputs left where they are. -/
abbrev scM : Memref sig .tc .vmem S6x256x2048 .f32 := Memref.whole cc0_scratch0
abbrev hbM : Memref sig .tc .hbm S49152x2048 .f32 := Memref.whole main_arg4

/-- A row of the buffer. -/
def dstM (off : Fin 3 → ℕ) (h : ∀ a, off a + S1x1x2048.size a ≤ S6x256x2048.size a) : Memref sig .tc .vmem S1x2048 .f32 :=
  (scM.slice (Rect.unit (s := S6x256x2048) off S1x1x2048.size h) (fun _ => rfl)).squeeze S1x2048 squeezes_S1x1x2048_S1x2048
/-- A row of the expert outputs. -/
def srcM (off : Fin 2 → ℕ) (h : ∀ a, off a + S1x2048.size a ≤ S49152x2048.size a) : Memref sig .tc .hbm S1x2048 .f32 :=
  hbM.slice (Rect.unit (s := S49152x2048) off S1x2048.size h) (fun _ => rfl)

/-- Transfer `j` fills row `j / 6` of expert place `j % 6`. -/
def doff (j : ℕ) : Fin 3 → ℕ := ![j % 6, j / 6, 0]
theorem doff_inb (j : Fin 1536) : ∀ a, doff j a + S1x1x2048.size a ≤ S6x256x2048.size a := by
  have := j.isLt; intro a; fin_cases a
  · show j.val % 6 + 1 ≤ 6; omega
  · show j.val / 6 + 1 ≤ 256; omega
  · show 0 + 2048 ≤ 2048; omega

/-- The word that names transfer `j`'s row. -/
def word (x0 : Vec F S1x8x256 .i32) (k : Fin 6) (t : Fin 256) : BitVec 32 :=
  x0 (fun a => ⟨(![0, k.val, t.val] : Fin 3 → ℕ) a, by
    have := k.isLt; have := t.isLt; fin_cases a
    · show 0 < 1; omega
    · show k.val < 8; omega
    · show t.val < 256; omega⟩)
/-- The row it names. -/
def srow (x0 : Vec F S1x8x256 .i32) (k : Fin 6) (t : Fin 256) : ℕ := min (word x0 k t).toNat 49151
abbrev kOf (j : Fin 1536) : Fin 6 := ⟨j.val % 6, by omega⟩
abbrev tOf (j : Fin 1536) : Fin 256 := ⟨j.val / 6, by have := j.isLt; omega⟩
def soff (x0 : Vec F S1x8x256 .i32) (j : Fin 1536) : Fin 2 → ℕ := ![srow x0 (kOf j) (tOf j), 0]
theorem soff_inb (x0 : Vec F S1x8x256 .i32) (j : Fin 1536) : ∀ a, soff x0 j a + S1x2048.size a ≤ S49152x2048.size a := by
  intro a; fin_cases a
  · show min _ 49151 + 1 ≤ 49152; omega
  · show 0 + 2048 ≤ 2048; omega

abbrev dM (j : Fin 1536) := dstM (doff j) (doff_inb j)
abbrev sM (x0 : Vec F S1x8x256 .i32) (j : Fin 1536) := srcM (soff x0 j) (soff_inb x0 j)

/-- What the buffer holds when every row has arrived. -/
def gath (x0 : Vec F S1x8x256 .i32) (ys : Vec F S49152x2048 .f32) : Vec F S6x256x2048 .f32 := fun y =>
  ys (fun a => ⟨(![srow x0 (y 0) (y 1), (y 2).val] : Fin 2 → ℕ) a, by
    have h2 : (y 2).val < 2048 := (y 2).isLt
    fin_cases a
    · show min _ 49151 < 49152; omega
    · exact h2⟩)

theorem dset (j : Fin 1536) : (dM j).view.set = (Rect.unit (s := S6x256x2048) (doff j) S1x1x2048.size (doff_inb j)).set := by
  unfold dM dstM; exact (View.set_reshape _ _).trans (View.set_slice_whole _ _)

abbrev bset (j : Fin 1536) : Finset S6x256x2048.Idx := (Rect.unit (s := S6x256x2048) (doff j) S1x1x2048.size (doff_inb j)).set
theorem mem_bset (j : Fin 1536) (y : S6x256x2048.Idx) : y ∈ bset j ↔ (y 0).val = j.val % 6 ∧ (y 1).val = j.val / 6 := by
  rw [Rect.mem_set_unit]
  have h2 : (y 2).val < 2048 := (y 2).isLt
  constructor
  · intro H
    have a0 : j.val % 6 ≤ (y 0).val ∧ (y 0).val < j.val % 6 + 1 := H 0
    have a1 : j.val / 6 ≤ (y 1).val ∧ (y 1).val < j.val / 6 + 1 := H 1
    omega
  · rintro ⟨H0, H1⟩ a; fin_cases a
    · show j.val % 6 ≤ (y 0).val ∧ (y 0).val < j.val % 6 + 1; omega
    · show j.val / 6 ≤ (y 1).val ∧ (y 1).val < j.val / 6 + 1; omega
    · show 0 ≤ (y 2).val ∧ (y 2).val < 0 + 2048; omega
theorem bset_disjoint : ∀ b b' : Fin 1536, b ≠ b' → Disjoint (bset b) (bset b') := fun b b' hne => by
  rw [Finset.disjoint_left]; intro y hy hy'; rw [mem_bset] at hy hy'; exact hne (Fin.ext (by omega))
theorem bset_cover : Finset.univ.biUnion bset = Finset.univ := by
  ext y; simp only [Finset.mem_biUnion, Finset.mem_univ, true_and, iff_true]
  have h0 : (y 0).val < 6 := (y 0).isLt
  have h1 : (y 1).val < 256 := (y 1).isLt
  exact ⟨⟨6 * (y 1).val + (y 0).val, by omega⟩, (mem_bset _ _).mpr ⟨by dsimp only; omega, by dsimp only; omega⟩⟩

/-- What a transfer leaves of its row is the buffer's final contents there. -/
theorem landed (x0 : Vec F S1x8x256 .i32) (ys : Vec F S49152x2048 .f32) (j : Fin 1536) (fd : Vec F S6x256x2048 .f32)
    (y : S6x256x2048.Idx) (hy : y ∈ (dM j).view.set) :
    (dM j).view.write (Elt F) fd ((sM x0 j).view.read (Elt F) ys) Finset.univ y = gath x0 ys y := by
  obtain ⟨x, -, rfl⟩ := Finset.mem_map.mp hy
  refine ((dM j).view.write_emb_of_mem fd _ (Finset.mem_univ x)).trans ?_
  have hx0 : (x 0).val = 0 := by have h : (x 0).val < 1 := (x 0).isLt; omega
  have e : ∀ x : S1x2048.Idx, (dM j).view.emb x = (Rect.unit (s := S6x256x2048) (doff j) S1x1x2048.size (doff_inb j)).emb
      (Fin.cons ⟨0, Nat.one_pos⟩ x) := fun x => congrArg (Rect.unit (s := S6x256x2048) (doff j) S1x1x2048.size (doff_inb j)).emb (Shape.reshapeEquiv_cons_one (n := 2) (d := ![1, 2048]) _ x)
  have key : ∀ p : S6x256x2048.Idx, p = (Rect.unit (s := S6x256x2048) (doff j) S1x1x2048.size (doff_inb j)).emb
      (Fin.cons ⟨0, Nat.one_pos⟩ x) → ys ((sM x0 j).view.emb x) = gath x0 ys p := by
    rintro p hp
    have h0 : (p 0).val = j.val % 6 := by rw [hp]; show j.val % 6 + 1 * 0 = j.val % 6; omega
    have h1 : (p 1).val = j.val / 6 := by rw [hp]; show j.val / 6 + 1 * (x 0).val = j.val / 6; omega
    have h2 : (p 2).val = (x 1).val := by rw [hp]; show 0 + 1 * (x 1).val = (x 1).val; omega
    unfold gath
    refine congrArg ys (funext fun a => Fin.ext ?_)
    have hk : (kOf j) = (p 0 : Fin 6) := Fin.ext h0.symm
    have ht : (tOf j) = (p 1 : Fin 256) := Fin.ext h1.symm
    fin_cases a
    · show srow x0 (kOf j) (tOf j) + 1 * (x 0).val = srow x0 (p 0) (p 1)
      rw [hk, ht, hx0]; omega
    · show 0 + 1 * (x 1).val = (p 2).val
      omega
  exact key _ (e x)

end Cert.Kernel6Ideal.Combine

end
-- ==== Proof.Combine.IssueIdeal.lean ====
/-
  The combine of the expert outputs: one row's transfer, as a step of the batch.
-/
module

public import proofs.«01_k».proof.Proof.Combine.RowsIdeal

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev dsem : DmaSem sig := (cc0_scratch1).sem

/-- One row's credit. -/
def NN : ℕ := (dM 0).view.amount (.dma dsem)
theorem credit (j : Fin 1536) : (dM j).view.amount (.dma dsem) = NN := rfl
theorem NN_pos : 0 < NN := by unfold NN; decide +kernel

variable (c : Dev nD) (x0 : Vec F S1x8x256 .i32) (ys : Vec F S49152x2048 .f32)

/-- A row of the buffer at contents `g`, and a row of the outputs under its transfer's token. -/
abbrev dPt (j : Fin 1536) (g : Vec F S6x256x2048 .f32) : sProp 𝕄 :=
  (dM j).view.loc (c : Thread nD τ) ↦[(dM j).view.set]{fullShare} g
abbrev sPt (j : Fin 1536) : sProp 𝕄 :=
  (sM x0 j).view.loc (c : Thread nD τ) ↦[(sM x0 j).view.set]{Transfers.shareTokN fullShare j.val} ys
abbrev pend (j : Fin 1536) : sProp 𝕄 := iprop((∃ g, dPt c j g) ∗ sPt c x0 ys j)
abbrev deliv (j : Fin 1536) : sProp 𝕄 := iprop(dPt c j (gath x0 ys) ∗ sPt c x0 ys j)

abbrev batch (j u : ℕ) : sProp 𝕄 :=
  Transfers.Batch (countersEmb (U := Pipeline.UD sig nD τ)) (c : Thread nD τ) (.dma dsem) () NN (deliv c x0 ys) j u

/-- After `j` transfers' issues. -/
def issued (j : ℕ) : sProp 𝕄 := iprop(batch c x0 ys j 0 ∗ bigSep (Ring.rangeSet 1536 j 1536) (pend c x0 ys))

theorem issue (j : ℕ) (hj : j < 1536) (o2 : Fin 3 → ℕ) (h2 : ∀ a, o2 a + S1x1x2048.size a ≤ S6x256x2048.size a)
    (o3 : Fin 2 → ℕ) (h3 : ∀ a, o3 a + S1x2048.size a ≤ S49152x2048.size a)
    (e2 : o2 = doff j) (e3 : o3 = soff x0 ⟨j, hj⟩) {α : Type}
    {hs hd ht} {k : PUnit → Prog (TpuEff nD τ sig (Elt F) Λ₀ .tc) α} {Q : α → sProp 𝕄} :
    issued c x0 ys j ⊢ iprop((issued c x0 ys (j + 1) -∗ wp frame (wpE (defs₀ (F := F)) Variants.none c none) Set.univ (k ⟨⟩) Q)
      -∗ wp frame (wpE (defs₀ (F := F)) Variants.none c none) Set.univ
        (.op (.enqueueDma (hbM.slice (Rect.unit (s := S49152x2048) o3 S1x2048.size h3) (fun _ => rfl))
          (.here ((scM.slice (Rect.unit (s := S6x256x2048) o2 S1x1x2048.size h2) (fun _ => rfl)).squeeze S1x2048 squeezes_S1x1x2048_S1x2048))
          (.dma dsem) hs hd ht) k) Q) := by
  subst e2 e3
  unfold issued
  rw [Ring.bigSep_rangeSet_head (Φ := pend c x0 ys) (by omega) hj]
  iintro ⟨HB, ⟨⟨%g, Hd⟩, Hs⟩, Hr⟩ Hk
  have hD : iprop(((dM ⟨j, hj⟩).view.loc (c : Thread nD τ) ↦[(dM ⟨j, hj⟩).view.set]{fullShare}
        ((dM ⟨j, hj⟩).view.write (Elt F) g ((sM x0 ⟨j, hj⟩).view.read (Elt F) ys) Finset.univ)) ∗ sPt c x0 ys ⟨j, hj⟩)
      ⊢ (deliv c x0 ys ⟨j, hj⟩ : sProp 𝕄) := by
    refine Entails.of_eq (congrArg (fun P => iprop(P ∗ sPt c x0 ys ⟨j, hj⟩)) ?_)
    exact pointsTo_congr (landed x0 ys ⟨j, hj⟩ g)
  iapply (Transfers.wp_dmaBatch (countersEmb (U := Pipeline.UD sig nD τ)) Variants.none (c : Thread nD τ) none
    (src := sM x0 ⟨j, hj⟩) (via := .same) (sm := .dma dsem) (hsrc := hs) (hdst := hd) (hsem := ht) (k := k) (Q := Q) (dst := dM ⟨j, hj⟩) (D := deliv c x0 ys) (j := j) (u := 0) (q := Transfers.shareTokN fullShare j) (fs := ys) (fd := g)
    () NN (credit ⟨j, hj⟩) subset_rfl hj (Nat.zero_le _) hD) $$ [Hs Hd HB]
  · isplitl [Hs]; · iexact Hs
    isplitl [Hd]; · iexact Hd
    iexact HB
  iintro HB
  iapply Hk
  isplitl [HB]; · iexact HB
  iexact Hr

end Cert.Kernel6Ideal.Combine

end
-- ==== Proof.Combine.IssueLoopIdeal.lean ====
/-
  The combining kernel's loop that starts its transfers: a trip starts a row for each of the six places.
-/
module

public import proofs.«01_k».proof.Proof.Combine.IssueIdeal

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 256 := by decide
theorem off1 : ∀ k : Fin k0_t1_loop.trips, k0_off1 k = ![0, 0, k.val] := by decide +kernel
theorem off2 : ∀ k : Fin k0_t1_loop.trips, k0_off2 k = ![0, k.val, 0] := by decide +kernel
theorem off4 : ∀ k : Fin k0_t1_loop.trips, k0_off4 k = ![0, 1, k.val] := by decide +kernel
theorem off5 : ∀ k : Fin k0_t1_loop.trips, k0_off5 k = ![1, k.val, 0] := by decide +kernel
theorem off7 : ∀ k : Fin k0_t1_loop.trips, k0_off7 k = ![0, 2, k.val] := by decide +kernel
theorem off8 : ∀ k : Fin k0_t1_loop.trips, k0_off8 k = ![2, k.val, 0] := by decide +kernel
theorem off10 : ∀ k : Fin k0_t1_loop.trips, k0_off10 k = ![0, 3, k.val] := by decide +kernel
theorem off11 : ∀ k : Fin k0_t1_loop.trips, k0_off11 k = ![3, k.val, 0] := by decide +kernel
theorem off13 : ∀ k : Fin k0_t1_loop.trips, k0_off13 k = ![0, 4, k.val] := by decide +kernel
theorem off14 : ∀ k : Fin k0_t1_loop.trips, k0_off14 k = ![4, k.val, 0] := by decide +kernel
theorem off16 : ∀ k : Fin k0_t1_loop.trips, k0_off16 k = ![0, 5, k.val] := by decide +kernel
theorem off17 : ∀ k : Fin k0_t1_loop.trips, k0_off17 k = ![5, k.val, 0] := by decide +kernel

theorem doff_of (n k : ℕ) (hn : n < 6) : (![n, k, 0] : Fin 3 → ℕ) = doff (6 * k + n) := by
  unfold doff
  rw [show (6 * k + n) % 6 = n by omega, show (6 * k + n) / 6 = k by omega]

theorem soff_of (x0 : Vec F S1x8x256 .i32) (hr : ∀ k t, (word x0 k t).toNat < 49152) (n k : ℕ) (hn : n < 6) (hk : k < 256) (v : BitVec 32)
    (hv : v = word x0 ⟨n, hn⟩ ⟨k, hk⟩) : (![v.toNat, 0] : Fin 2 → ℕ) = soff x0 ⟨6 * k + n, by omega⟩ := by
  subst hv
  unfold soff srow
  have h1 : kOf ⟨6 * k + n, by omega⟩ = ⟨n, hn⟩ := Fin.ext (by show (6 * k + n) % 6 = n; omega)
  have h2 : tOf ⟨6 * k + n, by omega⟩ = ⟨k, hk⟩ := Fin.ext (by show (6 * k + n) / 6 = k; omega)
  have h3 := hr ⟨n, hn⟩ ⟨k, hk⟩
  rw [h1, h2, Nat.min_eq_left (by omega)]

theorem chk_of (v : BitVec 32) (h : v.toNat < 49152) : ∀ a, (![v.toNat, 0] : Fin 2 → ℕ) a + S1x2048.size a ≤ S49152x2048.size a := by
  intro a; fin_cases a
  · show v.toNat + 1 ≤ 49152; omega
  · show 0 + 2048 ≤ 2048; omega

theorem rd_eq (arg2 : Memref sig .tc .smem S1x8x256 .i32) (harg2 : arg2.IsWhole) (x0 : Vec F S1x8x256 .i32) (n k : ℕ) (hn : n < 6) (hk : k < 256)
    (o : Fin 3 → ℕ) (h : ∀ a, o a + S1x1x1.size a ≤ S1x8x256.size a) (p) (e : o = ![0, n, k]) :
    View.readAt (Elt F) arg2.view (Rect.unit (s := S1x8x256) o S1x1x1.size h).toLoadRect (harg2.unread x0) (Shape.Idx.first p)
      = word x0 ⟨n, hn⟩ ⟨k, hk⟩ := by
  subst e
  rw [View.readAt_eq_ld, harg2.read_unread]
  refine congrArg x0 (funext fun a => Fin.ext ?_)
  fin_cases a
  · show 0 + 1 * _ = 0; simp [Shape.Idx.first]
  · show n + 1 * _ = n; simp [Shape.Idx.first]
  · show k + 1 * _ = k; simp [Shape.Idx.first]

variable (c : Dev nD) (i : grid0.Coords) (arg2 : Memref sig .tc .smem S1x8x256 .i32) (harg2 : arg2.IsWhole) (arg3 : Memref sig .tc .vmem S8x256 .f32) (harg3 : arg3.IsWhole) (arg4 : Memref sig .tc .vmem S1x256x2048 .f32) (harg4 : arg4.IsWhole) (arg5 : Memref sig .tc .vmem S1x256x2048 .f32) (harg5 : arg5.IsWhole) (arg7 : Memref sig .tc .vmem S2048x768 .f32) (harg7 : arg7.IsWhole) (arg8 : Memref sig .tc .vmem S384x2048 .f32) (harg8 : arg8.IsWhole) (arg9 : Memref sig .tc .vmem S1x2048 .f32) (harg9 : arg9.IsWhole) (arg10 : Memref sig .tc .vmem S1x1x2048 .f32) (harg10 : arg10.IsWhole) (arg11 : Memref sig .tc .vmem S1x256x2048 .f32) (harg11 : arg11.IsWhole)
  (x0 : Vec F S1x8x256 .i32) (ys : Vec F S49152x2048 .f32)

abbrev wPt : sProp 𝕄 := arg2.view.loc (c : Thread nD τ) ↦[arg2.view.set]{fullShare} harg2.unread x0

/-- Before trip `k`. -/
def issueAt (k : ℕ) (_ : Unit) : sProp 𝕄 := iprop(wPt c arg2 harg2 x0 ∗ issued c x0 ys (6 * k))

set_option maxHeartbeats 4000000 in
theorem issue_step (hr : ∀ k t, (word x0 k t).toNat < 49152) (k : Fin k0_t1_loop.trips) (acc : Unit) :
    issueAt c arg2 harg2 x0 ys k.val acc ⊢ wp frame (wpE (defs₀ (F := F)) Variants.none c none) Set.univ
      (k0_t1_body i arg2 harg2 arg3 harg3 arg4 harg4 arg5 harg5 hbM (Memref.isWhole_whole _) arg7 harg7 arg8 harg8 arg9 harg9 arg10 harg10 arg11 harg11 scM (Memref.isWhole_whole _) cc0_scratch1 k acc)
      (issueAt c arg2 harg2 x0 ys (k.val + 1)) := by
  unfold issueAt
  unfold k0_t1_body
  simp only [k0_part1_eq_skeleton]; unfold k0_part1_skel
  iintro ⟨Hw, HI⟩
  have hk : k.val < 256 := lt_of_lt_of_eq k.isLt trips1
  sl_exec (disch := exact chk_of _ ((congrArg BitVec.toNat (rd_eq arg2 harg2 x0 0 k.val (by omega) hk _ _ _ (off1 k))).trans_lt (hr _ _)))
  iapply (issue c x0 ys (6 * k.val + 0) (by omega) _ _ _ _ ((off2 k).trans (doff_of 0 k.val (by omega))) (soff_of x0 hr 0 k.val (by omega) hk _ (rd_eq arg2 harg2 x0 0 k.val (by omega) hk _ _ _ (off1 k)))) $$ HI
  iintro HI
  sl_exec (disch := exact chk_of _ ((congrArg BitVec.toNat (rd_eq arg2 harg2 x0 1 k.val (by omega) hk _ _ _ (off4 k))).trans_lt (hr _ _)))
  iapply (issue c x0 ys (6 * k.val + 1) (by omega) _ _ _ _ ((off5 k).trans (doff_of 1 k.val (by omega))) (soff_of x0 hr 1 k.val (by omega) hk _ (rd_eq arg2 harg2 x0 1 k.val (by omega) hk _ _ _ (off4 k)))) $$ HI
  iintro HI
  sl_exec (disch := exact chk_of _ ((congrArg BitVec.toNat (rd_eq arg2 harg2 x0 2 k.val (by omega) hk _ _ _ (off7 k))).trans_lt (hr _ _)))
  iapply (issue c x0 ys (6 * k.val + 2) (by omega) _ _ _ _ ((off8 k).trans (doff_of 2 k.val (by omega))) (soff_of x0 hr 2 k.val (by omega) hk _ (rd_eq arg2 harg2 x0 2 k.val (by omega) hk _ _ _ (off7 k)))) $$ HI
  iintro HI
  sl_exec (disch := exact chk_of _ ((congrArg BitVec.toNat (rd_eq arg2 harg2 x0 3 k.val (by omega) hk _ _ _ (off10 k))).trans_lt (hr _ _)))
  iapply (issue c x0 ys (6 * k.val + 3) (by omega) _ _ _ _ ((off11 k).trans (doff_of 3 k.val (by omega))) (soff_of x0 hr 3 k.val (by omega) hk _ (rd_eq arg2 harg2 x0 3 k.val (by omega) hk _ _ _ (off10 k)))) $$ HI
  iintro HI
  sl_exec (disch := exact chk_of _ ((congrArg BitVec.toNat (rd_eq arg2 harg2 x0 4 k.val (by omega) hk _ _ _ (off13 k))).trans_lt (hr _ _)))
  iapply (issue c x0 ys (6 * k.val + 4) (by omega) _ _ _ _ ((off14 k).trans (doff_of 4 k.val (by omega))) (soff_of x0 hr 4 k.val (by omega) hk _ (rd_eq arg2 harg2 x0 4 k.val (by omega) hk _ _ _ (off13 k)))) $$ HI
  iintro HI
  sl_exec (disch := exact chk_of _ ((congrArg BitVec.toNat (rd_eq arg2 harg2 x0 5 k.val (by omega) hk _ _ _ (off16 k))).trans_lt (hr _ _)))
  iapply (issue c x0 ys (6 * k.val + 5) (by omega) _ _ _ _ ((off17 k).trans (doff_of 5 k.val (by omega))) (soff_of x0 hr 5 k.val (by omega) hk _ (rd_eq arg2 harg2 x0 5 k.val (by omega) hk _ _ _ (off16 k)))) $$ HI
  iintro HI
  sl_exec
  sl_step
  isplitl [Hw]; · iexact Hw
  iexact HI

end Cert.Kernel6Ideal.Combine

end
-- ==== Proof.Combine.DrainIdeal.lean ====
/-
  The combining kernel's loop that waits for its transfers.
-/
module

public import proofs.«01_k».proof.Proof.Combine.IssueLoopIdeal

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (x0 : Vec F S1x8x256 .i32) (ys : Vec F S49152x2048 .f32)

theorem creditD (o2 : Fin 3 → ℕ) (h2 : ∀ a, o2 a + S1x1x2048.size a ≤ S6x256x2048.size a) : (dstM o2 h2).view.dmaCredit = NN := rfl

/-- All transfers started and `q` waited for; and all waited for. -/
def drained (q : ℕ) : sProp 𝕄 := iprop(batch c x0 ys 1536 (q * NN) ∗ ∃ W, owes (c : Thread nD τ) 0 W)
def done : sProp 𝕄 := iprop(bigSep Finset.univ (deliv c x0 ys) ∗ semVal ((c : Thread nD τ), SemLoc.dma dsem) 0 ∗ ∃ W, owes (c : Thread nD τ) 0 W)

theorem wait1 (q : ℕ) (hq : q + 1 < 1536) (o2 : Fin 3 → ℕ) (h2 : ∀ a, o2 a + S1x1x2048.size a ≤ S6x256x2048.size a)
    (o3 : Fin 2 → ℕ) (h3 : ∀ a, o3 a + S1x2048.size a ≤ S49152x2048.size a) {α : Type}
    {hs hd} {k : PUnit → Prog (TpuEff nD τ sig (Elt F) Λ₀ .tc) α} {Q : α → sProp 𝕄} :
    drained c x0 ys q ⊢ iprop((drained c x0 ys (q + 1) -∗ wp frame (wpE (defs₀ (F := F)) Variants.none c none) Set.univ (k ⟨⟩) Q)
      -∗ wp frame (wpE (defs₀ (F := F)) Variants.none c none) Set.univ
        (.op (.waitDma2 dsem (hbM.slice (Rect.unit (s := S49152x2048) o3 S1x2048.size h3) (fun _ => rfl))
          ((scM.slice (Rect.unit (s := S6x256x2048) o2 S1x1x2048.size h2) (fun _ => rfl)).squeeze S1x2048 squeezes_S1x1x2048_S1x2048)
          hs hd) k) Q) := by
  unfold drained
  iintro ⟨HB, ⟨%W, HO⟩⟩ Hk
  iapply (Transfers.wp_waitBatch (countersEmb (U := Pipeline.UD sig nD τ)) Variants.none (c : Thread nD τ) none
    (srcw := srcM o3 h3) (dstw := dstM o2 h2) (hsrc := hs) (hdst := hd) (k := k) (Q := Q) (D := deliv c x0 ys) (W := W) (u := q * NN)
    () (creditD o2 h2) (by rw [← Nat.succ_mul, Nat.mul_comm NN]; exact Nat.mul_lt_mul_of_pos_right hq NN_pos)) $$ [HB HO]
  · isplitl [HB]; · iexact HB
    iexact HO
  iintro ⟨HB, HO⟩
  iapply Hk
  rw [Nat.succ_mul]
  isplitl [HB]; · iexact HB
  iexists _; iexact HO

theorem waitL (o2 : Fin 3 → ℕ) (h2 : ∀ a, o2 a + S1x1x2048.size a ≤ S6x256x2048.size a)
    (o3 : Fin 2 → ℕ) (h3 : ∀ a, o3 a + S1x2048.size a ≤ S49152x2048.size a) {α : Type}
    {hs hd} {k : PUnit → Prog (TpuEff nD τ sig (Elt F) Λ₀ .tc) α} {Q : α → sProp 𝕄} :
    drained c x0 ys 1535 ⊢ iprop((done c x0 ys -∗ wp frame (wpE (defs₀ (F := F)) Variants.none c none) Set.univ (k ⟨⟩) Q)
      -∗ wp frame (wpE (defs₀ (F := F)) Variants.none c none) Set.univ
        (.op (.waitDma2 dsem (hbM.slice (Rect.unit (s := S49152x2048) o3 S1x2048.size h3) (fun _ => rfl))
          ((scM.slice (Rect.unit (s := S6x256x2048) o2 S1x1x2048.size h2) (fun _ => rfl)).squeeze S1x2048 squeezes_S1x1x2048_S1x2048)
          hs hd) k) Q) := by
  unfold drained
  iintro ⟨HB, ⟨%W, HO⟩⟩ Hk
  iapply (Transfers.wp_waitBatchLast (countersEmb (U := Pipeline.UD sig nD τ)) Variants.none (c : Thread nD τ) none
    (srcw := srcM o3 h3) (dstw := dstM o2 h2) (hsrc := hs) (hdst := hd) (k := k) (Q := Q) (D := deliv c x0 ys) (W := W) (u := 1535 * NN)
    () (creditD o2 h2) NN_pos (by omega)) $$ [HB HO]
  · isplitl [HB]; · iexact HB
    iexact HO
  iintro ⟨HD, Hc, HO⟩
  iapply Hk
  unfold done
  isplitl [HD]; · iexact HD
  isplitl [Hc]; · iexact Hc
  iexists _; iexact HO

end

variable (c : Dev nD) (i : grid0.Coords) (arg2 : Memref sig .tc .smem S1x8x256 .i32) (harg2 : arg2.IsWhole) (arg3 : Memref sig .tc .vmem S8x256 .f32) (harg3 : arg3.IsWhole) (arg4 : Memref sig .tc .vmem S1x256x2048 .f32) (harg4 : arg4.IsWhole) (arg5 : Memref sig .tc .vmem S1x256x2048 .f32) (harg5 : arg5.IsWhole) (arg7 : Memref sig .tc .vmem S2048x768 .f32) (harg7 : arg7.IsWhole) (arg8 : Memref sig .tc .vmem S384x2048 .f32) (harg8 : arg8.IsWhole) (arg9 : Memref sig .tc .vmem S1x2048 .f32) (harg9 : arg9.IsWhole) (arg10 : Memref sig .tc .vmem S1x1x2048 .f32) (harg10 : arg10.IsWhole) (arg11 : Memref sig .tc .vmem S1x256x2048 .f32) (harg11 : arg11.IsWhole)
  (x0 : Vec F S1x8x256 .i32) (ys : Vec F S49152x2048 .f32)

theorem trips2 : k0_t2_loop.trips = 256 := by decide

/-- Before trip `k` of the waits. -/
def drainAt (k : ℕ) (_ : Unit) : sProp 𝕄 := if k < 256 then drained c x0 ys (6 * k) else done c x0 ys

set_option maxHeartbeats 4000000 in
theorem drain_step (k : Fin k0_t2_loop.trips) (acc : Unit) :
    drainAt c x0 ys k.val acc ⊢ wp frame (wpE (defs₀ (F := F)) Variants.none c none) Set.univ
      (k0_t2_body i arg2 harg2 arg3 harg3 arg4 harg4 arg5 harg5 hbM (Memref.isWhole_whole _) arg7 harg7 arg8 harg8 arg9 harg9 arg10 harg10 arg11 harg11 scM (Memref.isWhole_whole _) cc0_scratch1 k acc)
      (drainAt c x0 ys (k.val + 1)) := by
  have hk : k.val < 256 := lt_of_lt_of_eq k.isLt trips2
  unfold drainAt
  rw [if_pos hk]
  unfold k0_t2_body
  iintro HI
  sl_exec
  iapply (wait1 c x0 ys (6 * k.val + 0) (by omega) _ _ _ _) $$ HI
  iintro HI
  sl_exec
  iapply (wait1 c x0 ys (6 * k.val + 1) (by omega) _ _ _ _) $$ HI
  iintro HI
  sl_exec
  iapply (wait1 c x0 ys (6 * k.val + 2) (by omega) _ _ _ _) $$ HI
  iintro HI
  sl_exec
  iapply (wait1 c x0 ys (6 * k.val + 3) (by omega) _ _ _ _) $$ HI
  iintro HI
  sl_exec
  iapply (wait1 c x0 ys (6 * k.val + 4) (by omega) _ _ _ _) $$ HI
  iintro HI
  sl_exec
  rcases Nat.lt_or_ge (k.val + 1) 256 with h1 | h1
  · rw [if_pos h1]
    iapply (wait1 c x0 ys (6 * k.val + 5) (by omega) _ _ _ _) $$ HI
    iintro HI
    sl_exec
    sl_step
    iexact HI
  · rw [if_neg (Nat.not_lt.mpr h1), show 6 * k.val + 4 + 1 = 1535 by omega]
    iapply (waitL c x0 ys _ _ _ _) $$ HI
    iintro HI
    sl_exec
    sl_step
    iexact HI

end Cert.Kernel6Ideal.Combine

end
-- ==== Proof.Combine.RestIdeal.lean ====
/-
  The combining kernel's body: what it leaves in the output's block.
-/
module

public import proofs.«01_k».proof.Proof.Combine.DrainIdeal

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

section
theorem sep2 (Φ Ψ : Fin 1536 → sProp 𝕄) :
    (bigSep Finset.univ fun j => iprop(Φ j ∗ Ψ j)) = (iprop(bigSep Finset.univ Φ ∗ bigSep Finset.univ Ψ) : sProp 𝕄) := BI.bigSep_sep _ _ _

variable (c : Dev nD) (x0 : Vec F S1x8x256 .i32) (ys : Vec F S49152x2048 .f32)

/-- The outputs outside the rows lent to the transfers. -/
abbrev cPt (j : Fin 1536) : sProp 𝕄 :=
  hbM.view.loc (c : Thread nD τ) ↦[Finset.univ \ (sM x0 j).view.set]{Transfers.shareTokN fullShare j.val} ys
def rest : sProp 𝕄 := iprop((hbM.view.loc (c : Thread nD τ) ↦{Transfers.shareDrop fullShare 1536} ys) ∗ bigSep Finset.univ (cPt c x0 ys))

theorem lent : (hbM.view.loc (c : Thread nD τ) ↦{fullShare} ys : sProp 𝕄) ⊣⊢ iprop(rest c x0 ys ∗ bigSep Finset.univ (sPt c x0 ys)) := by
  have h := Ring.bigSep_rangeSet_eq_range (NB := 1536) (lo := 0) (hi := 1536)
    (Φ := fun j : Fin 1536 => (hbM.view.loc (c : Thread nD τ) ↦{Transfers.shareTokN fullShare j.val} ys : sProp 𝕄)) le_rfl
    (fun t => hbM.view.loc (c : Thread nD τ) ↦{Transfers.shareTokN fullShare t} ys) (fun k hk => congrArg (fun n => (hbM.view.loc (c : Thread nD τ) ↦{Transfers.shareTokN fullShare n} ys : sProp 𝕄)) (Nat.zero_add k).symm)
  rw [Ring.rangeSet_univ, Nat.sub_zero] at h
  have h0 : (hbM.view.loc (c : Thread nD τ) ↦{fullShare} ys : sProp 𝕄) ⊣⊢ iprop((hbM.view.loc (c : Thread nD τ) ↦{Transfers.shareDrop fullShare 1536} ys)
      ∗ bigSep (Finset.range 1536) fun t => (hbM.view.loc (c : Thread nD τ) ↦{Transfers.shareTokN fullShare t} ys : sProp 𝕄)) :=
    Transfers.pointsTo_toks_range fullShare 1536
  have e1 : ∀ j : Fin 1536, (hbM.view.loc (c : Thread nD τ) ↦{Transfers.shareTokN fullShare j.val} ys : sProp 𝕄) ⊢ iprop(sPt c x0 ys j ∗ cPt c x0 ys j) :=
    fun j => (pointsTo_split_subset (Finset.subset_univ _)).1
  have e2 : ∀ j : Fin 1536, iprop(sPt c x0 ys j ∗ cPt c x0 ys j) ⊢ (hbM.view.loc (c : Thread nD τ) ↦{Transfers.shareTokN fullShare j.val} ys : sProp 𝕄) :=
    fun j => (pointsTo_split_subset (Finset.subset_univ _)).2
  have hs := sep2 (sPt c x0 ys) (cPt c x0 ys)
  unfold rest
  constructor
  · iintro H
    ihave H := h0.1 $$ H
    icases H with ⟨Hr, Ht⟩
    ihave Ht := ((Entails.of_eq h.symm).trans ((BI.bigSep_mono fun j _ => e1 j).trans (Entails.of_eq hs))) $$ Ht
    icases Ht with ⟨Hs, Hc⟩
    isplitl [Hr Hc]
    · isplitl [Hr] <;> iassumption
    iexact Hs
  · iintro ⟨⟨Hr, Hc⟩, Hs⟩
    ihave Ht := ((Entails.of_eq hs.symm).trans ((BI.bigSep_mono fun j _ => e2 j).trans (Entails.of_eq h))) $$ [Hs Hc]
    · isplitl [Hs] <;> iassumption
    iapply h0.2
    isplitl [Hr] <;> iassumption

/-- The buffer as its rows. -/
theorem rows (f : Vec F S6x256x2048 .f32) :
    (scM.view.loc (c : Thread nD τ) ↦{fullShare} f : sProp 𝕄) = bigSep Finset.univ fun j => dPt c j f := by
  refine (Ring.pointsTo_blocks (ℓ := scM.view.loc (c : Thread nD τ)) (q := fullShare) bset bset_disjoint bset_cover f).trans ?_
  refine congrArg (bigSep Finset.univ) (funext fun j => ?_)
  show (scM.view.loc (c : Thread nD τ) ↦[bset j]{fullShare} f : sProp 𝕄) = (scM.view.loc (c : Thread nD τ) ↦[(dM j).view.set]{fullShare} f : sProp 𝕄)
  rw [dset]

theorem enter (fs : Vec F S6x256x2048 .f32) :
    iprop((scM.view.loc (c : Thread nD τ) ↦{fullShare} fs) ∗ (hbM.view.loc (c : Thread nD τ) ↦{fullShare} ys)
        ∗ batch c x0 ys 0 0)
      ⊢ iprop(rest c x0 ys ∗ issued c x0 ys 0) := by
  unfold issued
  rw [Ring.rangeSet_univ, rows]
  iintro ⟨HS, HY, HB⟩
  ihave HY := (lent c x0 ys).1 $$ HY
  icases HY with ⟨Hr, Hs⟩
  isplitl [Hr]; · iexact Hr
  isplitl [HB]; · iexact HB
  have e0 : ∀ j, (dPt c j fs : sProp 𝕄) ⊢ iprop(∃ g, dPt c j g) := fun j => by iintro H; iexists fs; iexact H
  have e1 : (bigSep Finset.univ fun j => dPt c j fs : sProp 𝕄) ⊢ bigSep Finset.univ fun j => iprop(∃ g, dPt c j g) :=
    BI.bigSep_mono fun j _ => e0 j
  have e2 : (iprop((bigSep Finset.univ fun j => (iprop(∃ g, dPt c j g) : sProp 𝕄)) ∗ bigSep Finset.univ (sPt c x0 ys)) : sProp 𝕄) ⊢ bigSep Finset.univ (pend c x0 ys) :=
    Entails.of_eq (sep2 _ _).symm
  ihave HS := e1 $$ HS
  iapply e2
  isplitl [HS]
  · iexact HS
  iexact Hs

theorem leave :
    iprop(rest c x0 ys ∗ bigSep Finset.univ (deliv c x0 ys))
      ⊢ iprop((scM.view.loc (c : Thread nD τ) ↦{fullShare} gath x0 ys) ∗ (hbM.view.loc (c : Thread nD τ) ↦{fullShare} ys)) := by
  rw [rows]
  iintro ⟨Hr, H⟩
  ihave H := (Entails.of_eq (sep2 (fun j => dPt c j (gath x0 ys)) (sPt c x0 ys))) $$ H
  icases H with ⟨HS, Hs⟩
  isplitl [HS]; · iexact HS
  iapply (lent c x0 ys).2
  isplitl [Hr] <;> iassumption

set_option backward.isDefEq.respectTransparency.types false in
instance deliv_storable (j : Fin 1536) : BI.Storable (upEmb : UEmb _ 𝕄) (deliv c x0 ys j) := by
  unfold deliv dPt sPt; infer_instance

/-- A place's rows. -/
abbrev place (n : ℕ) (h : ∀ a, (![n, 0, 0] : Fin 3 → ℕ) a + S1x256x2048.size a ≤ S6x256x2048.size a) : Vec F S1x256x2048 .f32 :=
  View.ld (gath x0 ys) (Rect.unit (s := S6x256x2048) ![n, 0, 0] S1x256x2048.size h)

end

/-- What the point stores. -/
def outV (x0 : Vec F S1x8x256 .i32) (x1 : Vec F S8x256 .f32) (x2 x3 : Vec F S1x256x2048 .f32) (ys : Vec F S49152x2048 .f32)
    (x4 : Vec F S2048x768 .f32) (x5 : Vec F S384x2048 .f32) (x6 : Vec F S1x2048 .f32) (x7 : Vec F S1x1x2048 .f32) : Vec F S1x256x2048 .f32 :=
  k0_pay1
    (k0_pay6 (k0_pay2 x1) (k0_pay3 x2 x4 x5 x1 (place x0 ys 0 inb_S6x256x2048_S1x256x2048_0_0_0)) (k0_pay4 (place x0 ys 1 inb_S6x256x2048_S1x256x2048_1_0_0)) (k0_pay5 x1)
      (place x0 ys 2 inb_S6x256x2048_S1x256x2048_2_0_0) (place x0 ys 3 inb_S6x256x2048_S1x256x2048_3_0_0) (place x0 ys 4 inb_S6x256x2048_S1x256x2048_4_0_0) (place x0 ys 5 inb_S6x256x2048_S1x256x2048_5_0_0))
    (k0_pay7 x3) (k0_pay8 x7)
    (k0_pay9 (k0_pay2 x1) (k0_pay3 x2 x4 x5 x1 (place x0 ys 0 inb_S6x256x2048_S1x256x2048_0_0_0)) (k0_pay4 (place x0 ys 1 inb_S6x256x2048_S1x256x2048_1_0_0)) (k0_pay5 x1)
      (place x0 ys 2 inb_S6x256x2048_S1x256x2048_2_0_0) (place x0 ys 3 inb_S6x256x2048_S1x256x2048_3_0_0) (place x0 ys 4 inb_S6x256x2048_S1x256x2048_4_0_0) (place x0 ys 5 inb_S6x256x2048_S1x256x2048_5_0_0))
    x6

end Cert.Kernel6Ideal.Combine

end
-- ==== Proof.Combine.BodyIdeal.lean ====
/-
  The combining kernel's body: what it leaves in the output's block.
-/
module

public import proofs.«01_k».proof.Proof.Combine.RestIdeal
public import Idealize.ShloMosaic.Lib.Pipeline.ValueKit

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg2 : Memref sig .tc .smem S1x8x256 .i32) (harg2 : arg2.IsWhole) (arg3 : Memref sig .tc .vmem S8x256 .f32) (harg3 : arg3.IsWhole) (arg4 : Memref sig .tc .vmem S1x256x2048 .f32) (harg4 : arg4.IsWhole) (arg5 : Memref sig .tc .vmem S1x256x2048 .f32) (harg5 : arg5.IsWhole) (arg7 : Memref sig .tc .vmem S2048x768 .f32) (harg7 : arg7.IsWhole) (arg8 : Memref sig .tc .vmem S384x2048 .f32) (harg8 : arg8.IsWhole) (arg9 : Memref sig .tc .vmem S1x2048 .f32) (harg9 : arg9.IsWhole) (arg10 : Memref sig .tc .vmem S1x1x2048 .f32) (harg10 : arg10.IsWhole) (arg11 : Memref sig .tc .vmem S1x256x2048 .f32) (harg11 : arg11.IsWhole)
  (x0 : Vec F S1x8x256 .i32) (x1 : Vec F S8x256 .f32) (x2 x3 : Vec F S1x256x2048 .f32) (x4 : Vec F S2048x768 .f32) (x5 : Vec F S384x2048 .f32) (x6 : Vec F S1x2048 .f32) (x7 : Vec F S1x1x2048 .f32) (ys : Vec F S49152x2048 .f32)

/-- The blocks a point finds and leaves. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg7 fullShare x4 ∗ owns (c : Thread nD τ) arg8 fullShare x5
    ∗ owns (c : Thread nD τ) arg9 fullShare x6 ∗ owns (c : Thread nD τ) arg10 fullShare x7)

theorem issue_end (a : Unit) :
    issueAt c arg2 harg2 x0 ys (Scf.trips k0_t1_loop.lb k0_t1_loop.ub k0_t1_loop.st) a ⊢ iprop(wPt c arg2 harg2 x0 ∗ batch c x0 ys 1536 0) := by
  rw [show Scf.trips k0_t1_loop.lb k0_t1_loop.ub k0_t1_loop.st = 256 from trips1]
  unfold issueAt issued
  iintro ⟨H0, HB, -⟩
  isplitl [H0] <;> iassumption

theorem drain_start (a : Unit) : iprop(batch c x0 ys 1536 0 ∗ ∃ W, owes (c : Thread nD τ) 0 W) ⊢ drainAt c x0 ys 0 a := by
  unfold drainAt drained
  rw [if_pos (by decide : (0 : ℕ) < 256), Nat.mul_zero, Nat.zero_mul]

theorem drain_end (a : Unit) : drainAt c x0 ys (Scf.trips k0_t2_loop.lb k0_t2_loop.ub k0_t2_loop.st) a ⊢ done c x0 ys := by
  rw [show Scf.trips k0_t2_loop.lb k0_t2_loop.ub k0_t2_loop.st = 256 from trips2]
  unfold drainAt
  rw [if_neg (by decide : ¬ (256 : ℕ) < 256)]

set_option maxHeartbeats 4000000 in
theorem run (hr : ∀ k t, (word x0 k t).toNat < 49152) (K : PUnit → sProp 𝕄) :
    iprop(ins c arg2 arg3 arg4 arg5 arg7 arg8 arg9 arg10 x0 x1 x2 x3 x4 x5 x6 x7 ∗ (∃ d, owns (c : Thread nD τ) arg11 fullShare d)
        ∗ (∃ fs, scM.view.loc (c : Thread nD τ) ↦{fullShare} fs) ∗ semVal ((c : Thread nD τ), SemLoc.dma dsem) 0
        ∗ (hbM.view.loc (c : Thread nD τ) ↦{fullShare} ys) ∗ (∃ W, owes (c : Thread nD τ) 0 W)
        ∗ (iprop(ins c arg2 arg3 arg4 arg5 arg7 arg8 arg9 arg10 x0 x1 x2 x3 x4 x5 x6 x7
              ∗ owns (c : Thread nD τ) arg11 fullShare (outV x0 x1 x2 x3 ys x4 x5 x6 x7)
              ∗ (∃ fs, scM.view.loc (c : Thread nD τ) ↦{fullShare} fs) ∗ semVal ((c : Thread nD τ), SemLoc.dma dsem) 0
              ∗ (hbM.view.loc (c : Thread nD τ) ↦{fullShare} ys) ∗ ∃ W, owes (c : Thread nD τ) 0 W) -∗ K ⟨⟩))
      ⊢ wp frame (wpE (defs₀ (F := F)) Variants.none c none) Set.univ
          (cc0_combine_shared_residual i arg2 harg2 arg3 harg3 arg4 harg4 arg5 harg5 hbM (Memref.isWhole_whole _) arg7 harg7 arg8 harg8 arg9 harg9 arg10 harg10 arg11 harg11 scM (Memref.isWhole_whole _) cc0_scratch1) K := by
  simp only [cc0_combine_shared_residual_eq_skeleton]; unfold cc0_combine_shared_residual_skel
  simp only [k0_part2_eq_skeleton, k0_part3_eq_skeleton]; unfold k0_part2_skel k0_part3_skel
  simp only [bind_assoc, pure_bind]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%fs, HS⟩, Hc, HY, HO, Hk⟩
  obtain rfl := harg2.eq_unread hf0; obtain rfl := harg3.eq_unread hf1; obtain rfl := harg4.eq_unread hf2
  obtain rfl := harg5.eq_unread hf3; obtain rfl := harg7.eq_unread hf4; obtain rfl := harg8.eq_unread hf5
  obtain rfl := harg9.eq_unread hf6; obtain rfl := harg10.eq_unread hf7
  imod (Transfers.batch_alloc' (Lvl := ℕ) (countersEmb (U := Pipeline.UD sig nD τ)) (c : Thread nD τ) () NN (deliv c x0 ys) (sm := .dma dsem) (E := Set.univ)) $$ Hc with HB
  ihave HI := (enter c x0 ys fs) $$ [HS HY HB]
  · isplitl [HS]; · iexact HS
    isplitl [HY]; · iexact HY
    iexact HB
  icases HI with ⟨Hr, HI⟩
  sl_for (issueAt c arg2 harg2 x0 ys) $$ [H0 HI]
  · intro k acc; exact issue_step c i arg2 harg2 arg3 harg3 arg4 harg4 arg5 harg5 arg7 harg7 arg8 harg8 arg9 harg9 arg10 harg10 arg11 harg11 x0 ys hr k acc
  · unfold issueAt
    isplitl [H0]; · iexact H0
    iexact HI
  iintro %a0 HI
  ihave HI := (issue_end c arg2 harg2 x0 ys a0) $$ HI
  icases HI with ⟨H0, HB⟩
  sl_exec
  sl_for (drainAt c x0 ys) $$ [HB HO]
  · intro k acc; exact drain_step c i arg2 harg2 arg3 harg3 arg4 harg4 arg5 harg5 arg7 harg7 arg8 harg8 arg9 harg9 arg10 harg10 arg11 harg11 x0 ys k acc
  · iapply (drain_start c x0 ys)
    isplitl [HB]; · iexact HB
    iexact HO
  iintro %a1 HD
  ihave HD := (drain_end c x0 ys a1) $$ HD
  unfold done
  icases HD with ⟨HD, Hc, HO⟩
  ihave HL := (leave c x0 ys) $$ [Hr HD]
  · isplitl [Hr] <;> iassumption
  icases HL with ⟨HS, HY⟩
  sl_exec
  sl_step
  iapply Hk
  isplitl [H0 H1 H2 H3 H4 H5 H6 H7]
  · isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]; · iexists _; isplitr; swap; · iexact H6
                    ipureintro; exact hf6
    iexists _; isplitr; swap; · iexact H7
    ipureintro; exact hf7
  isplitl [H8]
  · iexists _; isplitr; swap; · iexact H8
    ipureintro
    rw [View.read_writes_eq_canon _ _ _ (View.cover_of_tiledL _ S1x256x2048.size (by sl_kernel_rfl))]
    sl_unfold_words
    rw [View.canon_unit_zero hz3]
    simp only [View.readAt_eq_ld, harg3.read_unread, harg4.read_unread, harg5.read_unread, harg7.read_unread, harg8.read_unread, harg9.read_unread, harg10.read_unread, View.ld_unit_zero (S := S8x256) hz2, View.ld_unit_zero (S := S2048x768) hz2, View.ld_unit_zero (S := S384x2048) hz2, View.ld_unit_zero (S := S1x2048) hz2, View.ld_unit_zero (S := S1x256x2048) hz3, View.ld_unit_zero (S := S1x1x2048) hz3]
    rfl
  isplitl [HS]; · iexists _; iexact HS
  isplitl [Hc]; · iexact Hc
  isplitl [HY]; · iexact HY
  iexact HO

end Cert.Kernel6Ideal.Combine

end
-- ==== Proof.Combine.FrameIdeal.lean ====
/-
  The combining kernel's run over all points.
-/
module

public import proofs.«01_k».proof.Proof.Combine.BodyIdeal
public import proofs.«01_k».proof.Proof.Gen.Kernel6Ideal.Frame
public import Idealize.ShloMosaic.Lib.Pointwise
public import Idealize.ShloMosaic.Lib.Claim
public import Idealize.ShloMosaic.Lib.Pipeline.ValueKit

@[expose] public section

set_option maxRecDepth 16384

noncomputable section

namespace Cert.Kernel6Ideal.Combine

open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The places read lie in the table of outputs. -/
def Good : Prop := ∀ (c : Dev nD) (a : Fin 32) (k : Fin 8) (t : Fin 256), k.val < 6 →
  ((m ((c : Thread nD τ).loc main_arg0) : Vec F S32x8x256 .i32) (ix3 a k t)).toNat < 49152

variable (c : Dev nD)

theorem idx0 : ∀ t : Fin cfg0.N, win0_0.index t = ![t.val, 0, 0] := by decide +kernel
theorem t_lt (t : Fin cfg0.N) : t.val < 32 := lt_of_lt_of_eq t.isLt N_0

theorem blk_s (t : Fin cfg0.N) (k : Fin 8) (r : Fin 256) :
    (iblk m c 0 t : Vec F S1x8x256 .i32) (ix3 0 k r) = (m ((c : Thread nD τ).loc main_arg0) : Vec F S32x8x256 .i32) (ix3 ⟨t.val, t_lt t⟩ k r) := by
  blk_ext [iblk, V, idx0 t]

theorem word_eq (x0 : Vec F S1x8x256 .i32) (k : Fin 6) (r : Fin 256) : word x0 k r = x0 (ix3 0 (k.castLE (by decide)) r) := by
  unfold word
  refine congrArg x0 (funext fun a => ?_)
  fin_cases a <;> rfl

theorem inRange (hG : Good m) (t : Fin cfg0.N) (k : Fin 6) (r : Fin 256) : (word (iblk m c 0 t : Vec F S1x8x256 .i32) k r).toNat < 49152 := by
  rw [word_eq, blk_s]
  exact hG c _ _ _ k.isLt

/-! ## The kernel's own counter and the outputs it reads -/

abbrev osem0 : Fin 1 → SemLoc sig := fun j => (![SemLoc.dma 15] : Fin 1 → SemLoc sig) j
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = semVal ((c : Thread nD τ), SemLoc.dma dsem) 0 := by
  rw [Pipeline.ownSems0_eq_of_list c osem0 [0] (by decide) (by decide)]; rfl
def H0 : Finset (Ref sig .tc) := {main_arg4}
theorem H0_sub : H0 ⊆ Pipeline.restRefs sig spec0 := by decide
theorem hbmPts0_eq :
    (bigSep H0 (fun b => ((c : Thread nD τ).loc b) ↦{fullShare} V m c b) : sProp 𝕄) = (hbM.view.loc (c : Thread nD τ) ↦{fullShare} V m c main_arg4) := by
  rw [BI.bigSep_eq_bigSepL_of_eq [main_arg4] (by decide) (by decide)]; rfl

theorem PhiD0_eq :
    (Pipeline.ΦD osem0 spec0 H0 (V m) c : sProp 𝕄)
      = iprop((∃ fs, scM.view.loc (c : Thread nD τ) ↦{fullShare} fs) ∗ (∃ r, prngReg c r)
          ∗ semVal ((c : Thread nD τ), SemLoc.dma dsem) 0 ∗ (hbM.view.loc (c : Thread nD τ) ↦{fullShare} V m c main_arg4)) := by
  rw [Pipeline.ΦD_eq, scopedRest0_eq, ownSems00_eq, hbmPts0_eq]

/-! ## What every point leaves -/

/-- What point `t` stores. -/
def stored (t : Fin cfg0.N) : Vec F S1x256x2048 .f32 :=
  outV (iblk m c 0 t) (iblk m c 1 t) (iblk m c 2 t) (iblk m c 3 t) (V m c main_arg4) (iblk m c 4 t) (iblk m c 5 t) (iblk m c 6 t) (iblk m c 7 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => stored m c t
  Φ _ := Pipeline.ΦD osem0 spec0 H0 (V m) c
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]; try rfl
theorem after1 (t : Fin cfg0.N) : (dats m 0 c).after 1 t = iblk m c 1 t := by dsimp only [dats]; try rfl
theorem after2 (t : Fin cfg0.N) : (dats m 0 c).after 2 t = iblk m c 2 t := by dsimp only [dats]; try rfl
theorem after3 (t : Fin cfg0.N) : (dats m 0 c).after 3 t = iblk m c 3 t := by dsimp only [dats]; try rfl
theorem after4 (t : Fin cfg0.N) : (dats m 0 c).after 4 t = iblk m c 4 t := by dsimp only [dats]; try rfl
theorem after5 (t : Fin cfg0.N) : (dats m 0 c).after 5 t = iblk m c 5 t := by dsimp only [dats]; try rfl
theorem after6 (t : Fin cfg0.N) : (dats m 0 c).after 6 t = iblk m c 6 t := by dsimp only [dats]; try rfl
theorem after7 (t : Fin cfg0.N) : (dats m 0 c).after 7 t = iblk m c 7 t := by dsimp only [dats]; try rfl
theorem after8 (t : Fin cfg0.N) : (dats m 0 c).after 8 t = stored m c t := by dsimp only [dats]; try rfl

theorem before0 (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- What the body is called with at point `t`, and what it returns. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
theorem sound_body (hG : Good m) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8,
    show (dats m 0 c).Φ t.castSucc = Pipeline.ΦD osem0 spec0 H0 (V m) c from rfl, PhiD0_eq]
  unfold Dat.owesAt Pipeline.owesWithin
  rw [show (dats m 0 c).owed t.castSucc = 0 from rfl]
  unfold stored
  iintro ⟨⟨HS, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (V m c main_arg4) (inRange m c hG t) _)
  unfold ins
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [HS]; · iexact HS
  isplitl [Hq]; · iexact Hq
  isplitl [Hh]; · iexact Hh
  isplitl [HO]; · iexists _; iexact HO
  iintro ⟨⟨H0, H1, H2, H3, H4, H5, H6, H7⟩, H8, HS, Hq, Hh, ⟨%W', HO⟩⟩
  isplitl [HS Hg Hq Hh]
  · isplitl [HS]; · iexact HS
    isplitl [Hg]; · iexact Hg
    isplitl [Hq]; · iexact Hq
    iexact Hh
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin cfg0.N) : defs₀ (F := F) .tc cfg0.body (cfg0.bodyArgs t (cfg0.slots t)) = bodyAt0 t := by
  unfold defs₀; rw [Defs.onTc_tc]

/-- The body's triple, as the pipeline asks for it. -/
theorem body_obligation (hG : Good m) : BodyObligation (dats (F := F) m 0 c) (defs₀ (F := F)) Variants.none () Set.univ := fun t => by
  rw [bigSep_W0, bigSep_W0, row_eq]
  exact triple_restated (sound_body m c hG t) rfl .rfl fun _ => .rfl

/-! ## The run -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the windows' arrays at what the points wrote back, and all counters at zero. -/
theorem run_main (hG : Good m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c hG).loose) (hshare := fun c => (dats m 0 c).share_full fun _ => rfl)
    (howed := fun _ _ => rfl) (V := V m) (hmain := hmainD m Variants.none) (hA := A_eq m)
    (hin := fun _ => .rfl) (hout := fun _ => .rfl)

variable {m} in
theorem args_of {r : PUnit × MemSt nD τ sig (Elt F)} (h : Pipeline.FramePost cfgs (dats (F := F) m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).1 4).trans (((dats m 0 c).arrAt_in 4 rfl _).trans ((A_eq m c 4).trans (V_main_arg5 m c))),
    ((h c).1 5).trans (((dats m 0 c).arrAt_in 5 rfl _).trans ((A_eq m c 5).trans (V_main_arg6 m c))),
    ((h c).2 main_arg7 (Pipeline.mem_restRefs_of main_arg7 (by decide) (by decide))).trans (V_main_arg7 m c),
    ((h c).1 7).trans (((dats m 0 c).arrAt_in 7 rfl _).trans ((A_eq m c 7).trans (V_main_arg8 m c)))⟩

/-- Every run ends with the arguments as they were, and all counters at zero. -/
theorem frame_run (hG : Good m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_of h.1 c, h.2⟩) (run_main m ρ hG)

end Cert.Kernel6Ideal.Combine

end
-- ==== Proof.Combine.Model.lean ====
/-
  The combination's result: the shared expert's output and the six weighted rows, added in order, then the norm and the
  gated residual.
-/
module

public import Idealize.ShloMosaic.Lib.Pointwise
public import proofs.«01_k».proof.Proof.Proj.Row

@[expose] public section

noncomputable section

open Idealize.ShloMosaic

namespace Cert.Combine

variable (s : (⟨3, ![32, 8, 256]⟩ : Shape).Idx → BitVec 32) (wt : (⟨2, ![8, 8192]⟩ : Shape).Idx → EReal)
  (h x : (⟨3, ![4, 2048, 2048]⟩ : Shape).Idx → EReal) (ys : (⟨2, ![49152, 2048]⟩ : Shape).Idx → EReal)
  (gu : (⟨2, ![2048, 768]⟩ : Shape).Idx → EReal) (sd : (⟨2, ![384, 2048]⟩ : Shape).Idx → EReal)
  (nw : (⟨1, ![2048]⟩ : Shape).Idx → EReal) (g : (⟨3, ![4, 1, 2048]⟩ : Shape).Idx → EReal)

/-- The row the `k`-th slot of token `n` names. -/
def slot (k : Fin 8) (n : Fin 8192) : Fin 49152 :=
  ⟨min (s (ix3 (⟨n.val / 256, by omega⟩ : Fin 32) k (⟨n.val % 256, Nat.mod_lt _ (by norm_num)⟩ : Fin 256))).toNat 49151, by omega⟩

/-- The shared expert's gate and up columns. -/
def gateUp (n : Fin 8192) (f : Fin 768) : EReal :=
  ∑ j : Fin 2048, h (ix3 (⟨n.val / 2048, by omega⟩ : Fin 4) (⟨n.val % 2048, Nat.mod_lt _ (by norm_num)⟩ : Fin 2048) j) * gu (ix2 j f)

/-- The shared expert's gated activation. -/
def act (n : Fin 8192) (f : Fin 384) : EReal :=
  gateUp h gu n ⟨f.val, by omega⟩ * Ideal.logistic (gateUp h gu n ⟨f.val, by omega⟩) * gateUp h gu n ⟨384 + f.val, by omega⟩

/-- The shared expert's output. -/
def shared (n : Fin 8192) (d : Fin 2048) : EReal := ∑ f : Fin 384, act h gu n f * sd (ix2 f d)

/-- One weighted row. -/
def part (k : Fin 8) (n : Fin 8192) (d : Fin 2048) : EReal := wt (ix2 k n) * ys (ix2 (slot s k n) d)

/-- The shared output and the six weighted rows. -/
def mix (n : Fin 8192) (d : Fin 2048) : EReal :=
  shared h gu sd n d + part s wt ys 0 n d + part s wt ys 1 n d + part s wt ys 2 n d + part s wt ys 3 n d + part s wt ys 4 n d
    + part s wt ys 5 n d

/-- The result. -/
def result : (⟨3, ![4, 2048, 2048]⟩ : Shape).Idx → EReal := fun i =>
  x (ix3 (i 0) (i 1) (i 2)) + g (ix3 (i 0) 0 (i 2)) * Cert.Row.rms (fun d => mix s wt h ys gu sd ⟨(i 0).val * 2048 + (i 1).val, by
    have h0 : (i 0).val < 4 := (i 0).isLt
    have h1 : (i 1).val < 2048 := (i 1).isLt
    omega⟩ d) (nw (ix1 (i 2))) (i 2)

end Cert.Combine

end
-- ==== Proof.Combine.Pay.lean ====
/-
  The combination, kernel side: what a point stores at every row of its block.
-/
module

public import proofs.«01_k».proof.Proof.Combine.FrameIdeal
public import proofs.«01_k».proof.Proof.Combine.Model

@[expose] public section

noncomputable section

open Idealize.ShloMosaic Idealize.ShloMosaic.TcCoe Idealize.SL.Sem

namespace Cert.Combine.Ker
open Cert.Kernel6Ideal Cert.Kernel6Ideal.Gen Cert.Kernel6Ideal.Combine

/-- The weights of a row of the block. -/
theorem pay2_at (w : Vec Ideal S8x256 .f32) (r : Fin 256) (k : Fin 8) :
    (k0_pay2 (F := Ideal) w (ix2 r (⟨k.val, by omega⟩ : Fin 128)) : EReal) = w (ix2 k r) := by
  pointwise [k0_pay2]

/-- The gate and up columns of a row of the block. -/
def gu1 (v1 : Vec Ideal S1x256x2048 .f32) (v4 : Vec Ideal S2048x768 .f32) (r : Fin 256) (f : Fin 768) : EReal :=
  ∑ j : Fin 2048, (v1 (ix3 0 r j) : EReal) * v4 (ix2 j f)

theorem pay3_at (v1 : Vec Ideal S1x256x2048 .f32) (v4 : Vec Ideal S2048x768 .f32) (v13 : Vec Ideal S384x2048 .f32) (v16 : Vec Ideal S8x256 .f32)
    (v22 : Vec Ideal S1x256x2048 .f32) (r : Fin 256) (d : Fin 2048) :
    (k0_pay3 (F := Ideal) v1 v4 v13 v16 v22 (ix2 r d) : EReal)
      = (∑ f : Fin 384, gu1 v1 v4 r ⟨f.val, by omega⟩ * Ideal.logistic (gu1 v1 v4 r ⟨f.val, by omega⟩) * gu1 v1 v4 r ⟨384 + f.val, by omega⟩ * v13 (ix2 f d))
        + (v16 (ix2 0 r) : EReal) * v22 (ix3 0 r d) := by
  have h2 := pay2_at v16 r 0
  unfold k0_pay3
  generalize k0_pay2 (F := Ideal) v16 = z at h2
  refine Eq.trans ?_ (congrArg (fun q : EReal => (∑ f : Fin 384, gu1 v1 v4 r ⟨f.val, by omega⟩ * Ideal.logistic (gu1 v1 v4 r ⟨f.val, by omega⟩) * gu1 v1 v4 r ⟨384 + f.val, by omega⟩ * v13 (ix2 f d)) + q * v22 (ix3 0 r d)) h2)
  pointwise [gu1]

theorem pay5_at (v16 : Vec Ideal S8x256 .f32) (r : Fin 256) (d : Fin 2048) : (k0_pay5 (F := Ideal) v16 (ix2 r d) : EReal) = v16 (ix2 1 r) := by
  have h2 := pay2_at v16 r 1
  unfold k0_pay5
  generalize k0_pay2 (F := Ideal) v16 = z at h2
  refine Eq.trans ?_ h2
  pointwise

theorem pay6_at (v19 : FVec Ideal S256x128 .f32) (v26 v29 v30 : FVec Ideal S256x2048 .f32) (v34 v40 v46 v52 : Vec Ideal S1x256x2048 .f32) (r : Fin 256) (d : Fin 2048) :
    (k0_pay6 (F := Ideal) v19 v26 v29 v30 v34 v40 v46 v52 (ix2 r d) : EReal)
      = (v26 (ix2 r d) : EReal) + (v30 (ix2 r d) : EReal) * v29 (ix2 r d) + (v19 (ix2 r 2) : EReal) * v34 (ix3 0 r d) + (v19 (ix2 r 3) : EReal) * v40 (ix3 0 r d)
        + (v19 (ix2 r 4) : EReal) * v46 (ix3 0 r d) + (v19 (ix2 r 5) : EReal) * v52 (ix3 0 r d) := by
  pointwise [k0_pay6]

theorem fin_at (P : FVec Ideal S256x2048 .f32) (v19 : FVec Ideal S256x128 .f32) (v26 v29 v30 : FVec Ideal S256x2048 .f32) (v34 v40 v46 v52 : Vec Ideal S1x256x2048 .f32)
    (hP : k0_pay6 (F := Ideal) v19 v26 v29 v30 v34 v40 v46 v52 = P) (x3 : Vec Ideal S1x256x2048 .f32) (x7 : Vec Ideal S1x1x2048 .f32) (x6 : Vec Ideal S1x2048 .f32)
    (r : Fin 256) (e : Fin 2048) :
    (k0_pay1 (F := Ideal) P (k0_pay7 x3) (k0_pay8 x7) (k0_pay9 v19 v26 v29 v30 v34 v40 v46 v52) x6 (ix3 0 r e) : EReal)
      = x3 (ix3 0 r e) + x7 (ix3 0 0 e) * Cert.Row.rms (fun d => P (ix2 r d)) (x6 (ix2 0 e)) e := by
  unfold k0_pay9
  rw [hP]
  pointwise [k0_pay1, k0_pay7, k0_pay8, Cert.Row.rms]

theorem pay4_at (v : Vec Ideal S1x256x2048 .f32) (r : Fin 256) (d : Fin 2048) : (k0_pay4 (F := Ideal) v (ix2 r d) : EReal) = v (ix3 0 r d) := by
  pointwise [k0_pay4]

/-- A gathered row. -/
theorem place_at (x0 : Vec Ideal S1x8x256 .i32) (ys : Vec Ideal S49152x2048 .f32) (n : ℕ) (h) (k : Fin 6) (hk : k.val = n) (r : Fin 256) (d : Fin 2048) :
    place x0 ys n h (ix3 0 r d) = ys (ix2 (⟨min (x0 (ix3 0 (k.castLE (by decide)) r)).toNat 49151, by omega⟩ : Fin 49152) d) := by
  subst hk
  have he : (Rect.unit (s := S6x256x2048) ![k.val, 0, 0] S1x256x2048.size h).emb (ix3 0 r d) = ix3 k r d := by
    funext a; refine Fin.ext ?_
    match a with
    | ⟨0, _⟩ => show k.val + 0 * 1 = k.val; omega
    | ⟨1, _⟩ => show 0 + 1 * r.val = r.val; omega
    | ⟨2, _⟩ => show 0 + 1 * d.val = d.val; omega
  show gath x0 ys ((Rect.unit (s := S6x256x2048) ![k.val, 0, 0] S1x256x2048.size h).emb (ix3 0 r d)) = _
  rw [he]
  unfold gath
  refine congrArg ys (funext fun a => Fin.ext ?_)
  match a with
  | ⟨0, _⟩ => exact congrArg (fun z : BitVec 32 => min z.toNat 49151) (word_eq x0 k r)
  | ⟨1, _⟩ => rfl

end Cert.Combine.Ker

end
-- ==== Proof.Combine.Reference.lean ====
/-
  The reference of the combination: the six weighted rows, the shared expert, the norm and the gated residual.
-/
module

public import proofs.«01_k».proof.Proof.Combine.Model
public import proofs.«01_k».proof.Proof.Gen.Reference6Ideal.Run
public import Idealize.ShloMosaic.Lib.IdealHost
public import Idealize.ShloMosaic.Lib.StableHlo.Predicate
public import Idealize.ShloMosaic.Lib.Claim
public import Idealize.ShloMosaic.Lib.Quiescent
public import proofs.«01_k».proof.Proof.Gen.Pre_slots_ok
public import proofs.«01_k».proof.Defs

@[expose] public section

noncomputable section

open Idealize.ShloMosaic Idealize.ShloMosaic.TcCoe Idealize.SL.Sem

namespace Cert.Combine.Ref
open Cert.Reference6Ideal Cert.Reference6Ideal.Gen

/-- The gather of whole rows, read at an entry. -/
theorem gather_at (ys : FVec Ideal S49152x2048 .f32) (idx : IVec S8192x1 32) (n : Fin 8192) (d : Fin 2048) :
    Host.gather gather_S49152x2048_S8192x1_S8192x2048_1_0_n_n_0_1_12048 ys idx (ix2 n d)
      = ys (ix2 (⟨min (idx (ix2 n (0 : Fin 1))).toInt.toNat 49151, by omega⟩ : Fin 49152) d) := by
  unfold Host.gather
  congr 1
  funext a
  refine Fin.ext ?_
  match a with
  | ⟨0, _⟩ =>
    show GatherDims.start gather_S49152x2048_S8192x1_S8192x2048_1_0_n_n_0_1_12048 (ix2 n d) idx (0 : Fin 2) + GatherDims.batchCoord gather_S49152x2048_S8192x1_S8192x2048_1_0_n_n_0_1_12048 (ix2 n d) (0 : Fin 2) + GatherDims.offCoord gather_S49152x2048_S8192x1_S8192x2048_1_0_n_n_0_1_12048 (ix2 n d) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S49152x2048_S8192x1_S8192x2048_1_0_n_n_0_1_12048.startIndexMap from List.mem_singleton.mpr rfl)]
    have hsi : gather_S49152x2048_S8192x1_S8192x2048_1_0_n_n_0_1_12048.siIdx (ix2 n d)
        ⟨List.idxOf (0 : Fin 2) gather_S49152x2048_S8192x1_S8192x2048_1_0_n_n_0_1_12048.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show GatherDims.start gather_S49152x2048_S8192x1_S8192x2048_1_0_n_n_0_1_12048 (ix2 n d) idx (1 : Fin 2) + GatherDims.batchCoord gather_S49152x2048_S8192x1_S8192x2048_1_0_n_n_0_1_12048 (ix2 n d) (1 : Fin 2) + GatherDims.offCoord gather_S49152x2048_S8192x1_S8192x2048_1_0_n_n_0_1_12048 (ix2 n d) (1 : Fin 2) = _
    rw [GatherDims.batchCoord_eq_zero _ _ _ List.not_mem_nil]
    have hs : GatherDims.start gather_S49152x2048_S8192x1_S8192x2048_1_0_n_n_0_1_12048 (ix2 n d) idx (1 : Fin 2) = 0 := by
      unfold GatherDims.start
      exact dif_neg (show ¬ (1 : Fin 2) ∈ ([0] : List (Fin 2)) by decide)
    rw [hs]
    simp only [Nat.zero_add, Nat.add_zero]
    rfl

/-- The shared expert's first products. -/
def first (h : FVec Ideal S4x2048x2048 .f32) (gu : FVec Ideal S2048x768 .f32) : FVec Ideal S8192x768 .f32 :=
  Host.dotGeneral (F := Ideal) (φ₁ := .f32) (φ₂ := .f32) dot_S8192x2048_S2048x768_S8192x768_1_0_0_1_n_n none (shapeCast _ h shapeCasts_S4x2048x2048_S8192x2048) gu

theorem first_at (h : FVec Ideal S4x2048x2048 .f32) (gu : FVec Ideal S2048x768 .f32) (n : Fin 8192) (f : Fin 768) :
    first h gu (ix2 n f) = gateUp h gu n f := by
  pointwise [first, gateUp]

/-- The gated activations. -/
def gated (y : FVec Ideal S8192x768 .f32) : FVec Ideal S8192x384 .f32 :=
  mulf (mulf (extractStridedSlice S8192x384 ![0, 0] y slices_S8192x768_S8192x384_0_0) (Host.divf (broadcastInDim S8192x384 ![] bcast_S_S8192x384 (constant S_ .f32 0x3F800000#32)) (addf (broadcastInDim S8192x384 ![] bcast_S_S8192x384 (constant S_ .f32 0x3F800000#32)) (Host.exp (Host.negf (extractStridedSlice S8192x384 ![0, 0] y slices_S8192x768_S8192x384_0_0)))))) (extractStridedSlice S8192x384 ![0, 384] y slices_S8192x768_S8192x384_0_384)

theorem gated_at (y : FVec Ideal S8192x768 .f32) (n : Fin 8192) (f : Fin 384) :
    (gated y (ix2 n f) : EReal) = (y (ix2 n ⟨f.val, by omega⟩) : EReal) * Ideal.logistic (y (ix2 n ⟨f.val, by omega⟩)) * y (ix2 n ⟨384 + f.val, by omega⟩) := by
  pointwise [gated, Ideal.logistic]

/-- The shared expert's output. -/
def sh (z : FVec Ideal S8192x384 .f32) (sd : FVec Ideal S384x2048 .f32) : FVec Ideal S8192x2048 .f32 :=
  Host.dotGeneral (F := Ideal) (φ₁ := .f32) (φ₂ := .f32) dot_S8192x384_S384x2048_S8192x2048_1_0_0_1_n_n none z sd

theorem sh_at (h : FVec Ideal S4x2048x2048 .f32) (gu : FVec Ideal S2048x768 .f32) (sd : FVec Ideal S384x2048 .f32) (n : Fin 8192) (d : Fin 2048) :
    sh (gated (first h gu)) sd (ix2 n d) = shared h gu sd n d := by
  unfold sh shared
  have hg : ∀ f : Fin 384, (gated (first h gu) (ix2 n f) : EReal) = act h gu n f := fun f => by
    rw [gated_at, first_at, first_at]
    rfl
  generalize gated (first h gu) = z at hg
  pointwise
  exact Finset.sum_congr rfl fun f _ => congrArg (fun q : EReal => q * sd (ix2 f d)) (hg f)

/-- One weighted row per token. -/
def pick (w : FVec Ideal S8192 .f32) (sl : IVec S8192 32) (ys : FVec Ideal S49152x2048 .f32) : FVec Ideal S8192x2048 .f32 :=
  mulf (broadcastInDim S8192x2048 ![0, 1] bcast_S8192x1_S8192x2048_0_1 (broadcastInDim S8192x1 ![0] bcast_S8192_S8192x1_0 w)) (Host.gather gather_S49152x2048_S8192x1_S8192x2048_1_0_n_n_0_1_12048 ys (broadcastInDim S8192x1 ![0] bcast_S8192_S8192x1_0 sl))

theorem pick_at (w : FVec Ideal S8192 .f32) (sl : IVec S8192 32) (ys : FVec Ideal S49152x2048 .f32) (n : Fin 8192) (d : Fin 2048) :
    (pick w sl ys (ix2 n d) : EReal) = (w (ix1 n) : EReal) * ys (ix2 (⟨min (sl (ix1 n)).toInt.toNat 49151, by omega⟩ : Fin 49152) d) := by
  have hg := gather_at ys (broadcastInDim S8192x1 ![0] bcast_S8192_S8192x1_0 sl) n d
  unfold pick
  generalize Host.gather gather_S49152x2048_S8192x1_S8192x2048_1_0_n_n_0_1_12048 ys (broadcastInDim S8192x1 ![0] bcast_S8192_S8192x1_0 sl) = z at hg
  have hb : broadcastInDim S8192x1 ![0] bcast_S8192_S8192x1_0 sl (ix2 n (0 : Fin 1)) = sl (ix1 n) := by pointwise
  have hi : (⟨min (broadcastInDim S8192x1 ![0] bcast_S8192_S8192x1_0 sl (ix2 n (0 : Fin 1))).toInt.toNat 49151, by omega⟩ : Fin 49152) = ⟨min (sl (ix1 n)).toInt.toNat 49151, by omega⟩ :=
    Fin.ext (congrArg (fun q : BitVec 32 => min q.toInt.toNat 49151) hb)
  rw [hi] at hg
  refine Eq.trans (b := (w (ix1 n) : EReal) * z (ix2 n d)) (by pointwise) ?_
  rw [hg]

/-- The norm and the gated residual over the sums `Y`. -/
def term (x : FVec Ideal S4x2048x2048 .f32) (g : FVec Ideal S4x1x2048 .f32) (nw : FVec Ideal S2048 .f32) (Z : FVec Ideal S8192x2048 .f32) : FVec Ideal S4x2048x2048 .f32 :=
  addf x (mulf (broadcastInDim S4x2048x2048 ![0, 1, 2] bcast_S4x1x2048_S4x2048x2048_0_1_2 g) (mulf (mulf (shapeCast _ Z shapeCasts_S8192x2048_S4x2048x2048) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (shapeCast _ Z shapeCasts_S8192x2048_S4x2048x2048) (shapeCast _ Z shapeCasts_S8192x2048_S4x2048x2048)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 nw))))

theorem term_at (x : FVec Ideal S4x2048x2048 .f32) (g : FVec Ideal S4x1x2048 .f32) (nw : FVec Ideal S2048 .f32) (Z : FVec Ideal S8192x2048 .f32)
    (b : Fin 4) (l e : Fin 2048) : (term x g nw Z (ix3 b l e) : EReal)
      = x (ix3 b l e) + g (ix3 b 0 e) * Cert.Row.rms (fun d => Z (ix2 (⟨b.val * 2048 + l.val, by omega⟩ : Fin 8192) d)) (nw (ix1 e)) e := by
  pointwise [term, Cert.Row.rms]

theorem part_of (s : IVec S32x8x256 32) (wt : FVec Ideal S8x8192 .f32) (ys : FVec Ideal S49152x2048 .f32)
    (hs : ∀ (a : Fin 32) (k : Fin 8) (t : Fin 256), k.val < 6 → (s (ix3 a k t)).toNat < 49152) (k : Fin 8) (hk : k.val < 6)
    (w : FVec Ideal S8192 .f32) (sl : IVec S8192 32) (n : Fin 8192) (d : Fin 2048) (hw : (w (ix1 n) : EReal) = wt (ix2 k n))
    (hsl : sl (ix1 n) = s (ix3 (⟨n.val / 256, by omega⟩ : Fin 32) k (⟨n.val % 256, Nat.mod_lt _ (by norm_num)⟩ : Fin 256))) :
    (pick w sl ys (ix2 n d) : EReal) = part s wt ys k n d := by
  rw [pick_at, hw]
  unfold part
  have h2 : (⟨min (sl (ix1 n)).toInt.toNat 49151, by omega⟩ : Fin 49152) = slot s k n := by
    refine Fin.ext ?_
    show min (sl (ix1 n)).toInt.toNat 49151 = min _ 49151
    rw [hsl, StableHlo.Predicate.toInt_eq_toNat_of_lt (by have := hs ⟨n.val / 256, by omega⟩ k ⟨n.val % 256, Nat.mod_lt _ (by norm_num)⟩ hk; omega)]
    rfl
  rw [h2]

/-- The sums before the norm. -/
def total (s : IVec S32x8x256 32) (wt : FVec Ideal S8x8192 .f32) (h : FVec Ideal S4x2048x2048 .f32) (ys : FVec Ideal S49152x2048 .f32)
    (gu : FVec Ideal S2048x768 .f32) (sd : FVec Ideal S384x2048 .f32) : FVec Ideal S8192x2048 .f32 :=
  addf (addf (addf (addf (addf (addf (sh (gated (first h gu)) sd) (pick (shapeCast _ (extractStridedSlice S1x8192 ![0, 0] wt slices_S8x8192_S1x8192_0_0) shapeCasts_S1x8192_S8192) (shapeCast _ (shapeCast _ (extractStridedSlice S32x1x256 ![0, 0, 0] s slices_S32x8x256_S32x1x256_0_0_0) shapeCasts_S32x1x256_S32x256) shapeCasts_S32x256_S8192) ys))  (pick (shapeCast _ (extractStridedSlice S1x8192 ![1, 0] wt slices_S8x8192_S1x8192_1_0) shapeCasts_S1x8192_S8192) (shapeCast _ (shapeCast _ (extractStridedSlice S32x1x256 ![0, 1, 0] s slices_S32x8x256_S32x1x256_0_1_0) shapeCasts_S32x1x256_S32x256) shapeCasts_S32x256_S8192) ys))  (pick (shapeCast _ (extractStridedSlice S1x8192 ![2, 0] wt slices_S8x8192_S1x8192_2_0) shapeCasts_S1x8192_S8192) (shapeCast _ (shapeCast _ (extractStridedSlice S32x1x256 ![0, 2, 0] s slices_S32x8x256_S32x1x256_0_2_0) shapeCasts_S32x1x256_S32x256) shapeCasts_S32x256_S8192) ys))  (pick (shapeCast _ (extractStridedSlice S1x8192 ![3, 0] wt slices_S8x8192_S1x8192_3_0) shapeCasts_S1x8192_S8192) (shapeCast _ (shapeCast _ (extractStridedSlice S32x1x256 ![0, 3, 0] s slices_S32x8x256_S32x1x256_0_3_0) shapeCasts_S32x1x256_S32x256) shapeCasts_S32x256_S8192) ys))  (pick (shapeCast _ (extractStridedSlice S1x8192 ![4, 0] wt slices_S8x8192_S1x8192_4_0) shapeCasts_S1x8192_S8192) (shapeCast _ (shapeCast _ (extractStridedSlice S32x1x256 ![0, 4, 0] s slices_S32x8x256_S32x1x256_0_4_0) shapeCasts_S32x1x256_S32x256) shapeCasts_S32x256_S8192) ys))  (pick (shapeCast _ (extractStridedSlice S1x8192 ![5, 0] wt slices_S8x8192_S1x8192_5_0) shapeCasts_S1x8192_S8192) (shapeCast _ (shapeCast _ (extractStridedSlice S32x1x256 ![0, 5, 0] s slices_S32x8x256_S32x1x256_0_5_0) shapeCasts_S32x1x256_S32x256) shapeCasts_S32x256_S8192) ys)

theorem total_at (s : IVec S32x8x256 32) (wt : FVec Ideal S8x8192 .f32) (h : FVec Ideal S4x2048x2048 .f32) (ys : FVec Ideal S49152x2048 .f32)
    (gu : FVec Ideal S2048x768 .f32) (sd : FVec Ideal S384x2048 .f32)
    (hs : ∀ (a : Fin 32) (k : Fin 8) (t : Fin 256), k.val < 6 → (s (ix3 a k t)).toNat < 49152) (n : Fin 8192) (d : Fin 2048) :
    (total s wt h ys gu sd (ix2 n d) : EReal) = mix s wt h ys gu sd n d := by
  unfold total mix
  have e : ∀ a b : FVec Ideal S8192x2048 .f32, (addf a b (ix2 n d) : EReal) = (a (ix2 n d) : EReal) + b (ix2 n d) := fun _ _ => rfl
  rw [e, e, e, e, e, e, sh_at,
    part_of s wt ys hs 0 (by decide) _ _ n d (by pointwise) (by pointwise),
    part_of s wt ys hs 1 (by decide) _ _ n d (by pointwise) (by pointwise),
    part_of s wt ys hs 2 (by decide) _ _ n d (by pointwise) (by pointwise),
    part_of s wt ys hs 3 (by decide) _ _ n d (by pointwise) (by pointwise),
    part_of s wt ys hs 4 (by decide) _ _ n d (by pointwise) (by pointwise),
    part_of s wt ys hs 5 (by decide) _ _ n d (by pointwise) (by pointwise)]

/-- The reference's array. -/
theorem term_eq (s : IVec S32x8x256 32) (wt : FVec Ideal S8x8192 .f32) (h x : FVec Ideal S4x2048x2048 .f32) (ys : FVec Ideal S49152x2048 .f32)
    (gu : FVec Ideal S2048x768 .f32) (sd : FVec Ideal S384x2048 .f32) (nw : FVec Ideal S2048 .f32) (g : FVec Ideal S4x1x2048 .f32)
    (hs : ∀ (a : Fin 32) (k : Fin 8) (t : Fin 256), k.val < 6 → (s (ix3 a k t)).toNat < 49152) :
    term x g nw (total s wt h ys gu sd) = result s wt h x ys gu sd nw g := by
  funext i
  rw [ValueIdx.eq_ix3 i]
  refine (term_at x g nw _ (i 0) (i 1) (i 2)).trans ?_
  simp only [total_at s wt h ys gu sd hs]
  rfl

theorem res_eq (m : (ℓ : Loc nD τ sig) → Buf (Elt Ideal) ℓ) (c : Dev nD) :
    Value.res_main_v83 m c = term (m ((c.tc : Thread nD τ).loc main_arg3)) (m ((c.tc : Thread nD τ).loc main_arg8)) (m ((c.tc : Thread nD τ).loc main_arg7))
      (total (m ((c.tc : Thread nD τ).loc main_arg0)) (m ((c.tc : Thread nD τ).loc main_arg1)) (m ((c.tc : Thread nD τ).loc main_arg2)) (m ((c.tc : Thread nD τ).loc main_arg4))
        (m ((c.tc : Thread nD τ).loc main_arg5)) (m ((c.tc : Thread nD τ).loc main_arg6))) := rfl

theorem frame : Cert.quiescent_Reference6Ideal := fun m ρ _ =>
  (θ_run (defs (F := Ideal)) _ _).mono (fun r h => ⟨fun c => (h c).2, sem_eq_zero_of_no_sems (by decide) r.2⟩)
    (Cert.Reference6Ideal.Value.run m ρ)

end Cert.Combine.Ref

end
-- ==== Proof.Combine.Value.lean ====
/-
  The combination: what the run leaves in the result, and that it is the reference's.
-/
module

public import proofs.«01_k».proof.Defs
public import proofs.«01_k».proof.Proof.Combine.Frame
public import proofs.«01_k».proof.Proof.Combine.Pay
public import proofs.«01_k».proof.Proof.Combine.Reference
public import proofs.«01_k».proof.Proof.Moe.Items
public import proofs.«01_k».proof.Proof.Gen.Pre_slots_ok
public import Idealize.ShloMosaic.Lib.Quiescent

@[expose] public section

noncomputable section

open Idealize.ShloMosaic Idealize.ShloMosaic.TcCoe Idealize.SL.Sem

namespace Cert.Combine

section
open Cert.Pre_slots_ok Cert.Pre_slots_ok.Facts
variable [Cert.Pre_slots_ok.Facts] {F : FTy → Type} [FloatOps F]

/-- The precondition gives the range of the slots. -/
theorem slots_of (s : IVec S32x8x256 32) (wt : FVec F S8x8192 .f32) (h x : FVec F S4x2048x2048 .f32) (ys : FVec F S49152x2048 .f32)
    (gu : FVec F S2048x768 .f32) (sd : FVec F S384x2048 .f32) (nw : FVec F S2048 .f32) (g : FVec F S4x1x2048 .f32)
    (hp : fn (F := F) s wt h x ys gu sd nw g = fun _ => 1#1) (a : Fin 32) (k : Fin 8) (t : Fin 256) (hk : k.val < 6) :
    (s (ix3 a k t)).toNat < 49152 := by
  have hh := congrFun hp (ix3 a (⟨k.val, hk⟩ : Fin 6) t)
  unfold fn at hh
  pointwise at hh
  simp only [Cert.Moe.andi_one] at hh
  exact Cert.Moe.word_lt (by norm_num) hh.1 hh.2

end

namespace Ker
open Cert.Kernel6Ideal Cert.Kernel6Ideal.Gen Cert.Kernel6Ideal.Combine

variable (m : (ℓ : Loc nD τ sig) → Buf (Elt Ideal) ℓ) (c : Dev nD)

/-- The launched arrays. -/
abbrev aS : (⟨3, ![32, 8, 256]⟩ : Shape).Idx → BitVec 32 := m ((c : Thread nD τ).loc main_arg0)
abbrev aT : (⟨2, ![8, 8192]⟩ : Shape).Idx → EReal := m ((c : Thread nD τ).loc main_arg1)
abbrev aH : (⟨3, ![4, 2048, 2048]⟩ : Shape).Idx → EReal := m ((c : Thread nD τ).loc main_arg2)
abbrev aX : (⟨3, ![4, 2048, 2048]⟩ : Shape).Idx → EReal := m ((c : Thread nD τ).loc main_arg3)
abbrev aY : (⟨2, ![49152, 2048]⟩ : Shape).Idx → EReal := m ((c : Thread nD τ).loc main_arg4)
abbrev aU : (⟨2, ![2048, 768]⟩ : Shape).Idx → EReal := m ((c : Thread nD τ).loc main_arg5)
abbrev aD : (⟨2, ![384, 2048]⟩ : Shape).Idx → EReal := m ((c : Thread nD τ).loc main_arg6)
abbrev aN : (⟨1, ![2048]⟩ : Shape).Idx → EReal := m ((c : Thread nD τ).loc main_arg7)
abbrev aG : (⟨3, ![4, 1, 2048]⟩ : Shape).Idx → EReal := m ((c : Thread nD τ).loc main_arg8)

theorem id1 : ∀ t : Fin cfg0.N, win0_1.index t = ![0, t.val] := by decide +kernel
theorem id2 : ∀ t : Fin cfg0.N, win0_2.index t = ![t.val / 8, t.val % 8, 0] := by decide +kernel
theorem id3 : ∀ t : Fin cfg0.N, win0_3.index t = ![t.val / 8, t.val % 8, 0] := by decide +kernel
theorem id4 : ∀ t : Fin cfg0.N, win0_4.index t = ![0, 0] := by decide +kernel
theorem id5 : ∀ t : Fin cfg0.N, win0_5.index t = ![0, 0] := by decide +kernel
theorem id6 : ∀ t : Fin cfg0.N, win0_6.index t = ![0, 0] := by decide +kernel
theorem id7 : ∀ t : Fin cfg0.N, win0_7.index t = ![t.val / 8, 0, 0] := by decide +kernel
theorem id8 : ∀ t : Fin cfg0.N, win0_8.index t = ![t.val / 8, t.val % 8, 0] := by decide +kernel

/-- The blocks of a point, read. -/
theorem blk_t (t : Fin cfg0.N) (k : Fin 8) (r : Fin 256) (n : Fin 8192) (hn : n.val = 256 * t.val + r.val) :
    iblk m c 1 t (ix2 k r) = aT m c (ix2 k n) := by
  blk_ext [iblk, V, id1 t]
theorem blk_h (t : Fin cfg0.N) (r : Fin 256) (j : Fin 2048) (b : Fin 4) (l : Fin 2048) (hb : b.val = t.val / 8)
    (hl : l.val = 256 * (t.val % 8) + r.val) : iblk m c 2 t (ix3 0 r j) = aH m c (ix3 b l j) := by
  blk_ext [iblk, V, id2 t]
theorem blk_x (t : Fin cfg0.N) (r : Fin 256) (j : Fin 2048) (b : Fin 4) (l : Fin 2048) (hb : b.val = t.val / 8)
    (hl : l.val = 256 * (t.val % 8) + r.val) : iblk m c 3 t (ix3 0 r j) = aX m c (ix3 b l j) := by
  blk_ext [iblk, V, id3 t]
theorem blk_u (t : Fin cfg0.N) (j : Fin 2048) (f : Fin 768) : iblk m c 4 t (ix2 j f) = aU m c (ix2 j f) := by
  blk_ext [iblk, V, id4 t]
theorem blk_d (t : Fin cfg0.N) (f : Fin 384) (d : Fin 2048) : iblk m c 5 t (ix2 f d) = aD m c (ix2 f d) := by
  blk_ext [iblk, V, id5 t]
theorem blk_n (t : Fin cfg0.N) (k : Fin 2048) : iblk m c 6 t (ix2 0 k) = aN m c (ix1 k) := by
  have h1 : iblk m c 6 t (ix2 0 k) = V m c main_v0 (ix2 0 k) := by blk_ext [iblk, id6 t]
  rw [h1]
  entry_read
  pointwise
theorem blk_g (t : Fin cfg0.N) (j : Fin 2048) (b : Fin 4) (hb : b.val = t.val / 8) : iblk m c 7 t (ix3 0 0 j) = aG m c (ix3 b 0 j) := by
  blk_ext [iblk, V, id7 t]

/-- What a point stores, of its blocks. -/
theorem outV_at (x0 : Vec Ideal S1x8x256 .i32) (x1 : Vec Ideal S8x256 .f32) (x2 x3 : Vec Ideal S1x256x2048 .f32) (ys : Vec Ideal S49152x2048 .f32)
    (x4 : Vec Ideal S2048x768 .f32) (x5 : Vec Ideal S384x2048 .f32) (x6 : Vec Ideal S1x2048 .f32) (x7 : Vec Ideal S1x1x2048 .f32) (r : Fin 256) (e : Fin 2048)
    (y : Fin 2048 → EReal)
    (hy : ∀ d, (∑ f : Fin 384, gu1 x2 x4 r ⟨f.val, by omega⟩ * Ideal.logistic (gu1 x2 x4 r ⟨f.val, by omega⟩) * gu1 x2 x4 r ⟨384 + f.val, by omega⟩ * x5 (ix2 f d))
        + (x1 (ix2 0 r) : EReal) * ys (ix2 (⟨min (x0 (ix3 0 0 r)).toNat 49151, by omega⟩ : Fin 49152) d)
        + (x1 (ix2 1 r) : EReal) * ys (ix2 (⟨min (x0 (ix3 0 1 r)).toNat 49151, by omega⟩ : Fin 49152) d)
        + (x1 (ix2 2 r) : EReal) * ys (ix2 (⟨min (x0 (ix3 0 2 r)).toNat 49151, by omega⟩ : Fin 49152) d)
        + (x1 (ix2 3 r) : EReal) * ys (ix2 (⟨min (x0 (ix3 0 3 r)).toNat 49151, by omega⟩ : Fin 49152) d)
        + (x1 (ix2 4 r) : EReal) * ys (ix2 (⟨min (x0 (ix3 0 4 r)).toNat 49151, by omega⟩ : Fin 49152) d)
        + (x1 (ix2 5 r) : EReal) * ys (ix2 (⟨min (x0 (ix3 0 5 r)).toNat 49151, by omega⟩ : Fin 49152) d) = y d) :
    (outV x0 x1 x2 x3 ys x4 x5 x6 x7 (ix3 0 r e) : EReal) = x3 (ix3 0 r e) + x7 (ix3 0 0 e) * Cert.Row.rms y (x6 (ix2 0 e)) e := by
  unfold outV
  refine (fin_at _ _ _ _ _ _ _ _ _ rfl x3 x7 x6 r e).trans ?_
  have hP : (fun d => (k0_pay6 (F := Ideal) (k0_pay2 x1) (k0_pay3 x2 x4 x5 x1 (place x0 ys 0 inb_S6x256x2048_S1x256x2048_0_0_0)) (k0_pay4 (place x0 ys 1 inb_S6x256x2048_S1x256x2048_1_0_0)) (k0_pay5 x1)
      (place x0 ys 2 inb_S6x256x2048_S1x256x2048_2_0_0) (place x0 ys 3 inb_S6x256x2048_S1x256x2048_3_0_0) (place x0 ys 4 inb_S6x256x2048_S1x256x2048_4_0_0) (place x0 ys 5 inb_S6x256x2048_S1x256x2048_5_0_0) (ix2 r d) : EReal)) = y := by
    funext d
    rw [pay6_at, pay3_at, pay5_at, pay4_at, place_at x0 ys 0 _ 0 rfl, place_at x0 ys 1 _ 1 rfl, place_at x0 ys 2 _ 2 rfl, place_at x0 ys 3 _ 3 rfl,
      place_at x0 ys 4 _ 4 rfl, place_at x0 ys 5 _ 5 rfl]
    have h2 := pay2_at x1 r 2
    have h3 := pay2_at x1 r 3
    have h4 := pay2_at x1 r 4
    have h5 := pay2_at x1 r 5
    rw [show (k0_pay2 (F := Ideal) x1 (ix2 r 2) : EReal) = x1 (ix2 2 r) from h2, show (k0_pay2 (F := Ideal) x1 (ix2 r 3) : EReal) = x1 (ix2 3 r) from h3,
      show (k0_pay2 (F := Ideal) x1 (ix2 r 4) : EReal) = x1 (ix2 4 r) from h4, show (k0_pay2 (F := Ideal) x1 (ix2 r 5) : EReal) = x1 (ix2 5 r) from h5]
    exact hy d
  exact congrArg (fun z : Fin 2048 → EReal => (x3 (ix3 0 r e) : EReal) + x7 (ix3 0 0 e) * Cert.Row.rms z (x6 (ix2 0 e)) e) hP

/-- The row of the table that a slot of the point names. -/
theorem slot_at (t : Fin cfg0.N) (r : Fin 256) (n : Fin 8192) (hn : n.val = 256 * t.val + r.val) (k : Fin 8) :
    (⟨min ((iblk m c 0 t : Vec Ideal S1x8x256 .i32) (ix3 0 k r)).toNat 49151, by omega⟩ : Fin 49152) = slot (aS m c) k n := by
  have ht := t_lt t
  have hr := r.isLt
  refine Fin.ext (congrArg (fun z : BitVec 32 => min z.toNat 49151) ((blk_s m c t k r).trans ?_))
  have h1 : (⟨t.val, t_lt t⟩ : Fin 32) = ⟨n.val / 256, by omega⟩ := Fin.ext (by show t.val = n.val / 256; omega)
  have h2 : r = ⟨n.val % 256, Nat.mod_lt _ (by norm_num)⟩ := Fin.ext (by show r.val = n.val % 256; omega)
  exact congrArg (aS m c) (congr (congrArg (fun q : Fin 32 => ix3 q k) h1) h2)

theorem gu_at (t : Fin cfg0.N) (r : Fin 256) (n : Fin 8192) (hn : n.val = 256 * t.val + r.val) (f : Fin 768) :
    gu1 (iblk m c 2 t) (iblk m c 4 t) r f = gateUp (aH m c) (aU m c) n f := by
  have ht := t_lt t
  have hr := r.isLt
  unfold gu1 gateUp
  exact Finset.sum_congr rfl fun j _ => congr (congrArg HMul.hMul (blk_h m c t r j ⟨n.val / 2048, by omega⟩ ⟨n.val % 2048, Nat.mod_lt _ (by norm_num)⟩
    (by show n.val / 2048 = t.val / 8; omega) (by show n.val % 2048 = _; omega))) (blk_u m c t j f)

/-- What point `t` stores. -/
theorem stored_at (t : Fin cfg0.N) (r : Fin 256) (e : Fin 2048) (b : Fin 4) (l : Fin 2048) (hb : b.val = t.val / 8)
    (hl : l.val = 256 * (t.val % 8) + r.val) :
    stored m c t (ix3 0 r e) = result (aS m c) (aT m c) (aH m c) (aX m c) (aY m c) (aU m c) (aD m c) (aN m c) (aG m c) (ix3 b l e) := by
  have ht := t_lt t
  have hr := r.isLt
  have hn : (⟨b.val * 2048 + l.val, by omega⟩ : Fin 8192).val = 256 * t.val + r.val := by show b.val * 2048 + l.val = _; omega
  unfold stored
  refine (outV_at _ _ _ _ _ _ _ _ _ r e (fun d => mix (aS m c) (aT m c) (aH m c) (aY m c) (aU m c) (aD m c) ⟨b.val * 2048 + l.val, by omega⟩ d) fun d => ?_).trans ?_
  · rw [V_main_arg4]
    unfold mix part
    rw [slot_at m c t r _ hn 0, slot_at m c t r _ hn 1, slot_at m c t r _ hn 2, slot_at m c t r _ hn 3, slot_at m c t r _ hn 4, slot_at m c t r _ hn 5,
      blk_t m c t 0 r _ hn, blk_t m c t 1 r _ hn, blk_t m c t 2 r _ hn, blk_t m c t 3 r _ hn, blk_t m c t 4 r _ hn, blk_t m c t 5 r _ hn]
    have hsum : (∑ f : Fin 384, gu1 (iblk m c 2 t) (iblk m c 4 t) r ⟨f.val, by omega⟩ * Ideal.logistic (gu1 (iblk m c 2 t) (iblk m c 4 t) r ⟨f.val, by omega⟩) * gu1 (iblk m c 2 t) (iblk m c 4 t) r ⟨384 + f.val, by omega⟩ * (iblk m c 5 t (ix2 f d) : EReal))
        = shared (aH m c) (aU m c) (aD m c) ⟨b.val * 2048 + l.val, by omega⟩ d := by
      unfold shared act
      refine Finset.sum_congr rfl fun f _ => ?_
      rw [gu_at m c t r _ hn, gu_at m c t r _ hn]
      exact congrArg _ (blk_d m c t f d)
    rw [hsum]
  · exact congr (congrArg HAdd.hAdd (blk_x m c t r e b l hb hl)) (congr (congrArg HMul.hMul (blk_g m c t e b hb))
      (congrFun (congrArg (Cert.Row.rms _) (blk_n m c t e)) e))

/-- The result array after the run. -/
theorem final_out : (dats m 0 c).arrAt 8 cfg0.N = result (aS m c) (aT m c) (aH m c) (aX m c) (aY m c) (aU m c) (aD m c) (aN m c) (aG m c) := by
  refine (dats m 0 c).arrAt_eq_of_covers 8 _ (by decide +kernel) fun t hf y => ?_
  have ht := t_lt t
  have h0 : ((((cfg0.win 8).blk t).view.emb y 0 : Fin _) : ℕ) = t.val / 8 := by blk_simp [id8 t]
  have h1 : ((((cfg0.win 8).blk t).view.emb y 1 : Fin _) : ℕ) = 256 * (t.val % 8) + (y 1).val := by blk_simp [id8 t]; omega
  have h2 : ((((cfg0.win 8).blk t).view.emb y 2 : Fin _) : ℕ) = (y 2).val := by blk_simp [id8 t]
  have key : stored m c t y
      = result (aS m c) (aT m c) (aH m c) (aX m c) (aY m c) (aU m c) (aD m c) (aN m c) (aG m c) (((cfg0.win 8).blk t).view.emb y) := by
    have hy : y = ix3 0 (y 1) (y 2) := by
      funext a
      match a with
      | ⟨0, _⟩ => exact Subsingleton.elim (α := Fin 1) _ _
      | ⟨1, _⟩ => rfl
      | ⟨2, _⟩ => rfl
    rw [hy]
    refine (stored_at m c t (y 1) (y 2) _ _ h0 h1).trans ?_
    rw [← hy]
    refine congrArg _ (funext fun a => ?_)
    match a with
    | ⟨0, _⟩ => rfl
    | ⟨1, _⟩ => rfl
    | ⟨2, _⟩ => exact Fin.ext h2.symm
  blk_simp
  rw [after8]
  exact key

/-- The precondition gives what the run needs. -/
theorem good (hp : Cert.Pre_Kernel6Ideal m) : Good m := fun c => slots_of _ _ _ _ _ _ _ _ _ (hp c)

theorem frame : Cert.quiescent_Kernel6Ideal := fun m ρ hp => frame_run m ρ (good m hp)

end Ker

/-- The kernel's precondition, at the machine's own numbers. -/
theorem kernel_frame : Cert.quiescent_Kernel6 := fun m ρ hp =>
  Cert.Kernel6.Combine.frame_run m ρ fun c => slots_of _ _ _ _ _ _ _ _ _ (hp c)

/-- The kernel and the reference end with the same array. -/
theorem algebraic : Cert.algebraic_Kernel6Ideal_Reference6Ideal := by
  intro m ρ m' ρ' hp hagree
  have hG := Ker.good m hp
  refine ⟨fun c => result (Ker.aS m c) (Ker.aT m c) (Ker.aH m c) (Ker.aX m c) (Ker.aY m c) (Ker.aU m c) (Ker.aD m c) (Ker.aN m c) (Ker.aG m c), ?_, ?_⟩
  · refine (θ_run (Cert.Kernel6Ideal.defs (F := Ideal)) _ _).mono (fun r h c => ?_) (Cert.Kernel6Ideal.Combine.run_main m ρ hG)
    exact ⟨((h.1 c).1 8).trans (Ker.final_out m c), Cert.Kernel6Ideal.Combine.args_of h.1 c⟩
  · refine (θ_run (Cert.Reference6Ideal.defs (F := Ideal)) _ _).mono (fun r h c => ?_) (Cert.Reference6Ideal.Value.run m' ρ')
    obtain ⟨a0, a1, a2, a3, a4, a5, a6, a7, a8⟩ := hagree c
    refine ⟨((h c).1.trans (Ref.res_eq m' c)).trans ?_, (h c).2⟩
    rw [a0, a1, a2, a3, a4, a5, a6, a7, a8]
    exact Ref.term_eq _ _ _ _ _ _ _ _ _ (hG c)

end Cert.Combine

end
-- ==== Proof.lean ====
/- The claim, one call after the other: `Kernel` is the gated linear attention, `Kernel2` the normed and modulated
   product behind the queries, keys and values, `Kernel3` the output projection with its norm and residual,
   `Kernel4` the product before the gated linear attention with its narrow second output,
   `Kernel5` the grouped expert matmul, `Kernel6` the combination of the experts' outputs. The value claims are proved
   in Proof/Gla, Proof/Qkv, Proof/Proj, Proof/Low, Proof/Moe and Proof/Combine. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4.Skeleton
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Reference4Ideal
public import proofs.«01_k».proof.Proof.Gen.Reference4Ideal.Run
public import proofs.«01_k».proof.Proof.Gla.Run
public import proofs.«01_k».proof.Proof.Qkv.Qkv
public import proofs.«01_k».proof.Proof.Proj.Proj
public import proofs.«01_k».proof.Proof.Low.Body
public import proofs.«01_k».proof.Proof.Low.Low
public import proofs.«01_k».proof.Proof.Moe.Frame
public import proofs.«01_k».proof.Proof.Moe.Value
public import proofs.«01_k».proof.Proof.Combine.Frame
public import proofs.«01_k».proof.Proof.Combine.Value
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Pre_slots_ok
public import proofs.«01_k».proof.Proof.Gen.Kernel5
public import proofs.«01_k».proof.Proof.Gen.Kernel5.Launch
public import proofs.«01_k».proof.Proof.Gen.Kernel5.Skeleton
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Pre_items_ok
public import Idealize.ShloMosaic.Adequacy
public import Idealize.ShloMosaic.Init

@[expose] public section

noncomputable section

namespace Cert.Proof

open Idealize.ShloMosaic Idealize.SL.Sem Cert.Kernel

/-- The grouped expert matmul's precondition, at the machine's own numbers. -/
theorem moe_frame : Cert.quiescent_Kernel5 := fun m ρ hp =>
  Cert.Kernel5.Moe.frame m ρ (Cert.Moe.items_of _ _ _ _ _ _ _ _ _ (hp 0))

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_items_ok.Gen.facts, Cert.Pre_slots_ok.Gen.facts,
    fun m ρ _ => Cert.Kernel.Gen.frame m ρ, fun m ρ _ => Cert.KernelIdeal.Gen.frame m ρ, Cert.Gla.Ref.frame,
    fun m ρ _ => Cert.Kernel2.Gen.frame m ρ, fun m ρ _ => Cert.Kernel2Ideal.Gen.frame m ρ, Cert.Qkv.Ref.frame,
    fun m ρ _ => Cert.Kernel3.Gen.frame m ρ, fun m ρ _ => Cert.Kernel3Ideal.Gen.frame m ρ, Cert.Proj.Ref.frame,
    fun m ρ _ => Cert.Kernel4.Low.frame m ρ, fun m ρ _ => Cert.Kernel4Ideal.Low.frame m ρ, Cert.Low.Ref.frame,
    moe_frame, Cert.Moe.Ker.frame, Cert.Moe.Ref.frame,
    Cert.Combine.kernel_frame, Cert.Combine.Ker.frame, Cert.Combine.Ref.frame,
    trivial, Cert.Gla.algebraic,
    trivial, Cert.Qkv.algebraic,
    trivial, Cert.Proj.algebraic,
    trivial, Cert.Low.algebraic,
    trivial, Cert.Moe.algebraic,
    trivial, Cert.Combine.algebraic⟩

end Cert.Proof

end
